-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Decode (m : (ℓ : Loc Cert.Decode.nD Cert.Decode.τ Cert.Decode.sig) → Buf (Elt Bits) ℓ) : Prop :=
  True

def Pre_DecodeIdeal (m : (ℓ : Loc Cert.DecodeIdeal.nD Cert.DecodeIdeal.τ Cert.DecodeIdeal.sig) → Buf (Elt Ideal) ℓ) : Prop :=
  True

def Pre_DecodeReferenceIdeal (m : (ℓ : Loc Cert.DecodeReferenceIdeal.nD Cert.DecodeReferenceIdeal.τ Cert.DecodeReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Decode [hDecode : Cert.Decode.Facts] : Prop :=
  ∀ (m : (ℓ : Loc Cert.Decode.nD Cert.Decode.τ Cert.Decode.sig) → Buf (Elt Bits) ℓ) (g : Dev Cert.Decode.nD → PrngReg), Pre_Decode m →
    θ_run (Cert.Decode.defs (F := Bits)) (onTc (τ := Cert.Decode.τ) (Cert.Decode.main (F := Bits))) ⟨m, fun _ => 0, g⟩ (fun r => (∀ c : Dev Cert.Decode.nD,
      r.2.mem ((c.tc : Thread Cert.Decode.nD Cert.Decode.τ).loc Cert.Decode.main_arg0) = m ((c.tc : Thread Cert.Decode.nD Cert.Decode.τ).loc Cert.Decode.main_arg0))
      ∧ r.2.sem = fun _ => 0)

def quiescent_DecodeIdeal [hDecodeIdeal : Cert.DecodeIdeal.Facts] : Prop :=
  ∀ (m : (ℓ : Loc Cert.DecodeIdeal.nD Cert.DecodeIdeal.τ Cert.DecodeIdeal.sig) → Buf (Elt Ideal) ℓ) (g : Dev Cert.DecodeIdeal.nD → PrngReg), Pre_DecodeIdeal m →
    θ_run (Cert.DecodeIdeal.defs (F := Ideal)) (onTc (τ := Cert.DecodeIdeal.τ) (Cert.DecodeIdeal.main (F := Ideal))) ⟨m, fun _ => 0, g⟩ (fun r => (∀ c : Dev Cert.DecodeIdeal.nD,
      r.2.mem ((c.tc : Thread Cert.DecodeIdeal.nD Cert.DecodeIdeal.τ).loc Cert.DecodeIdeal.main_arg0) = m ((c.tc : Thread Cert.DecodeIdeal.nD Cert.DecodeIdeal.τ).loc Cert.DecodeIdeal.main_arg0))
      ∧ r.2.sem = fun _ => 0)

def quiescent_DecodeReferenceIdeal [hDecodeReferenceIdeal : Cert.DecodeReferenceIdeal.Facts] : Prop :=
  ∀ (m : (ℓ : Loc Cert.DecodeReferenceIdeal.nD Cert.DecodeReferenceIdeal.τ Cert.DecodeReferenceIdeal.sig) → Buf (Elt Ideal) ℓ) (g : Dev Cert.DecodeReferenceIdeal.nD → PrngReg), Pre_DecodeReferenceIdeal m →
    θ_run (Cert.DecodeReferenceIdeal.defs (F := Ideal)) (onTc (τ := Cert.DecodeReferenceIdeal.τ) (Cert.DecodeReferenceIdeal.main (F := Ideal))) ⟨m, fun _ => 0, g⟩ (fun r => (∀ c : Dev Cert.DecodeReferenceIdeal.nD,
      r.2.mem ((c.tc : Thread Cert.DecodeReferenceIdeal.nD Cert.DecodeReferenceIdeal.τ).loc Cert.DecodeReferenceIdeal.main_arg0) = m ((c.tc : Thread Cert.DecodeReferenceIdeal.nD Cert.DecodeReferenceIdeal.τ).loc Cert.DecodeReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v14_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v14_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Decode_DecodeIdeal : Prop :=
  True

def algebraic_DecodeIdeal_DecodeReferenceIdeal [hDecodeIdeal : Cert.DecodeIdeal.Facts] [hDecodeReferenceIdeal : Cert.DecodeReferenceIdeal.Facts] : Prop :=
  ∀ (m : (ℓ : Loc Cert.DecodeIdeal.nD Cert.DecodeIdeal.τ Cert.DecodeIdeal.sig) → Buf (Elt Ideal) ℓ) (g : Dev Cert.DecodeIdeal.nD → PrngReg)
    (m' : (ℓ : Loc Cert.DecodeReferenceIdeal.nD Cert.DecodeReferenceIdeal.τ Cert.DecodeReferenceIdeal.sig) → Buf (Elt Ideal) ℓ) (g' : Dev Cert.DecodeReferenceIdeal.nD → PrngReg), Pre_DecodeIdeal m →
    (∀ c : Dev Cert.DecodeIdeal.nD,
      m' ((c.tc : Thread Cert.DecodeReferenceIdeal.nD Cert.DecodeReferenceIdeal.τ).loc Cert.DecodeReferenceIdeal.main_arg0) = m ((c.tc : Thread Cert.DecodeIdeal.nD Cert.DecodeIdeal.τ).loc Cert.DecodeIdeal.main_arg0)) →
    ∃ (v0 : (c : Dev Cert.DecodeIdeal.nD) → Buf (Elt Ideal) ((c.tc : Thread Cert.DecodeIdeal.nD Cert.DecodeIdeal.τ).loc Cert.DecodeIdeal.main_v0)),
      θ_run (Cert.DecodeIdeal.defs (F := Ideal)) (onTc (τ := Cert.DecodeIdeal.τ) (Cert.DecodeIdeal.main (F := Ideal))) ⟨m, fun _ => 0, g⟩ (fun r => ∀ c : Dev Cert.DecodeIdeal.nD,
          r.2.mem ((c.tc : Thread Cert.DecodeIdeal.nD Cert.DecodeIdeal.τ).loc Cert.DecodeIdeal.main_v0) = v0 c
          ∧ r.2.mem ((c.tc : Thread Cert.DecodeIdeal.nD Cert.DecodeIdeal.τ).loc Cert.DecodeIdeal.main_arg0) = m ((c.tc : Thread Cert.DecodeIdeal.nD Cert.DecodeIdeal.τ).loc Cert.DecodeIdeal.main_arg0))
      ∧ θ_run (Cert.DecodeReferenceIdeal.defs (F := Ideal)) (onTc (τ := Cert.DecodeReferenceIdeal.τ) (Cert.DecodeReferenceIdeal.main (F := Ideal))) ⟨m', fun _ => 0, g'⟩ (fun r => ∀ c : Dev Cert.DecodeReferenceIdeal.nD,
          r.2.mem ((c.tc : Thread Cert.DecodeReferenceIdeal.nD Cert.DecodeReferenceIdeal.τ).loc Cert.DecodeReferenceIdeal.main_v4) = v0 c
          ∧ r.2.mem ((c.tc : Thread Cert.DecodeReferenceIdeal.nD Cert.DecodeReferenceIdeal.τ).loc Cert.DecodeReferenceIdeal.main_arg0) = m' ((c.tc : Thread Cert.DecodeReferenceIdeal.nD Cert.DecodeReferenceIdeal.τ).loc Cert.DecodeReferenceIdeal.main_arg0))

def Claim : Prop :=
  ∃ (hKernel : Cert.Kernel.Facts) (hKernelIdeal : Cert.KernelIdeal.Facts) (hReferenceIdeal : Cert.ReferenceIdeal.Facts) (hDecode : Cert.Decode.Facts) (hDecodeIdeal : Cert.DecodeIdeal.Facts) (hDecodeReferenceIdeal : Cert.DecodeReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Decode (hDecode := hDecode)
    ∧ quiescent_DecodeIdeal (hDecodeIdeal := hDecodeIdeal)
    ∧ quiescent_DecodeReferenceIdeal (hDecodeReferenceIdeal := hDecodeReferenceIdeal)
    ∧ preserves_Kernel_KernelIdeal
    ∧ algebraic_KernelIdeal_ReferenceIdeal (hKernelIdeal := hKernelIdeal) (hReferenceIdeal := hReferenceIdeal)
    ∧ preserves_Decode_DecodeIdeal
    ∧ algebraic_DecodeIdeal_DecodeReferenceIdeal (hDecodeIdeal := hDecodeIdeal) (hDecodeReferenceIdeal := hDecodeReferenceIdeal)
-- ==== Kernel.lean ====
abbrev S2048x512 : Shape := ⟨2, ![2048, 512]⟩
abbrev S2048x2048 : Shape := ⟨2, ![2048, 2048]⟩
abbrev S256x2048 : Shape := ⟨2, ![256, 2048]⟩
abbrev S2048 : Shape := ⟨1, ![2048]⟩
abbrev S512x256 : Shape := ⟨2, ![512, 256]⟩
abbrev S256 : Shape := ⟨1, ![256]⟩
abbrev S2048x256 : Shape := ⟨2, ![2048, 256]⟩
abbrev S512x512 : Shape := ⟨2, ![512, 512]⟩
abbrev S1x256 : Shape := ⟨2, ![1, 256]⟩
abbrev S512x2048 : Shape := ⟨2, ![512, 2048]⟩
abbrev S_ : Shape := ⟨0, ![]⟩
abbrev S1 : Shape := ⟨1, ![1]⟩
abbrev S2 : Shape := ⟨1, ![2]⟩
abbrev S1x1 : Shape := ⟨2, ![1, 1]⟩
abbrev S1x2048 : Shape := ⟨2, ![1, 2048]⟩

abbrev nBuf : Space → Nat
  | .hbm => 292
  | .vmem => 31
  | .smem => 0
  | _ => 0

abbrev hbmTy0_0 (i : Nat) : BufTy := match i % 128 with
  | 0 => ⟨S2048x512, .f32⟩
  | 1 => ⟨S2048x2048, .f32⟩
  | 2 => ⟨S256x2048, .f32⟩
  | 3 => ⟨S2048, .f32⟩
  | 4 => ⟨S256x2048, .f32⟩
  | 5 => ⟨S2048, .f32⟩
  | 6 => ⟨S512x256, .f32⟩
  | 7 => ⟨S256, .f32⟩
  | 8 => ⟨S2048x256, .bf16⟩
  | 9 => ⟨S1x256, .f32⟩
  | 10 => ⟨S2048x2048, .bf16⟩
  | 11 => ⟨S2048x2048, .bf16⟩
  | 12 => ⟨S_, .i32⟩
  | 13 => ⟨S_, .i32⟩
  | 14 => ⟨S_, .i32⟩
  | 15 => ⟨S_, .i32⟩
  | 16 => ⟨S1, .i32⟩
  | 17 => ⟨S_, .i32⟩
  | 18 => ⟨S_, .i32⟩
  | 19 => ⟨S_, .i32⟩
  | 20 => ⟨S1, .i32⟩
  | 21 => ⟨S2, .i32⟩
  | 22 => ⟨S_, .f32⟩
  | 23 => ⟨S_, .f32⟩
  | 24 => ⟨S_, .f32⟩
  | 25 => ⟨S_, .f32⟩
  | 26 => ⟨S1x1, .f32⟩
  | 27 => ⟨S1x1, .f32⟩
  | 28 => ⟨S1, .i32⟩
  | 29 => ⟨S_, .i32⟩
  | 30 => ⟨S1, .i32⟩
  | 31 => ⟨S_, .i32⟩
  | 32 => ⟨S2048x2048, .i64⟩
  | 33 => ⟨S2048x2048, .i64⟩
  | 34 => ⟨S_, .i64⟩
  | 35 => ⟨S2048x2048, .i64⟩
  | 36 => ⟨S2048x2048, .i64⟩
  | 37 => ⟨S_, .i64⟩
  | 38 => ⟨S2048x2048, .i64⟩
  | 39 => ⟨S2048x2048, .i64⟩
  | 40 => ⟨S2048x2048, .i64⟩
  | 41 => ⟨S_, .i64⟩
  | 42 => ⟨S2048x2048, .i64⟩
  | 43 => ⟨S2048x2048, .i64⟩
  | 44 => ⟨S2048x2048, .i32⟩
  | 45 => ⟨S2048x2048, .i32⟩
  | 46 => ⟨S_, .i32⟩
  | 47 => ⟨S_, .i32⟩
  | 48 => ⟨S_, .i32⟩
  | 49 => ⟨S2048x2048, .i32⟩
  | 50 => ⟨S2048x2048, .i32⟩
  | 51 => ⟨S2048x2048, .i32⟩
  | 52 => ⟨S2048x2048, .i32⟩
  | 53 => ⟨S2048x2048, .i32⟩
  | 54 => ⟨S_, .i32⟩
  | 55 => ⟨S2048x2048, .i32⟩
  | 56 => ⟨S2048x2048, .i32⟩
  | 57 => ⟨S_, .i32⟩
  | 58 => ⟨S2048x2048, .i32⟩
  | 59 => ⟨S2048x2048, .i32⟩
  | 60 => ⟨S2048x2048, .i32⟩
  | 61 => ⟨S2048x2048, .i32⟩
  | 62 => ⟨S2048x2048, .i32⟩
  | 63 => ⟨S_, .i32⟩
  | 64 => ⟨S2048x2048, .i32⟩
  | 65 => ⟨S2048x2048, .i32⟩
  | 66 => ⟨S_, .i32⟩
  | 67 => ⟨S2048x2048, .i32⟩
  | 68 => ⟨S2048x2048, .i32⟩
  | 69 => ⟨S2048x2048, .i32⟩
  | 70 => ⟨S2048x2048, .i32⟩
  | 71 => ⟨S2048x2048, .i32⟩
  | 72 => ⟨S_, .i32⟩
  | 73 => ⟨S2048x2048, .i32⟩
  | 74 => ⟨S2048x2048, .i32⟩
  | 75 => ⟨S_, .i32⟩
  | 76 => ⟨S2048x2048, .i32⟩
  | 77 => ⟨S2048x2048, .i32⟩
  | 78 => ⟨S2048x2048, .i32⟩
  | 79 => ⟨S2048x2048, .i32⟩
  | 80 => ⟨S2048x2048, .i32⟩
  | 81 => ⟨S_, .i32⟩
  | 82 => ⟨S2048x2048, .i32⟩
  | 83 => ⟨S2048x2048, .i32⟩
  | 84 => ⟨S_, .i32⟩
  | 85 => ⟨S2048x2048, .i32⟩
  | 86 => ⟨S2048x2048, .i32⟩
  | 87 => ⟨S2048x2048, .i32⟩
  | 88 => ⟨S2048x2048, .i32⟩
  | 89 => ⟨S2048x2048, .i32⟩
  | 90 => ⟨S2048x2048, .i32⟩
  | 91 => ⟨S2048x2048, .i32⟩
  | 92 => ⟨S2048x2048, .i32⟩
  | 93 => ⟨S_, .i32⟩
  | 94 => ⟨S2048x2048, .i32⟩
  | 95 => ⟨S2048x2048, .i32⟩
  | 96 => ⟨S2048x2048, .i32⟩
  | 97 => ⟨S_, .i32⟩
  | 98 => ⟨S2048x2048, .i32⟩
  | 99 => ⟨S2048x2048, .i32⟩
  | 100 => ⟨S_, .i32⟩
  | 101 => ⟨S2048x2048, .i32⟩
  | 102 => ⟨S2048x2048, .i32⟩
  | 103 => ⟨S2048x2048, .i32⟩
  | 104 => ⟨S2048x2048, .i32⟩
  | 105 => ⟨S2048x2048, .i32⟩
  | 106 => ⟨S_, .i32⟩
  | 107 => ⟨S2048x2048, .i32⟩
  | 108 => ⟨S2048x2048, .i32⟩
  | 109 => ⟨S_, .i32⟩
  | 110 => ⟨S2048x2048, .i32⟩
  | 111 => ⟨S2048x2048, .i32⟩
  | 112 => ⟨S2048x2048, .i32⟩
  | 113 => ⟨S2048x2048, .i32⟩
  | 114 => ⟨S2048x2048, .i32⟩
  | 115 => ⟨S_, .i32⟩
  | 116 => ⟨S2048x2048, .i32⟩
  | 117 => ⟨S2048x2048, .i32⟩
  | 118 => ⟨S_, .i32⟩
  | 119 => ⟨S2048x2048, .i32⟩
  | 120 => ⟨S2048x2048, .i32⟩
  | 121 => ⟨S2048x2048, .i32⟩
  | 122 => ⟨S2048x2048, .i32⟩
  | 123 => ⟨S2048x2048, .i32⟩
  | 124 => ⟨S_, .i32⟩
  | 125 => ⟨S2048x2048, .i32⟩
  | 126 => ⟨S2048x2048, .i32⟩
  | 127 => ⟨S_, .i32⟩
  | _ => ⟨S2048x512, .f32⟩

abbrev hbmTy0_1 (i : Nat) : BufTy := match i % 128 with
  | 0 => ⟨S2048x2048, .i32⟩
  | 1 => ⟨S2048x2048, .i32⟩
  | 2 => ⟨S2048x2048, .i32⟩
  | 3 => ⟨S2048x2048, .i32⟩
  | 4 => ⟨S2048x2048, .i32⟩
  | 5 => ⟨S2048x2048, .i32⟩
  | 6 => ⟨S2048x2048, .i32⟩
  | 7 => ⟨S2048x2048, .i32⟩
  | 8 => ⟨S_, .i32⟩
  | 9 => ⟨S2048x2048, .i32⟩
  | 10 => ⟨S2048x2048, .i32⟩
  | 11 => ⟨S2048x2048, .i32⟩
  | 12 => ⟨S_, .i32⟩
  | 13 => ⟨S2048x2048, .i32⟩
  | 14 => ⟨S2048x2048, .i32⟩
  | 15 => ⟨S_, .i32⟩
  | 16 => ⟨S2048x2048, .i32⟩
  | 17 => ⟨S2048x2048, .i32⟩
  | 18 => ⟨S2048x2048, .i32⟩
  | 19 => ⟨S2048x2048, .i32⟩
  | 20 => ⟨S2048x2048, .i32⟩
  | 21 => ⟨S_, .i32⟩
  | 22 => ⟨S2048x2048, .i32⟩
  | 23 => ⟨S2048x2048, .i32⟩
  | 24 => ⟨S_, .i32⟩
  | 25 => ⟨S2048x2048, .i32⟩
  | 26 => ⟨S2048x2048, .i32⟩
  | 27 => ⟨S2048x2048, .i32⟩
  | 28 => ⟨S2048x2048, .i32⟩
  | 29 => ⟨S2048x2048, .i32⟩
  | 30 => ⟨S_, .i32⟩
  | 31 => ⟨S2048x2048, .i32⟩
  | 32 => ⟨S2048x2048, .i32⟩
  | 33 => ⟨S_, .i32⟩
  | 34 => ⟨S2048x2048, .i32⟩
  | 35 => ⟨S2048x2048, .i32⟩
  | 36 => ⟨S2048x2048, .i32⟩
  | 37 => ⟨S2048x2048, .i32⟩
  | 38 => ⟨S2048x2048, .i32⟩
  | 39 => ⟨S_, .i32⟩
  | 40 => ⟨S2048x2048, .i32⟩
  | 41 => ⟨S2048x2048, .i32⟩
  | 42 => ⟨S_, .i32⟩
  | 43 => ⟨S2048x2048, .i32⟩
  | 44 => ⟨S2048x2048, .i32⟩
  | 45 => ⟨S2048x2048, .i32⟩
  | 46 => ⟨S2048x2048, .i32⟩
  | 47 => ⟨S2048x2048, .i32⟩
  | 48 => ⟨S2048x2048, .i32⟩
  | 49 => ⟨S2048x2048, .i32⟩
  | 50 => ⟨S2048x2048, .i32⟩
  | 51 => ⟨S_, .i32⟩
  | 52 => ⟨S2048x2048, .i32⟩
  | 53 => ⟨S2048x2048, .i32⟩
  | 54 => ⟨S2048x2048, .i32⟩
  | 55 => ⟨S_, .i32⟩
  | 56 => ⟨S2048x2048, .i32⟩
  | 57 => ⟨S2048x2048, .i32⟩
  | 58 => ⟨S_, .i32⟩
  | 59 => ⟨S2048x2048, .i32⟩
  | 60 => ⟨S2048x2048, .i32⟩
  | 61 => ⟨S2048x2048, .i32⟩
  | 62 => ⟨S2048x2048, .i32⟩
  | 63 => ⟨S2048x2048, .i32⟩
  | 64 => ⟨S_, .i32⟩
  | 65 => ⟨S2048x2048, .i32⟩
  | 66 => ⟨S2048x2048, .i32⟩
  | 67 => ⟨S_, .i32⟩
  | 68 => ⟨S2048x2048, .i32⟩
  | 69 => ⟨S2048x2048, .i32⟩
  | 70 => ⟨S2048x2048, .i32⟩
  | 71 => ⟨S2048x2048, .i32⟩
  | 72 => ⟨S2048x2048, .i32⟩
  | 73 => ⟨S_, .i32⟩
  | 74 => ⟨S2048x2048, .i32⟩
  | 75 => ⟨S2048x2048, .i32⟩
  | 76 => ⟨S_, .i32⟩
  | 77 => ⟨S2048x2048, .i32⟩
  | 78 => ⟨S2048x2048, .i32⟩
  | 79 => ⟨S2048x2048, .i32⟩
  | 80 => ⟨S2048x2048, .i32⟩
  | 81 => ⟨S2048x2048, .i32⟩
  | 82 => ⟨S_, .i32⟩
  | 83 => ⟨S2048x2048, .i32⟩
  | 84 => ⟨S2048x2048, .i32⟩
  | 85 => ⟨S_, .i32⟩
  | 86 => ⟨S2048x2048, .i32⟩
  | 87 => ⟨S2048x2048, .i32⟩
  | 88 => ⟨S2048x2048, .i32⟩
  | 89 => ⟨S2048x2048, .i32⟩
  | 90 => ⟨S2048x2048, .i32⟩
  | 91 => ⟨S2048x2048, .i32⟩
  | 92 => ⟨S2048x2048, .i32⟩
  | 93 => ⟨S2048x2048, .i32⟩
  | 94 => ⟨S_, .i32⟩
  | 95 => ⟨S2048x2048, .i32⟩
  | 96 => ⟨S2048x2048, .i32⟩
  | 97 => ⟨S2048x2048, .i32⟩
  | 98 => ⟨S_, .i32⟩
  | 99 => ⟨S2048x2048, .i32⟩
  | 100 => ⟨S2048x2048, .i32⟩
  | 101 => ⟨S_, .i32⟩
  | 102 => ⟨S2048x2048, .i32⟩
  | 103 => ⟨S2048x2048, .i32⟩
  | 104 => ⟨S2048x2048, .i32⟩
  | 105 => ⟨S2048x2048, .i32⟩
  | 106 => ⟨S2048x2048, .i32⟩
  | 107 => ⟨S_, .i32⟩
  | 108 => ⟨S2048x2048, .i32⟩
  | 109 => ⟨S2048x2048, .i32⟩
  | 110 => ⟨S_, .i32⟩
  | 111 => ⟨S2048x2048, .i32⟩
  | 112 => ⟨S2048x2048, .i32⟩
  | 113 => ⟨S2048x2048, .i32⟩
  | 114 => ⟨S2048x2048, .i32⟩
  | 115 => ⟨S2048x2048, .i32⟩
  | 116 => ⟨S_, .i32⟩
  | 117 => ⟨S2048x2048, .i32⟩
  | 118 => ⟨S2048x2048, .i32⟩
  | 119 => ⟨S_, .i32⟩
  | 120 => ⟨S2048x2048, .i32⟩
  | 121 => ⟨S2048x2048, .i32⟩
  | 122 => ⟨S2048x2048, .i32⟩
  | 123 => ⟨S2048x2048, .i32⟩
  | 124 => ⟨S2048x2048, .i32⟩
  | 125 => ⟨S_, .i32⟩
  | 126 => ⟨S2048x2048, .i32⟩
  | 127 => ⟨S2048x2048, .i32⟩
  | _ => ⟨S2048x512, .f32⟩

abbrev hbmTy0_2 (i : Nat) : BufTy := match i % 128 with
  | 0 => ⟨S_, .i32⟩
  | 1 => ⟨S2048x2048, .i32⟩
  | 2 => ⟨S2048x2048, .i32⟩
  | 3 => ⟨S2048x2048, .i32⟩
  | 4 => ⟨S2048x2048, .i32⟩
  | 5 => ⟨S2048x2048, .i32⟩
  | 6 => ⟨S2048x2048, .i32⟩
  | 7 => ⟨S2048x2048, .i32⟩
  | 8 => ⟨S2048x2048, .i32⟩
  | 9 => ⟨S_, .i32⟩
  | 10 => ⟨S2048x2048, .i32⟩
  | 11 => ⟨S2048x2048, .i32⟩
  | 12 => ⟨S2048x2048, .i32⟩
  | 13 => ⟨S_, .i32⟩
  | 14 => ⟨S2048x2048, .i32⟩
  | 15 => ⟨S2048x2048, .i32⟩
  | 16 => ⟨S_, .i32⟩
  | 17 => ⟨S2048x2048, .i32⟩
  | 18 => ⟨S2048x2048, .i32⟩
  | 19 => ⟨S2048x2048, .f32⟩
  | 20 => ⟨S_, .f32⟩
  | 21 => ⟨S2048x2048, .f32⟩
  | 22 => ⟨S2048x2048, .f32⟩
  | 23 => ⟨S1x1, .f32⟩
  | 24 => ⟨S2048x2048, .f32⟩
  | 25 => ⟨S2048x2048, .f32⟩
  | 26 => ⟨S2048x2048, .f32⟩
  | 27 => ⟨S2048x2048, .f32⟩
  | 28 => ⟨S2048x2048, .f32⟩
  | 29 => ⟨S2048x2048, .f32⟩
  | 30 => ⟨S2048x2048, .bf16⟩
  | 31 => ⟨S1x2048, .f32⟩
  | 32 => ⟨S1x2048, .f32⟩
  | 33 => ⟨S2048x2048, .f32⟩
  | 34 => ⟨S2048x2048, .f32⟩
  | 35 => ⟨S2048x2048, .bf16⟩
  | _ => ⟨S2048x512, .f32⟩

abbrev hbmTy (i : Nat) : BufTy := match i / 128 with
  | 0 => hbmTy0_0 i
  | 1 => hbmTy0_1 i
  | 2 => hbmTy0_2 i
  | _ => ⟨S2048x512, .f32⟩

abbrev bufTy : (tb : Table) → Fin (tcTables nBuf tb) → BufTy
  | .hbm, ⟨i, _⟩ => hbmTy i
  | .local _ .vmem, ⟨0, _⟩ => ⟨S512x512, .f32⟩
  | .local _ .vmem, ⟨1, _⟩ => ⟨S512x512, .f32⟩
  | .local _ .vmem, ⟨2, _⟩ => ⟨S512x256, .f32⟩
  | .local _ .vmem, ⟨3, _⟩ => ⟨S512x256, .bf16⟩
  | .local _ .vmem, ⟨4, _⟩ => ⟨S512x256, .bf16⟩
  | .local _ .vmem, ⟨5, _⟩ => ⟨S512x2048, .f32⟩
  | .local _ .vmem, ⟨6, _⟩ => ⟨S512x2048, .f32⟩
  | .local _ .vmem, ⟨7, _⟩ => ⟨S2048x256, .bf16⟩
  | .local _ .vmem, ⟨8, _⟩ => ⟨S1x256, .f32⟩
  | .local _ .vmem, ⟨9, _⟩ => ⟨S256x2048, .f32⟩
  | .local _ .vmem, ⟨10, _⟩ => ⟨S256x2048, .f32⟩
  | .local _ .vmem, ⟨11, _⟩ => ⟨S512x2048, .bf16⟩
  | .local _ .vmem, ⟨12, _⟩ => ⟨S512x2048, .bf16⟩
  | .local _ .vmem, ⟨13, _⟩ => ⟨S512x2048, .bf16⟩
  | .local _ .vmem, ⟨14, _⟩ => ⟨S512x2048, .bf16⟩
  | .local _ .vmem, ⟨15, _⟩ => ⟨S512x2048, .f32⟩
  | .local _ .vmem, ⟨16, _⟩ => ⟨S512x2048, .f32⟩
  | .local _ .vmem, ⟨17, _⟩ => ⟨S2048x2048, .bf16⟩
  | .local _ .vmem, ⟨18, _⟩ => ⟨S2048x2048, .bf16⟩
  | .local _ .vmem, ⟨19, _⟩ => ⟨S1x2048, .f32⟩
  | .local _ .vmem, ⟨20, _⟩ => ⟨S1x2048, .f32⟩
  | .local _ .vmem, ⟨21, _⟩ => ⟨S256x2048, .bf16⟩
  | .local _ .vmem, ⟨22, _⟩ => ⟨S256x2048, .bf16⟩
  | .local _ .vmem, ⟨23, _⟩ => ⟨S256x2048, .f32⟩
  | .local _ .vmem, ⟨24, _⟩ => ⟨S256x2048, .f32⟩
  | .local _ .vmem, ⟨25, _⟩ => ⟨S256x2048, .f32⟩
  | .local _ .vmem, ⟨26, _⟩ => ⟨S256x2048, .f32⟩
  | .local _ .vmem, ⟨27, _⟩ => ⟨S256x2048, .bf16⟩
  | .local _ .vmem, ⟨28, _⟩ => ⟨S256x2048, .bf16⟩
  | .local _ .vmem, ⟨29, _⟩ => ⟨S2048x2048, .bf16⟩
  | .local _ .vmem, ⟨30, _⟩ => ⟨S2048x2048, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_c : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_c : Ref sig .tc := ⟨.hbm, 34, rfl⟩
abbrev main_call0_v10 : Ref sig .tc := ⟨.hbm, 35, rfl⟩
abbrev main_call0_v11 : Ref sig .tc := ⟨.hbm, 36, rfl⟩
abbrev main_call0_c_0 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_call0_c_1 : Ref sig .tc := ⟨.hbm, 41, rfl⟩
abbrev main_call0_v15 : Ref sig .tc := ⟨.hbm, 42, rfl⟩
abbrev main_call0_v16 : Ref sig .tc := ⟨.hbm, 43, rfl⟩
abbrev main_call0_v17 : Ref sig .tc := ⟨.hbm, 44, rfl⟩
abbrev main_call0_v18 : Ref sig .tc := ⟨.hbm, 45, rfl⟩
abbrev main_call0_call0_v0 : Ref sig .tc := ⟨.hbm, 46, rfl⟩
abbrev main_call0_call0_c : Ref sig .tc := ⟨.hbm, 47, rfl⟩
abbrev main_call0_call0_v1 : Ref sig .tc := ⟨.hbm, 48, rfl⟩
abbrev main_call0_call0_v2 : Ref sig .tc := ⟨.hbm, 49, rfl⟩
abbrev main_call0_call0_v3 : Ref sig .tc := ⟨.hbm, 50, rfl⟩
abbrev main_call0_call0_v4 : Ref sig .tc := ⟨.hbm, 51, rfl⟩
abbrev main_call0_call0_v5 : Ref sig .tc := ⟨.hbm, 52, rfl⟩
abbrev main_call0_call0_v6 : Ref sig .tc := ⟨.hbm, 53, rfl⟩
abbrev main_call0_call0_c_0 : Ref sig .tc := ⟨.hbm, 54, rfl⟩
abbrev main_call0_call0_v7 : Ref sig .tc := ⟨.hbm, 55, rfl⟩
abbrev main_call0_call0_v8 : Ref sig .tc := ⟨.hbm, 56, rfl⟩
abbrev main_call0_call0_c_1 : Ref sig .tc := ⟨.hbm, 57, rfl⟩
abbrev main_call0_call0_v9 : Ref sig .tc := ⟨.hbm, 58, rfl⟩
abbrev main_call0_call0_v10 : Ref sig .tc := ⟨.hbm, 59, rfl⟩
abbrev main_call0_call0_v11 : Ref sig .tc := ⟨.hbm, 60, rfl⟩
abbrev main_call0_call0_v12 : Ref sig .tc := ⟨.hbm, 61, rfl⟩
abbrev main_call0_call0_v13 : Ref sig .tc := ⟨.hbm, 62, rfl⟩
abbrev main_call0_call0_c_2 : Ref sig .tc := ⟨.hbm, 63, rfl⟩
abbrev main_call0_call0_v14 : Ref sig .tc := ⟨.hbm, 64, rfl⟩
abbrev main_call0_call0_v15 : Ref sig .tc := ⟨.hbm, 65, rfl⟩
abbrev main_call0_call0_c_3 : Ref sig .tc := ⟨.hbm, 66, rfl⟩
abbrev main_call0_call0_v16 : Ref sig .tc := ⟨.hbm, 67, rfl⟩
abbrev main_call0_call0_v17 : Ref sig .tc := ⟨.hbm, 68, rfl⟩
abbrev main_call0_call0_v18 : Ref sig .tc := ⟨.hbm, 69, rfl⟩
abbrev main_call0_call0_v19 : Ref sig .tc := ⟨.hbm, 70, rfl⟩
abbrev main_call0_call0_v20 : Ref sig .tc := ⟨.hbm, 71, rfl⟩
abbrev main_call0_call0_c_4 : Ref sig .tc := ⟨.hbm, 72, rfl⟩
abbrev main_call0_call0_v21 : Ref sig .tc := ⟨.hbm, 73, rfl⟩
abbrev main_call0_call0_v22 : Ref sig .tc := ⟨.hbm, 74, rfl⟩
abbrev main_call0_call0_c_5 : Ref sig .tc := ⟨.hbm, 75, rfl⟩
abbrev main_call0_call0_v23 : Ref sig .tc := ⟨.hbm, 76, rfl⟩
abbrev main_call0_call0_v24 : Ref sig .tc := ⟨.hbm, 77, rfl⟩
abbrev main_call0_call0_v25 : Ref sig .tc := ⟨.hbm, 78, rfl⟩
abbrev main_call0_call0_v26 : Ref sig .tc := ⟨.hbm, 79, rfl⟩
abbrev main_call0_call0_v27 : Ref sig .tc := ⟨.hbm, 80, rfl⟩
abbrev main_call0_call0_c_6 : Ref sig .tc := ⟨.hbm, 81, rfl⟩
abbrev main_call0_call0_v28 : Ref sig .tc := ⟨.hbm, 82, rfl⟩
abbrev main_call0_call0_v29 : Ref sig .tc := ⟨.hbm, 83, rfl⟩
abbrev main_call0_call0_c_7 : Ref sig .tc := ⟨.hbm, 84, rfl⟩
abbrev main_call0_call0_v30 : Ref sig .tc := ⟨.hbm, 85, rfl⟩
abbrev main_call0_call0_v31 : Ref sig .tc := ⟨.hbm, 86, rfl⟩
abbrev main_call0_call0_v32 : Ref sig .tc := ⟨.hbm, 87, rfl⟩
abbrev main_call0_call0_v33 : Ref sig .tc := ⟨.hbm, 88, rfl⟩
abbrev main_call0_call0_v34 : Ref sig .tc := ⟨.hbm, 89, rfl⟩
abbrev main_call0_call0_v35 : Ref sig .tc := ⟨.hbm, 90, rfl⟩
abbrev main_call0_call0_v36 : Ref sig .tc := ⟨.hbm, 91, rfl⟩
abbrev main_call0_call0_v37 : Ref sig .tc := ⟨.hbm, 92, rfl⟩
abbrev main_call0_call0_c_8 : Ref sig .tc := ⟨.hbm, 93, rfl⟩
abbrev main_call0_call0_v38 : Ref sig .tc := ⟨.hbm, 94, rfl⟩
abbrev main_call0_call0_v39 : Ref sig .tc := ⟨.hbm, 95, rfl⟩
abbrev main_call0_call0_v40 : Ref sig .tc := ⟨.hbm, 96, rfl⟩
abbrev main_call0_call0_c_9 : Ref sig .tc := ⟨.hbm, 97, rfl⟩
abbrev main_call0_call0_v41 : Ref sig .tc := ⟨.hbm, 98, rfl⟩
abbrev main_call0_call0_v42 : Ref sig .tc := ⟨.hbm, 99, rfl⟩
abbrev main_call0_call0_c_10 : Ref sig .tc := ⟨.hbm, 100, rfl⟩
abbrev main_call0_call0_v43 : Ref sig .tc := ⟨.hbm, 101, rfl⟩
abbrev main_call0_call0_v44 : Ref sig .tc := ⟨.hbm, 102, rfl⟩
abbrev main_call0_call0_v45 : Ref sig .tc := ⟨.hbm, 103, rfl⟩
abbrev main_call0_call0_v46 : Ref sig .tc := ⟨.hbm, 104, rfl⟩
abbrev main_call0_call0_v47 : Ref sig .tc := ⟨.hbm, 105, rfl⟩
abbrev main_call0_call0_c_11 : Ref sig .tc := ⟨.hbm, 106, rfl⟩
abbrev main_call0_call0_v48 : Ref sig .tc := ⟨.hbm, 107, rfl⟩
abbrev main_call0_call0_v49 : Ref sig .tc := ⟨.hbm, 108, rfl⟩
abbrev main_call0_call0_c_12 : Ref sig .tc := ⟨.hbm, 109, rfl⟩
abbrev main_call0_call0_v50 : Ref sig .tc := ⟨.hbm, 110, rfl⟩
abbrev main_call0_call0_v51 : Ref sig .tc := ⟨.hbm, 111, rfl⟩
abbrev main_call0_call0_v52 : Ref sig .tc := ⟨.hbm, 112, rfl⟩
abbrev main_call0_call0_v53 : Ref sig .tc := ⟨.hbm, 113, rfl⟩
abbrev main_call0_call0_v54 : Ref sig .tc := ⟨.hbm, 114, rfl⟩
abbrev main_call0_call0_c_13 : Ref sig .tc := ⟨.hbm, 115, rfl⟩
abbrev main_call0_call0_v55 : Ref sig .tc := ⟨.hbm, 116, rfl⟩
abbrev main_call0_call0_v56 : Ref sig .tc := ⟨.hbm, 117, rfl⟩
abbrev main_call0_call0_c_14 : Ref sig .tc := ⟨.hbm, 118, rfl⟩
abbrev main_call0_call0_v57 : Ref sig .tc := ⟨.hbm, 119, rfl⟩
abbrev main_call0_call0_v58 : Ref sig .tc := ⟨.hbm, 120, rfl⟩
abbrev main_call0_call0_v59 : Ref sig .tc := ⟨.hbm, 121, rfl⟩
abbrev main_call0_call0_v60 : Ref sig .tc := ⟨.hbm, 122, rfl⟩
abbrev main_call0_call0_v61 : Ref sig .tc := ⟨.hbm, 123, rfl⟩
abbrev main_call0_call0_c_15 : Ref sig .tc := ⟨.hbm, 124, rfl⟩
abbrev main_call0_call0_v62 : Ref sig .tc := ⟨.hbm, 125, rfl⟩
abbrev main_call0_call0_v63 : Ref sig .tc := ⟨.hbm, 126, rfl⟩
abbrev main_call0_call0_c_16 : Ref sig .tc := ⟨.hbm, 127, rfl⟩
abbrev main_call0_call0_v64 : Ref sig .tc := ⟨.hbm, 128, rfl⟩
abbrev main_call0_call0_v65 : Ref sig .tc := ⟨.hbm, 129, rfl⟩
abbrev main_call0_call0_v66 : Ref sig .tc := ⟨.hbm, 130, rfl⟩
abbrev main_call0_call0_v67 : Ref sig .tc := ⟨.hbm, 131, rfl⟩
abbrev main_call0_call0_v68 : Ref sig .tc := ⟨.hbm, 132, rfl⟩
abbrev main_call0_call0_v69 : Ref sig .tc := ⟨.hbm, 133, rfl⟩
abbrev main_call0_call0_v70 : Ref sig .tc := ⟨.hbm, 134, rfl⟩
abbrev main_call0_call0_v71 : Ref sig .tc := ⟨.hbm, 135, rfl⟩
abbrev main_call0_call0_c_17 : Ref sig .tc := ⟨.hbm, 136, rfl⟩
abbrev main_call0_call0_v72 : Ref sig .tc := ⟨.hbm, 137, rfl⟩
abbrev main_call0_call0_v73 : Ref sig .tc := ⟨.hbm, 138, rfl⟩
abbrev main_call0_call0_v74 : Ref sig .tc := ⟨.hbm, 139, rfl⟩
abbrev main_call0_call0_c_18 : Ref sig .tc := ⟨.hbm, 140, rfl⟩
abbrev main_call0_call0_v75 : Ref sig .tc := ⟨.hbm, 141, rfl⟩
abbrev main_call0_call0_v76 : Ref sig .tc := ⟨.hbm, 142, rfl⟩
abbrev main_call0_call0_c_19 : Ref sig .tc := ⟨.hbm, 143, rfl⟩
abbrev main_call0_call0_v77 : Ref sig .tc := ⟨.hbm, 144, rfl⟩
abbrev main_call0_call0_v78 : Ref sig .tc := ⟨.hbm, 145, rfl⟩
abbrev main_call0_call0_v79 : Ref sig .tc := ⟨.hbm, 146, rfl⟩
abbrev main_call0_call0_v80 : Ref sig .tc := ⟨.hbm, 147, rfl⟩
abbrev main_call0_call0_v81 : Ref sig .tc := ⟨.hbm, 148, rfl⟩
abbrev main_call0_call0_c_20 : Ref sig .tc := ⟨.hbm, 149, rfl⟩
abbrev main_call0_call0_v82 : Ref sig .tc := ⟨.hbm, 150, rfl⟩
abbrev main_call0_call0_v83 : Ref sig .tc := ⟨.hbm, 151, rfl⟩
abbrev main_call0_call0_c_21 : Ref sig .tc := ⟨.hbm, 152, rfl⟩
abbrev main_call0_call0_v84 : Ref sig .tc := ⟨.hbm, 153, rfl⟩
abbrev main_call0_call0_v85 : Ref sig .tc := ⟨.hbm, 154, rfl⟩
abbrev main_call0_call0_v86 : Ref sig .tc := ⟨.hbm, 155, rfl⟩
abbrev main_call0_call0_v87 : Ref sig .tc := ⟨.hbm, 156, rfl⟩
abbrev main_call0_call0_v88 : Ref sig .tc := ⟨.hbm, 157, rfl⟩
abbrev main_call0_call0_c_22 : Ref sig .tc := ⟨.hbm, 158, rfl⟩
abbrev main_call0_call0_v89 : Ref sig .tc := ⟨.hbm, 159, rfl⟩
abbrev main_call0_call0_v90 : Ref sig .tc := ⟨.hbm, 160, rfl⟩
abbrev main_call0_call0_c_23 : Ref sig .tc := ⟨.hbm, 161, rfl⟩
abbrev main_call0_call0_v91 : Ref sig .tc := ⟨.hbm, 162, rfl⟩
abbrev main_call0_call0_v92 : Ref sig .tc := ⟨.hbm, 163, rfl⟩
abbrev main_call0_call0_v93 : Ref sig .tc := ⟨.hbm, 164, rfl⟩
abbrev main_call0_call0_v94 : Ref sig .tc := ⟨.hbm, 165, rfl⟩
abbrev main_call0_call0_v95 : Ref sig .tc := ⟨.hbm, 166, rfl⟩
abbrev main_call0_call0_c_24 : Ref sig .tc := ⟨.hbm, 167, rfl⟩
abbrev main_call0_call0_v96 : Ref sig .tc := ⟨.hbm, 168, rfl⟩
abbrev main_call0_call0_v97 : Ref sig .tc := ⟨.hbm, 169, rfl⟩
abbrev main_call0_call0_c_25 : Ref sig .tc := ⟨.hbm, 170, rfl⟩
abbrev main_call0_call0_v98 : Ref sig .tc := ⟨.hbm, 171, rfl⟩
abbrev main_call0_call0_v99 : Ref sig .tc := ⟨.hbm, 172, rfl⟩
abbrev main_call0_call0_v100 : Ref sig .tc := ⟨.hbm, 173, rfl⟩
abbrev main_call0_call0_v101 : Ref sig .tc := ⟨.hbm, 174, rfl⟩
abbrev main_call0_call0_v102 : Ref sig .tc := ⟨.hbm, 175, rfl⟩
abbrev main_call0_call0_v103 : Ref sig .tc := ⟨.hbm, 176, rfl⟩
abbrev main_call0_call0_v104 : Ref sig .tc := ⟨.hbm, 177, rfl⟩
abbrev main_call0_call0_v105 : Ref sig .tc := ⟨.hbm, 178, rfl⟩
abbrev main_call0_call0_c_26 : Ref sig .tc := ⟨.hbm, 179, rfl⟩
abbrev main_call0_call0_v106 : Ref sig .tc := ⟨.hbm, 180, rfl⟩
abbrev main_call0_call0_v107 : Ref sig .tc := ⟨.hbm, 181, rfl⟩
abbrev main_call0_call0_v108 : Ref sig .tc := ⟨.hbm, 182, rfl⟩
abbrev main_call0_call0_c_27 : Ref sig .tc := ⟨.hbm, 183, rfl⟩
abbrev main_call0_call0_v109 : Ref sig .tc := ⟨.hbm, 184, rfl⟩
abbrev main_call0_call0_v110 : Ref sig .tc := ⟨.hbm, 185, rfl⟩
abbrev main_call0_call0_c_28 : Ref sig .tc := ⟨.hbm, 186, rfl⟩
abbrev main_call0_call0_v111 : Ref sig .tc := ⟨.hbm, 187, rfl⟩
abbrev main_call0_call0_v112 : Ref sig .tc := ⟨.hbm, 188, rfl⟩
abbrev main_call0_call0_v113 : Ref sig .tc := ⟨.hbm, 189, rfl⟩
abbrev main_call0_call0_v114 : Ref sig .tc := ⟨.hbm, 190, rfl⟩
abbrev main_call0_call0_v115 : Ref sig .tc := ⟨.hbm, 191, rfl⟩
abbrev main_call0_call0_c_29 : Ref sig .tc := ⟨.hbm, 192, rfl⟩
abbrev main_call0_call0_v116 : Ref sig .tc := ⟨.hbm, 193, rfl⟩
abbrev main_call0_call0_v117 : Ref sig .tc := ⟨.hbm, 194, rfl⟩
abbrev main_call0_call0_c_30 : Ref sig .tc := ⟨.hbm, 195, rfl⟩
abbrev main_call0_call0_v118 : Ref sig .tc := ⟨.hbm, 196, rfl⟩
abbrev main_call0_call0_v119 : Ref sig .tc := ⟨.hbm, 197, rfl⟩
abbrev main_call0_call0_v120 : Ref sig .tc := ⟨.hbm, 198, rfl⟩
abbrev main_call0_call0_v121 : Ref sig .tc := ⟨.hbm, 199, rfl⟩
abbrev main_call0_call0_v122 : Ref sig .tc := ⟨.hbm, 200, rfl⟩
abbrev main_call0_call0_c_31 : Ref sig .tc := ⟨.hbm, 201, rfl⟩
abbrev main_call0_call0_v123 : Ref sig .tc := ⟨.hbm, 202, rfl⟩
abbrev main_call0_call0_v124 : Ref sig .tc := ⟨.hbm, 203, rfl⟩
abbrev main_call0_call0_c_32 : Ref sig .tc := ⟨.hbm, 204, rfl⟩
abbrev main_call0_call0_v125 : Ref sig .tc := ⟨.hbm, 205, rfl⟩
abbrev main_call0_call0_v126 : Ref sig .tc := ⟨.hbm, 206, rfl⟩
abbrev main_call0_call0_v127 : Ref sig .tc := ⟨.hbm, 207, rfl⟩
abbrev main_call0_call0_v128 : Ref sig .tc := ⟨.hbm, 208, rfl⟩
abbrev main_call0_call0_v129 : Ref sig .tc := ⟨.hbm, 209, rfl⟩
abbrev main_call0_call0_c_33 : Ref sig .tc := ⟨.hbm, 210, rfl⟩
abbrev main_call0_call0_v130 : Ref sig .tc := ⟨.hbm, 211, rfl⟩
abbrev main_call0_call0_v131 : Ref sig .tc := ⟨.hbm, 212, rfl⟩
abbrev main_call0_call0_c_34 : Ref sig .tc := ⟨.hbm, 213, rfl⟩
abbrev main_call0_call0_v132 : Ref sig .tc := ⟨.hbm, 214, rfl⟩
abbrev main_call0_call0_v133 : Ref sig .tc := ⟨.hbm, 215, rfl⟩
abbrev main_call0_call0_v134 : Ref sig .tc := ⟨.hbm, 216, rfl⟩
abbrev main_call0_call0_v135 : Ref sig .tc := ⟨.hbm, 217, rfl⟩
abbrev main_call0_call0_v136 : Ref sig .tc := ⟨.hbm, 218, rfl⟩
abbrev main_call0_call0_v137 : Ref sig .tc := ⟨.hbm, 219, rfl⟩
abbrev main_call0_call0_v138 : Ref sig .tc := ⟨.hbm, 220, rfl⟩
abbrev main_call0_call0_v139 : Ref sig .tc := ⟨.hbm, 221, rfl⟩
abbrev main_call0_call0_c_35 : Ref sig .tc := ⟨.hbm, 222, rfl⟩
abbrev main_call0_call0_v140 : Ref sig .tc := ⟨.hbm, 223, rfl⟩
abbrev main_call0_call0_v141 : Ref sig .tc := ⟨.hbm, 224, rfl⟩
abbrev main_call0_call0_v142 : Ref sig .tc := ⟨.hbm, 225, rfl⟩
abbrev main_call0_call0_c_36 : Ref sig .tc := ⟨.hbm, 226, rfl⟩
abbrev main_call0_call0_v143 : Ref sig .tc := ⟨.hbm, 227, rfl⟩
abbrev main_call0_call0_v144 : Ref sig .tc := ⟨.hbm, 228, rfl⟩
abbrev main_call0_call0_c_37 : Ref sig .tc := ⟨.hbm, 229, rfl⟩
abbrev main_call0_call0_v145 : Ref sig .tc := ⟨.hbm, 230, rfl⟩
abbrev main_call0_call0_v146 : Ref sig .tc := ⟨.hbm, 231, rfl⟩
abbrev main_call0_call0_v147 : Ref sig .tc := ⟨.hbm, 232, rfl⟩
abbrev main_call0_call0_v148 : Ref sig .tc := ⟨.hbm, 233, rfl⟩
abbrev main_call0_call0_v149 : Ref sig .tc := ⟨.hbm, 234, rfl⟩
abbrev main_call0_call0_c_38 : Ref sig .tc := ⟨.hbm, 235, rfl⟩
abbrev main_call0_call0_v150 : Ref sig .tc := ⟨.hbm, 236, rfl⟩
abbrev main_call0_call0_v151 : Ref sig .tc := ⟨.hbm, 237, rfl⟩
abbrev main_call0_call0_c_39 : Ref sig .tc := ⟨.hbm, 238, rfl⟩
abbrev main_call0_call0_v152 : Ref sig .tc := ⟨.hbm, 239, rfl⟩
abbrev main_call0_call0_v153 : Ref sig .tc := ⟨.hbm, 240, rfl⟩
abbrev main_call0_call0_v154 : Ref sig .tc := ⟨.hbm, 241, rfl⟩
abbrev main_call0_call0_v155 : Ref sig .tc := ⟨.hbm, 242, rfl⟩
abbrev main_call0_call0_v156 : Ref sig .tc := ⟨.hbm, 243, rfl⟩
abbrev main_call0_call0_c_40 : Ref sig .tc := ⟨.hbm, 244, rfl⟩
abbrev main_call0_call0_v157 : Ref sig .tc := ⟨.hbm, 245, rfl⟩
abbrev main_call0_call0_v158 : Ref sig .tc := ⟨.hbm, 246, rfl⟩
abbrev main_call0_call0_c_41 : Ref sig .tc := ⟨.hbm, 247, rfl⟩
abbrev main_call0_call0_v159 : Ref sig .tc := ⟨.hbm, 248, rfl⟩
abbrev main_call0_call0_v160 : Ref sig .tc := ⟨.hbm, 249, rfl⟩
abbrev main_call0_call0_v161 : Ref sig .tc := ⟨.hbm, 250, rfl⟩
abbrev main_call0_call0_v162 : Ref sig .tc := ⟨.hbm, 251, rfl⟩
abbrev main_call0_call0_v163 : Ref sig .tc := ⟨.hbm, 252, rfl⟩
abbrev main_call0_call0_c_42 : Ref sig .tc := ⟨.hbm, 253, rfl⟩
abbrev main_call0_call0_v164 : Ref sig .tc := ⟨.hbm, 254, rfl⟩
abbrev main_call0_call0_v165 : Ref sig .tc := ⟨.hbm, 255, rfl⟩
abbrev main_call0_call0_c_43 : Ref sig .tc := ⟨.hbm, 256, rfl⟩
abbrev main_call0_call0_v166 : Ref sig .tc := ⟨.hbm, 257, rfl⟩
abbrev main_call0_call0_v167 : Ref sig .tc := ⟨.hbm, 258, rfl⟩
abbrev main_call0_call0_v168 : Ref sig .tc := ⟨.hbm, 259, rfl⟩
abbrev main_call0_call0_v169 : Ref sig .tc := ⟨.hbm, 260, rfl⟩
abbrev main_call0_call0_v170 : Ref sig .tc := ⟨.hbm, 261, rfl⟩
abbrev main_call0_v19_0 : Ref sig .tc := ⟨.hbm, 262, rfl⟩
abbrev main_call0_call0_v172 : Ref sig .tc := ⟨.hbm, 263, rfl⟩
abbrev main_call0_call0_v173 : Ref sig .tc := ⟨.hbm, 264, rfl⟩
abbrev main_call0_call0_c_44 : Ref sig .tc := ⟨.hbm, 265, rfl⟩
abbrev main_call0_call0_v174 : Ref sig .tc := ⟨.hbm, 266, rfl⟩
abbrev main_call0_v19_1 : Ref sig .tc := ⟨.hbm, 267, rfl⟩
abbrev main_call0_v20 : Ref sig .tc := ⟨.hbm, 268, rfl⟩
abbrev main_call0_c_2 : Ref sig .tc := ⟨.hbm, 269, rfl⟩
abbrev main_call0_v21 : Ref sig .tc := ⟨.hbm, 270, rfl⟩
abbrev main_call0_v22 : Ref sig .tc := ⟨.hbm, 271, rfl⟩
abbrev main_call0_c_3 : Ref sig .tc := ⟨.hbm, 272, rfl⟩
abbrev main_call0_v23 : Ref sig .tc := ⟨.hbm, 273, rfl⟩
abbrev main_call0_v24 : Ref sig .tc := ⟨.hbm, 274, rfl⟩
abbrev main_call0_v25 : Ref sig .tc := ⟨.hbm, 275, rfl⟩
abbrev main_call0_cst : Ref sig .tc := ⟨.hbm, 276, rfl⟩
abbrev main_call0_v26 : Ref sig .tc := ⟨.hbm, 277, rfl⟩
abbrev main_call0_v27 : Ref sig .tc := ⟨.hbm, 278, rfl⟩
abbrev main_call0_v28 : Ref sig .tc := ⟨.hbm, 279, rfl⟩
abbrev main_call0_v29 : Ref sig .tc := ⟨.hbm, 280, rfl⟩
abbrev main_call0_v30 : Ref sig .tc := ⟨.hbm, 281, rfl⟩
abbrev main_call0_v31 : Ref sig .tc := ⟨.hbm, 282, rfl⟩
abbrev main_call0_v32 : Ref sig .tc := ⟨.hbm, 283, rfl⟩
abbrev main_call0_v33 : Ref sig .tc := ⟨.hbm, 284, rfl⟩
abbrev main_v10 : Ref sig .tc := ⟨.hbm, 285, rfl⟩
abbrev main_v11 : Ref sig .tc := ⟨.hbm, 286, rfl⟩
abbrev main_v12 : Ref sig .tc := ⟨.hbm, 287, rfl⟩
abbrev main_v13 : Ref sig .tc := ⟨.hbm, 288, rfl⟩
abbrev main_v14_0 : Ref sig .tc := ⟨.hbm, 289, rfl⟩
abbrev main_v14_1 : Ref sig .tc := ⟨.hbm, 290, rfl⟩
abbrev main_v14_2 : Ref sig .tc := ⟨.hbm, 291, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc1_stg6_0 : Ref sig .tc := ⟨.vmem, 13, rfl⟩
abbrev cc1_stg6_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg5_1 : Ref sig .tc := ⟨.vmem, 22, rfl⟩
abbrev cc2_stg6_0 : Ref sig .tc := ⟨.vmem, 23, rfl⟩
abbrev cc2_stg6_1 : Ref sig .tc := ⟨.vmem, 24, rfl⟩
abbrev cc2_stg7_0 : Ref sig .tc := ⟨.vmem, 25, rfl⟩
abbrev cc2_stg7_1 : Ref sig .tc := ⟨.vmem, 26, rfl⟩
abbrev cc2_stg8_0 : Ref sig .tc := ⟨.vmem, 27, rfl⟩
abbrev cc2_stg8_1 : Ref sig .tc := ⟨.vmem, 28, rfl⟩
abbrev cc2_scratch0 : Ref sig .tc := ⟨.vmem, 29, rfl⟩
abbrev cc2_scratch1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem5_1 : DmaSem sig := 12
abbrev cc1_sem6_0 : DmaSem sig := 13
abbrev cc1_sem6_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem5_1 : DmaSem sig := 22
abbrev cc2_sem6_0 : DmaSem sig := 23
abbrev cc2_sem6_1 : DmaSem sig := 24
abbrev cc2_sem7_0 : DmaSem sig := 25
abbrev cc2_sem7_1 : DmaSem sig := 26
abbrev cc2_sem8_0 : DmaSem sig := 27
abbrev cc2_sem8_1 : DmaSem sig := 28

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x2048 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x2048 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x2048 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![12], ![false]⟩

def k2_cond1 (i : grid2.Coords) : BitVec 1 :=
  let arg0 : BitVec 32 := BitVec.ofNat 32 (i 0).val
  let c4_i32 : BitVec 32 := 4#32
  let v0 : BitVec 1 := Scalar.cmpi .slt arg0 c4_i32
  let v1 : BitVec 32 := Scalar.extui v0
  let c0_i32 : BitVec 32 := 0#32
  let v2 : BitVec 1 := Scalar.cmpi .ne v1 c0_i32
  v2

def k2_off1 (i : grid2.Coords) : Fin 2 → Nat :=
  let arg0 : BitVec 32 := BitVec.ofNat 32 (i 0).val
  let c512_i32 : BitVec 32 := 512#32
  let v23 : BitVec 32 := Scalar.muli arg0 c512_i32
  let v24 : Index := Scalar.indexCast v23
  let c0_12 : Index := 0#32
  ![v24.toNat, 0]
def k2_cond2 (i : grid2.Coords) : BitVec 1 :=
  let arg0 : BitVec 32 := BitVec.ofNat 32 (i 0).val
  let c4_i32_0 : BitVec 32 := 4#32
  let v3 : BitVec 1 := Scalar.cmpi .sge arg0 c4_i32_0
  let v4 : BitVec 32 := Scalar.extui v3
  let c0_i32_1 : BitVec 32 := 0#32
  let v5 : BitVec 1 := Scalar.cmpi .ne v4 c0_i32_1
  v5

def k2_off2 (i : grid2.Coords) : Fin 2 → Nat :=
  let arg0 : BitVec 32 := BitVec.ofNat 32 (i 0).val
  let c4_i32_2 : BitVec 32 := 4#32
  let v6 : BitVec 32 := Scalar.subi arg0 c4_i32_2
  let c256_i32 : BitVec 32 := 256#32
  let v7 : BitVec 32 := Scalar.muli v6 c256_i32
  let v8 : Index := Scalar.indexCast v7
  let c0 : Index := 0#32
  ![v8.toNat, 0]
def cc2_transform_0 (i : grid2.Coords) : Fin 2 → Nat :=
  let arg0 : BitVec 32 := BitVec.ofNat 32 (i 0).val
  let c4_i32 : BitVec 32 := 4#32
  let v0 : BitVec 1 := Scalar.cmpi .slt arg0 c4_i32
  let c3_i32 : BitVec 32 := 3#32
  let v1 : BitVec 32 := Scalar.minsi arg0 c3_i32
  let c3_i32_0 : BitVec 32 := 3#32
  let v2 : BitVec 32 := Scalar.select v0 v1 c3_i32_0
  let c0_i32 : BitVec 32 := 0#32
  let c0_i32_1 : BitVec 32 := 0#32
  ![v2.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  let c0_i32_1 : BitVec 32 := 0#32
  ![v2.toNat, c0_i32_0.toNat]

def cc2_transform_6 (i : grid2.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  let c0_i32_1 : BitVec 32 := 0#32
  ![v2.toNat, c0_i32_0.toNat]

def cc2_transform_7 (i : grid2.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  let c0_i32_1 : BitVec 32 := 0#32
  ![v2.toNat, c0_i32_0.toNat]

def cc2_transform_8 (i : grid2.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  let c0_i32_1 : BitVec 32 := 0#32
  ![v2.toNat, c0_i32_0.toNat]

abbrev stage2_0 : Fin 2 → Memref sig .tc .vmem S512x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2048x2048 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S2048x2048 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x2048 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x2048 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S256x2048 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S256x2048 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S256x2048 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S256x2048 .bf16 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]
-- ==== ReferenceIdeal.lean ====
abbrev S2048x512 : Shape := ⟨2, ![2048, 512]⟩
abbrev S2048x2048 : Shape := ⟨2, ![2048, 2048]⟩
abbrev S256x2048 : Shape := ⟨2, ![256, 2048]⟩
abbrev S2048 : Shape := ⟨1, ![2048]⟩
abbrev S512x256 : Shape := ⟨2, ![512, 256]⟩
abbrev S256 : Shape := ⟨1, ![256]⟩
abbrev S2048x256 : Shape := ⟨2, ![2048, 256]⟩
abbrev S1x256 : Shape := ⟨2, ![1, 256]⟩
abbrev S_ : Shape := ⟨0, ![]⟩
abbrev S1x2048 : Shape := ⟨2, ![1, 2048]⟩

abbrev nBuf : Space → Nat
  | .hbm => 28
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x2048, .f32⟩
  | .hbm, ⟨2, _⟩ => ⟨S256x2048, .f32⟩
  | .hbm, ⟨3, _⟩ => ⟨S2048, .f32⟩
  | .hbm, ⟨4, _⟩ => ⟨S256x2048, .f32⟩
  | .hbm, ⟨5, _⟩ => ⟨S2048, .f32⟩
  | .hbm, ⟨6, _⟩ => ⟨S512x256, .f32⟩
  | .hbm, ⟨7, _⟩ => ⟨S256, .f32⟩
  | .hbm, ⟨8, _⟩ => ⟨S2048x256, .f32⟩
  | .hbm, ⟨9, _⟩ => ⟨S2048x256, .f32⟩
  | .hbm, ⟨10, _⟩ => ⟨S1x256, .f32⟩
  | .hbm, ⟨11, _⟩ => ⟨S2048x256, .f32⟩
  | .hbm, ⟨12, _⟩ => ⟨S2048x256, .f32⟩
  | .hbm, ⟨13, _⟩ => ⟨S_, .f32⟩
  | .hbm, ⟨14, _⟩ => ⟨S2048x256, .f32⟩
  | .hbm, ⟨15, _⟩ => ⟨S2048x256, .f32⟩
  | .hbm, ⟨16, _⟩ => ⟨S2048x2048, .f32⟩
  | .hbm, ⟨17, _⟩ => ⟨S2048x2048, .f32⟩
  | .hbm, ⟨18, _⟩ => ⟨S1x2048, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S1x2048, .f32⟩
  | .hbm, ⟨25, _⟩ => ⟨S2048x2048, .f32⟩
  | .hbm, ⟨26, _⟩ => ⟨S2048x2048, .f32⟩
  | .hbm, ⟨27, _⟩ => ⟨S2048x2048, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]
-- ==== Decode.lean ====
abbrev S2048x2048 : Shape := ⟨2, ![2048, 2048]⟩
abbrev S10 : Shape := ⟨1, ![10]⟩
abbrev S512x2048 : Shape := ⟨2, ![512, 2048]⟩
abbrev S1 : Shape := ⟨1, ![1]⟩
abbrev S512x512 : Shape := ⟨2, ![512, 512]⟩
abbrev S_ : Shape := ⟨0, ![]⟩

abbrev nBuf : Space → Nat
  | .hbm => 2
  | .vmem => 9
  | .smem => 2
  | _ => 0

abbrev bufTy : (tb : Table) → Fin (tcTables nBuf tb) → BufTy
  | .hbm, ⟨0, _⟩ => ⟨S2048x2048, .bf16⟩
  | .hbm, ⟨1, _⟩ => ⟨S2048x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S2048x2048, .bf16⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .smem, ⟨0, _⟩ => ⟨S10, .i32⟩
  | .local _ .smem, ⟨1, _⟩ => ⟨S10, .i32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![20], ![false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let c10_i32_0 : BitVec 32 := 10#32
  let c0_i32 : BitVec 32 := 0#32
  let v1 : BitVec 1 := Scalar.cmpi .eq c10_i32_0 c0_i32
  let c1_i32 : BitVec 32 := 1#32
  let v2 : BitVec 32 := Scalar.select v1 c1_i32 c10_i32_0
  let v3 : BitVec 32 := Scalar.remsi arg0 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v11 : Index := Scalar.indexCast v10
  ![v11.toNat]
def k0_cond1 (i : grid0.Coords) : BitVec 1 :=
  let arg0 : BitVec 32 := BitVec.ofNat 32 (i 0).val
  let c10_i32_3 : BitVec 32 := 10#32
  let v14 : BitVec 1 := Scalar.cmpi .slt arg0 c10_i32_3
  let v15 : BitVec 32 := Scalar.extui v14
  let c0_i32_4 : BitVec 32 := 0#32
  let v16 : BitVec 1 := Scalar.cmpi .ne v15 c0_i32_4
  v16

def k0_off2 (v11 : BitVec 32) (v13 : BitVec 32) : Fin 2 → Nat :=
  let c512_i32 : BitVec 32 := 512#32
  let v24 : BitVec 32 := Scalar.muli v11 c512_i32
  let v26 : Index := Scalar.indexCast v24
  let c512_i32_10 : BitVec 32 := 512#32
  let v25 : BitVec 32 := Scalar.muli v13 c512_i32_10
  let v27 : Index := Scalar.indexCast v25
  ![v26.toNat, v27.toNat]

def k0_off3 (v11 : BitVec 32) (v13 : BitVec 32) : Fin 2 → Nat :=
  let c512_i32_12 : BitVec 32 := 512#32
  let v35 : BitVec 32 := Scalar.muli v13 c512_i32_12
  let v37 : Index := Scalar.indexCast v35
  let c512_i32_13 : BitVec 32 := 512#32
  let v36 : BitVec 32 := Scalar.muli v11 c512_i32_13
  let v38 : Index := Scalar.indexCast v36
  ![v37.toNat, v38.toNat]
def k0_cond2 (v11 : BitVec 32) (v13 : BitVec 32) : BitVec 1 :=
  let v31 : BitVec 1 := Scalar.cmpi .ne v11 v13
  let v32 : BitVec 32 := Scalar.extui v31
  let c0_i32_11 : BitVec 32 := 0#32
  let v33 : BitVec 1 := Scalar.cmpi .ne v32 c0_i32_11
  v33

def k0_cond3 (i : grid0.Coords) : BitVec 1 :=
  let arg0 : BitVec 32 := BitVec.ofNat 32 (i 0).val
  let c10_i32_5 : BitVec 32 := 10#32
  let v17 : BitVec 1 := Scalar.cmpi .sge arg0 c10_i32_5
  let v18 : BitVec 32 := Scalar.extui v17
  let c0_i32_6 : BitVec 32 := 0#32
  let v19 : BitVec 1 := Scalar.cmpi .ne v18 c0_i32_6
  v19

def k0_off4 (v11 : BitVec 32) : Fin 2 → Nat :=
  let c512_i32 : BitVec 32 := 512#32
  let v20 : BitVec 32 := Scalar.muli v11 c512_i32
  let v21 : Index := Scalar.indexCast v20
  let c0 : Index := 0#32
  ![v21.toNat, 0]

def k0_chk2 (i : grid0.Coords) (v11 : BitVec 32) : Prop :=
  (∀ (k0_h3 : k0_cond3 i = 1#1), ∀ a, (k0_off4 v11) a + S512x2048.size a ≤ S2048x2048.size a)
theorem k0_off4_inb : ∀ (i : grid0.Coords) (v11 : BitVec 32) (k0_hw2 : k0_chk2 i v11), ∀ (k0_h3 : k0_cond3 i = 1#1), ∀ a, (k0_off4 v11) a + S512x2048.size a ≤ S2048x2048.size a := fun i v11 k0_hw2 k0_h3 => k0_hw2 k0_h3

def k0_off5 (v13 : BitVec 32) : Fin 2 → Nat :=
  let c512_i32_7 : BitVec 32 := 512#32
  let v23 : BitVec 32 := Scalar.muli v13 c512_i32_7
  let v24 : Index := Scalar.indexCast v23
  let c0_8 : Index := 0#32
  ![v24.toNat, 0]

def k0_chk1 (i : grid0.Coords) (v11 : BitVec 32) (v13 : BitVec 32) : Prop :=
  (∀ (k0_h1 : k0_cond1 i = 1#1), ∀ a, (k0_off2 v11 v13) a + S512x512.size a ≤ S2048x2048.size a) ∧
  (∀ (k0_h1 : k0_cond1 i = 1#1), ∀ (hinb : ∀ a, (k0_off2 v11 v13) a + S512x512.size a ≤ S2048x2048.size a), (Rect.unit (s := S2048x2048) (k0_off2 v11 v13) S512x512.size hinb).PackedRows (EltTy.packing .bf16)) ∧
  (∀ (k0_h1 : k0_cond1 i = 1#1), ∀ (k0_h2 : k0_cond2 v11 v13 = 1#1), ∀ a, (k0_off3 v11 v13) a + S512x512.size a ≤ S2048x2048.size a) ∧
  (∀ (k0_h1 : k0_cond1 i = 1#1), ∀ (k0_h2 : k0_cond2 v11 v13 = 1#1), ∀ (hinb : ∀ a, (k0_off3 v11 v13) a + S512x512.size a ≤ S2048x2048.size a), (Rect.unit (s := S2048x2048) (k0_off3 v11 v13) S512x512.size hinb).PackedRows (EltTy.packing .bf16)) ∧
  (∀ (k0_h3 : k0_cond3 i = 1#1), ∀ a, (k0_off5 v13) a + S512x2048.size a ≤ S2048x2048.size a)
theorem k0_off2_inb : ∀ (i : grid0.Coords) (v11 : BitVec 32) (v13 : BitVec 32) (k0_hw1 : k0_chk1 i v11 v13), ∀ (k0_h1 : k0_cond1 i = 1#1), ∀ a, (k0_off2 v11 v13) a + S512x512.size a ≤ S2048x2048.size a := fun i v11 v13 k0_hw1 k0_h1 => k0_hw1.1 k0_h1
theorem k0_off2_packedbf16 : ∀ (i : grid0.Coords) (v11 : BitVec 32) (v13 : BitVec 32) (k0_hw1 : k0_chk1 i v11 v13), ∀ (k0_h1 : k0_cond1 i = 1#1), (Rect.unit (s := S2048x2048) (k0_off2 v11 v13) S512x512.size (k0_off2_inb i v11 v13 k0_hw1 k0_h1)).PackedRows (EltTy.packing .bf16) := fun i v11 v13 k0_hw1 k0_h1 => k0_hw1.2.1 k0_h1 (k0_off2_inb i v11 v13 k0_hw1 k0_h1)
theorem k0_off3_inb : ∀ (i : grid0.Coords) (v11 : BitVec 32) (v13 : BitVec 32) (k0_hw1 : k0_chk1 i v11 v13), ∀ (k0_h1 : k0_cond1 i = 1#1), ∀ (k0_h2 : k0_cond2 v11 v13 = 1#1), ∀ a, (k0_off3 v11 v13) a + S512x512.size a ≤ S2048x2048.size a := fun i v11 v13 k0_hw1 k0_h1 k0_h2 => k0_hw1.2.2.1 k0_h1 k0_h2
theorem k0_off3_packedbf16 : ∀ (i : grid0.Coords) (v11 : BitVec 32) (v13 : BitVec 32) (k0_hw1 : k0_chk1 i v11 v13), ∀ (k0_h1 : k0_cond1 i = 1#1), ∀ (k0_h2 : k0_cond2 v11 v13 = 1#1), (Rect.unit (s := S2048x2048) (k0_off3 v11 v13) S512x512.size (k0_off3_inb i v11 v13 k0_hw1 k0_h1 k0_h2)).PackedRows (EltTy.packing .bf16) := fun i v11 v13 k0_hw1 k0_h1 k0_h2 => k0_hw1.2.2.2.1 k0_h1 k0_h2 (k0_off3_inb i v11 v13 k0_hw1 k0_h1 k0_h2)
theorem k0_off5_inb : ∀ (i : grid0.Coords) (v11 : BitVec 32) (v13 : BitVec 32) (k0_hw1 : k0_chk1 i v11 v13), ∀ (k0_h3 : k0_cond3 i = 1#1), ∀ a, (k0_off5 v13) a + S512x2048.size a ≤ S2048x2048.size a := fun i v11 v13 k0_hw1 k0_h3 => k0_hw1.2.2.2.2 k0_h3

def k0_cond4 (i : grid0.Coords) : BitVec 1 :=
  let arg0 : BitVec 32 := BitVec.ofNat 32 (i 0).val
  let c2_i32 : BitVec 32 := 2#32
  let c0_i32_10 : BitVec 32 := 0#32
  let v30 : BitVec 1 := Scalar.cmpi .eq c2_i32 c0_i32_10
  let c1_i32_11 : BitVec 32 := 1#32
  let v31 : BitVec 32 := Scalar.select v30 c1_i32_11 c2_i32
  let v32 : BitVec 32 := Scalar.remsi arg0 v31
  let c0_i32_13 : BitVec 32 := 0#32
  let v34 : BitVec 1 := Scalar.cmpi .slt v32 c0_i32_13
  let c0_i32_14 : BitVec 32 := 0#32
  let v35 : BitVec 1 := Scalar.cmpi .slt v31 c0_i32_14
  let v36 : BitVec 1 := Scalar.xori v34 v35
  let c0_i32_12 : BitVec 32 := 0#32
  let v33 : BitVec 1 := Scalar.cmpi .ne v32 c0_i32_12
  let v37 : BitVec 1 := Scalar.andi v36 v33
  let v38 : BitVec 32 := Scalar.addi v32 v31
  let v39 : BitVec 32 := Scalar.select v37 v38 v32
  let c0_i32_15 : BitVec 32 := 0#32
  let v40 : BitVec 1 := Scalar.cmpi .eq v39 c0_i32_15
  let v41 : BitVec 32 := Scalar.extui v40
  let c0_i32_16 : BitVec 32 := 0#32
  let v42 : BitVec 1 := Scalar.cmpi .ne v41 c0_i32_16
  v42

def k0_cond5 (i : grid0.Coords) : BitVec 1 :=
  let arg0 : BitVec 32 := BitVec.ofNat 32 (i 0).val
  let c10_i32_26 : BitVec 32 := 10#32
  let v59 : BitVec 32 := Scalar.subi arg0 c10_i32_26
  let c2_i32_27 : BitVec 32 := 2#32
  let v60 : BitVec 1 := Scalar.cmpi .sge v59 c2_i32_27
  let v61 : BitVec 32 := Scalar.extui v60
  let c0_i32_28 : BitVec 32 := 0#32
  let v62 : BitVec 1 := Scalar.cmpi .ne v61 c0_i32_28
  v62

def k0_off6 (i : grid0.Coords) : Fin 1 → Nat :=
  let arg0 : BitVec 32 := BitVec.ofNat 32 (i 0).val
  let c2_i32_48 : BitVec 32 := 2#32
  let v98 : BitVec 32 := Scalar.subi arg0 c2_i32_48
  let c10_i32_49 : BitVec 32 := 10#32
  let c0_i32_50 : BitVec 32 := 0#32
  let v99 : BitVec 1 := Scalar.cmpi .eq c10_i32_49 c0_i32_50
  let c1_i32_51 : BitVec 32 := 1#32
  let v100 : BitVec 32 := Scalar.select v99 c1_i32_51 c10_i32_49
  let v101 : BitVec 32 := Scalar.remsi v98 v100
  let c0_i32_53 : BitVec 32 := 0#32
  let v103 : BitVec 1 := Scalar.cmpi .slt v101 c0_i32_53
  let c0_i32_54 : BitVec 32 := 0#32
  let v104 : BitVec 1 := Scalar.cmpi .slt v100 c0_i32_54
  let v105 : BitVec 1 := Scalar.xori v103 v104
  let c0_i32_52 : BitVec 32 := 0#32
  let v102 : BitVec 1 := Scalar.cmpi .ne v101 c0_i32_52
  let v106 : BitVec 1 := Scalar.andi v105 v102
  let v107 : BitVec 32 := Scalar.addi v101 v100
  let v108 : BitVec 32 := Scalar.select v106 v107 v101
  let v109 : Index := Scalar.indexCast v108
  ![v109.toNat]
def k0_off7 (v110 : BitVec 32) (v122 : BitVec 32) : Fin 2 → Nat :=
  let c512_i32_61 : BitVec 32 := 512#32
  let v123 : BitVec 32 := Scalar.muli v110 c512_i32_61
  let c512_i32_62 : BitVec 32 := 512#32
  let v124 : BitVec 32 := Scalar.muli v122 c512_i32_62
  ![v123.toNat, v124.toNat]

def k0_off8 (v110 : BitVec 32) (v122 : BitVec 32) : Fin 2 → Nat :=
  let c512_i32_63 : BitVec 32 := 512#32
  let v125 : BitVec 32 := Scalar.muli v122 c512_i32_63
  let c512_i32_64 : BitVec 32 := 512#32
  let v126 : BitVec 32 := Scalar.muli v110 c512_i32_64
  ![v125.toNat, v126.toNat]
def k0_cond6 (v110 : BitVec 32) (v122 : BitVec 32) : BitVec 1 :=
  let v127 : BitVec 1 := Scalar.cmpi .ne v110 v122
  let v129 : BitVec 32 := Scalar.extui v127
  let c0_i32_65 : BitVec 32 := 0#32
  let v130 : BitVec 1 := Scalar.cmpi .ne v129 c0_i32_65
  v130

def k0_chk3 (i : grid0.Coords) (v110 : BitVec 32) (v122 : BitVec 32) : Prop :=
  (∀ (k0_h3 : k0_cond3 i = 1#1), ∀ (k0_h4 : k0_cond4 i = 1#1), ∀ (k0_h5 : k0_cond5 i = 1#1), ∀ a, (k0_off7 v110 v122) a + S512x512.size a ≤ S2048x2048.size a) ∧
  (∀ (k0_h3 : k0_cond3 i = 1#1), ∀ (k0_h4 : k0_cond4 i = 1#1), ∀ (k0_h5 : k0_cond5 i = 1#1), ∀ (k0_h6 : k0_cond6 v110 v122 = 1#1), ∀ a, (k0_off8 v110 v122) a + S512x512.size a ≤ S2048x2048.size a)
theorem k0_off7_inb : ∀ (i : grid0.Coords) (v110 : BitVec 32) (v122 : BitVec 32) (k0_hw3 : k0_chk3 i v110 v122), ∀ (k0_h3 : k0_cond3 i = 1#1), ∀ (k0_h4 : k0_cond4 i = 1#1), ∀ (k0_h5 : k0_cond5 i = 1#1), ∀ a, (k0_off7 v110 v122) a + S512x512.size a ≤ S2048x2048.size a := fun i v110 v122 k0_hw3 k0_h3 k0_h4 k0_h5 => k0_hw3.1 k0_h3 k0_h4 k0_h5
theorem k0_off8_inb : ∀ (i : grid0.Coords) (v110 : BitVec 32) (v122 : BitVec 32) (k0_hw3 : k0_chk3 i v110 v122), ∀ (k0_h3 : k0_cond3 i = 1#1), ∀ (k0_h4 : k0_cond4 i = 1#1), ∀ (k0_h5 : k0_cond5 i = 1#1), ∀ (k0_h6 : k0_cond6 v110 v122 = 1#1), ∀ a, (k0_off8 v110 v122) a + S512x512.size a ≤ S2048x2048.size a := fun i v110 v122 k0_hw3 k0_h3 k0_h4 k0_h5 k0_h6 => k0_hw3.2 k0_h3 k0_h4 k0_h5 k0_h6

def k0_off9 (i : grid0.Coords) : Fin 1 → Nat :=
  let arg0 : BitVec 32 := BitVec.ofNat 32 (i 0).val
  let c10_i32_31 : BitVec 32 := 10#32
  let c0_i32_32 : BitVec 32 := 0#32
  let v66 : BitVec 1 := Scalar.cmpi .eq c10_i32_31 c0_i32_32
  let c1_i32_33 : BitVec 32 := 1#32
  let v67 : BitVec 32 := Scalar.select v66 c1_i32_33 c10_i32_31
  let v68 : BitVec 32 := Scalar.remsi arg0 v67
  let c0_i32_35 : BitVec 32 := 0#32
  let v70 : BitVec 1 := Scalar.cmpi .slt v68 c0_i32_35
  let c0_i32_36 : BitVec 32 := 0#32
  let v71 : BitVec 1 := Scalar.cmpi .slt v67 c0_i32_36
  let v72 : BitVec 1 := Scalar.xori v70 v71
  let c0_i32_34 : BitVec 32 := 0#32
  let v69 : BitVec 1 := Scalar.cmpi .ne v68 c0_i32_34
  let v73 : BitVec 1 := Scalar.andi v72 v69
  let v74 : BitVec 32 := Scalar.addi v68 v67
  let v75 : BitVec 32 := Scalar.select v73 v74 v68
  let v76 : Index := Scalar.indexCast v75
  ![v76.toNat]
def k0_off10 (v77 : BitVec 32) (v89 : BitVec 32) : Fin 2 → Nat :=
  let c512_i32_43 : BitVec 32 := 512#32
  let v90 : BitVec 32 := Scalar.muli v77 c512_i32_43
  let c512_i32_44 : BitVec 32 := 512#32
  let v91 : BitVec 32 := Scalar.muli v89 c512_i32_44
  ![v90.toNat, v91.toNat]

def k0_off11 (v77 : BitVec 32) (v89 : BitVec 32) : Fin 2 → Nat :=
  let c512_i32_45 : BitVec 32 := 512#32
  let v92 : BitVec 32 := Scalar.muli v89 c512_i32_45
  let c512_i32_46 : BitVec 32 := 512#32
  let v93 : BitVec 32 := Scalar.muli v77 c512_i32_46
  ![v92.toNat, v93.toNat]
def k0_cond7 (v77 : BitVec 32) (v89 : BitVec 32) : BitVec 1 :=
  let v94 : BitVec 1 := Scalar.cmpi .ne v77 v89
  let v96 : BitVec 32 := Scalar.extui v94
  let c0_i32_47 : BitVec 32 := 0#32
  let v97 : BitVec 1 := Scalar.cmpi .ne v96 c0_i32_47
  v97

def k0_chk4 (i : grid0.Coords) (v77 : BitVec 32) (v89 : BitVec 32) : Prop :=
  (∀ (k0_h3 : k0_cond3 i = 1#1), ∀ (k0_h4 : k0_cond4 i = 1#1), ∀ a, (k0_off10 v77 v89) a + S512x512.size a ≤ S2048x2048.size a) ∧
  (∀ (k0_h3 : k0_cond3 i = 1#1), ∀ (k0_h4 : k0_cond4 i = 1#1), ∀ (k0_h7 : k0_cond7 v77 v89 = 1#1), ∀ a, (k0_off11 v77 v89) a + S512x512.size a ≤ S2048x2048.size a)
theorem k0_off10_inb : ∀ (i : grid0.Coords) (v77 : BitVec 32) (v89 : BitVec 32) (k0_hw4 : k0_chk4 i v77 v89), ∀ (k0_h3 : k0_cond3 i = 1#1), ∀ (k0_h4 : k0_cond4 i = 1#1), ∀ a, (k0_off10 v77 v89) a + S512x512.size a ≤ S2048x2048.size a := fun i v77 v89 k0_hw4 k0_h3 k0_h4 => k0_hw4.1 k0_h3 k0_h4
theorem k0_off11_inb : ∀ (i : grid0.Coords) (v77 : BitVec 32) (v89 : BitVec 32) (k0_hw4 : k0_chk4 i v77 v89), ∀ (k0_h3 : k0_cond3 i = 1#1), ∀ (k0_h4 : k0_cond4 i = 1#1), ∀ (k0_h7 : k0_cond7 v77 v89 = 1#1), ∀ a, (k0_off11 v77 v89) a + S512x512.size a ≤ S2048x2048.size a := fun i v77 v89 k0_hw4 k0_h3 k0_h4 k0_h7 => k0_hw4.2 k0_h3 k0_h4 k0_h7

def k0_cond8 (i : grid0.Coords) : BitVec 1 :=
  let arg0 : BitVec 32 := BitVec.ofNat 32 (i 0).val
  let c2_i32_17 : BitVec 32 := 2#32
  let c0_i32_18 : BitVec 32 := 0#32
  let v43 : BitVec 1 := Scalar.cmpi .eq c2_i32_17 c0_i32_18
  let c1_i32_19 : BitVec 32 := 1#32
  let v44 : BitVec 32 := Scalar.select v43 c1_i32_19 c2_i32_17
  let v45 : BitVec 32 := Scalar.remsi arg0 v44
  let c0_i32_21 : BitVec 32 := 0#32
  let v47 : BitVec 1 := Scalar.cmpi .slt v45 c0_i32_21
  let c0_i32_22 : BitVec 32 := 0#32
  let v48 : BitVec 1 := Scalar.cmpi .slt v44 c0_i32_22
  let v49 : BitVec 1 := Scalar.xori v47 v48
  let c0_i32_20 : BitVec 32 := 0#32
  let v46 : BitVec 1 := Scalar.cmpi .ne v45 c0_i32_20
  let v50 : BitVec 1 := Scalar.andi v49 v46
  let v51 : BitVec 32 := Scalar.addi v45 v44
  let v52 : BitVec 32 := Scalar.select v50 v51 v45
  let c1_i32_23 : BitVec 32 := 1#32
  let v53 : BitVec 1 := Scalar.cmpi .eq v52 c1_i32_23
  let v54 : BitVec 32 := Scalar.extui v53
  let c0_i32_24 : BitVec 32 := 0#32
  let v55 : BitVec 1 := Scalar.cmpi .ne v54 c0_i32_24
  v55

def k0_cond9 (i : grid0.Coords) : BitVec 1 :=
  let arg0 : BitVec 32 := BitVec.ofNat 32 (i 0).val
  let c10_i32_26 : BitVec 32 := 10#32
  let v59 : BitVec 32 := Scalar.subi arg0 c10_i32_26
  let c2_i32_27 : BitVec 32 := 2#32
  let v60 : BitVec 1 := Scalar.cmpi .sge v59 c2_i32_27
  let v61 : BitVec 32 := Scalar.extui v60
  let c0_i32_28 : BitVec 32 := 0#32
  let v62 : BitVec 1 := Scalar.cmpi .ne v61 c0_i32_28
  v62

def k0_off12 (i : grid0.Coords) : Fin 1 → Nat :=
  let arg0 : BitVec 32 := BitVec.ofNat 32 (i 0).val
  let c2_i32_48 : BitVec 32 := 2#32
  let v98 : BitVec 32 := Scalar.subi arg0 c2_i32_48
  let c10_i32_49 : BitVec 32 := 10#32
  let c0_i32_50 : BitVec 32 := 0#32
  let v99 : BitVec 1 := Scalar.cmpi .eq c10_i32_49 c0_i32_50
  let c1_i32_51 : BitVec 32 := 1#32
  let v100 : BitVec 32 := Scalar.select v99 c1_i32_51 c10_i32_49
  let v101 : BitVec 32 := Scalar.remsi v98 v100
  let c0_i32_53 : BitVec 32 := 0#32
  let v103 : BitVec 1 := Scalar.cmpi .slt v101 c0_i32_53
  let c0_i32_54 : BitVec 32 := 0#32
  let v104 : BitVec 1 := Scalar.cmpi .slt v100 c0_i32_54
  let v105 : BitVec 1 := Scalar.xori v103 v104
  let c0_i32_52 : BitVec 32 := 0#32
  let v102 : BitVec 1 := Scalar.cmpi .ne v101 c0_i32_52
  let v106 : BitVec 1 := Scalar.andi v105 v102
  let v107 : BitVec 32 := Scalar.addi v101 v100
  let v108 : BitVec 32 := Scalar.select v106 v107 v101
  let v109 : Index := Scalar.indexCast v108
  ![v109.toNat]
def k0_off13 (v110 : BitVec 32) (v122 : BitVec 32) : Fin 2 → Nat :=
  let c512_i32_61 : BitVec 32 := 512#32
  let v123 : BitVec 32 := Scalar.muli v110 c512_i32_61
  let c512_i32_62 : BitVec 32 := 512#32
  let v124 : BitVec 32 := Scalar.muli v122 c512_i32_62
  ![v123.toNat, v124.toNat]

def k0_off14 (v110 : BitVec 32) (v122 : BitVec 32) : Fin 2 → Nat :=
  let c512_i32_63 : BitVec 32 := 512#32
  let v125 : BitVec 32 := Scalar.muli v122 c512_i32_63
  let c512_i32_64 : BitVec 32 := 512#32
  let v126 : BitVec 32 := Scalar.muli v110 c512_i32_64
  ![v125.toNat, v126.toNat]
def k0_cond10 (v110 : BitVec 32) (v122 : BitVec 32) : BitVec 1 :=
  let v127 : BitVec 1 := Scalar.cmpi .ne v110 v122
  let v129 : BitVec 32 := Scalar.extui v127
  let c0_i32_65 : BitVec 32 := 0#32
  let v130 : BitVec 1 := Scalar.cmpi .ne v129 c0_i32_65
  v130

def k0_chk5 (i : grid0.Coords) (v110 : BitVec 32) (v122 : BitVec 32) : Prop :=
  (∀ (k0_h3 : k0_cond3 i = 1#1), ∀ (k0_h8 : k0_cond8 i = 1#1), ∀ (k0_h9 : k0_cond9 i = 1#1), ∀ a, (k0_off13 v110 v122) a + S512x512.size a ≤ S2048x2048.size a) ∧
  (∀ (k0_h3 : k0_cond3 i = 1#1), ∀ (k0_h8 : k0_cond8 i = 1#1), ∀ (k0_h9 : k0_cond9 i = 1#1), ∀ (k0_h10 : k0_cond10 v110 v122 = 1#1), ∀ a, (k0_off14 v110 v122) a + S512x512.size a ≤ S2048x2048.size a)
theorem k0_off13_inb : ∀ (i : grid0.Coords) (v110 : BitVec 32) (v122 : BitVec 32) (k0_hw5 : k0_chk5 i v110 v122), ∀ (k0_h3 : k0_cond3 i = 1#1), ∀ (k0_h8 : k0_cond8 i = 1#1), ∀ (k0_h9 : k0_cond9 i = 1#1), ∀ a, (k0_off13 v110 v122) a + S512x512.size a ≤ S2048x2048.size a := fun i v110 v122 k0_hw5 k0_h3 k0_h8 k0_h9 => k0_hw5.1 k0_h3 k0_h8 k0_h9
theorem k0_off14_inb : ∀ (i : grid0.Coords) (v110 : BitVec 32) (v122 : BitVec 32) (k0_hw5 : k0_chk5 i v110 v122), ∀ (k0_h3 : k0_cond3 i = 1#1), ∀ (k0_h8 : k0_cond8 i = 1#1), ∀ (k0_h9 : k0_cond9 i = 1#1), ∀ (k0_h10 : k0_cond10 v110 v122 = 1#1), ∀ a, (k0_off14 v110 v122) a + S512x512.size a ≤ S2048x2048.size a := fun i v110 v122 k0_hw5 k0_h3 k0_h8 k0_h9 k0_h10 => k0_hw5.2 k0_h3 k0_h8 k0_h9 k0_h10

def k0_off15 (i : grid0.Coords) : Fin 1 → Nat :=
  let arg0 : BitVec 32 := BitVec.ofNat 32 (i 0).val
  let c10_i32_31 : BitVec 32 := 10#32
  let c0_i32_32 : BitVec 32 := 0#32
  let v66 : BitVec 1 := Scalar.cmpi .eq c10_i32_31 c0_i32_32
  let c1_i32_33 : BitVec 32 := 1#32
  let v67 : BitVec 32 := Scalar.select v66 c1_i32_33 c10_i32_31
  let v68 : BitVec 32 := Scalar.remsi arg0 v67
  let c0_i32_35 : BitVec 32 := 0#32
  let v70 : BitVec 1 := Scalar.cmpi .slt v68 c0_i32_35
  let c0_i32_36 : BitVec 32 := 0#32
  let v71 : BitVec 1 := Scalar.cmpi .slt v67 c0_i32_36
  let v72 : BitVec 1 := Scalar.xori v70 v71
  let c0_i32_34 : BitVec 32 := 0#32
  let v69 : BitVec 1 := Scalar.cmpi .ne v68 c0_i32_34
  let v73 : BitVec 1 := Scalar.andi v72 v69
  let v74 : BitVec 32 := Scalar.addi v68 v67
  let v75 : BitVec 32 := Scalar.select v73 v74 v68
  let v76 : Index := Scalar.indexCast v75
  ![v76.toNat]
def k0_off16 (v77 : BitVec 32) (v89 : BitVec 32) : Fin 2 → Nat :=
  let c512_i32_43 : BitVec 32 := 512#32
  let v90 : BitVec 32 := Scalar.muli v77 c512_i32_43
  let c512_i32_44 : BitVec 32 := 512#32
  let v91 : BitVec 32 := Scalar.muli v89 c512_i32_44
  ![v90.toNat, v91.toNat]

def k0_off17 (v77 : BitVec 32) (v89 : BitVec 32) : Fin 2 → Nat :=
  let c512_i32_45 : BitVec 32 := 512#32
  let v92 : BitVec 32 := Scalar.muli v89 c512_i32_45
  let c512_i32_46 : BitVec 32 := 512#32
  let v93 : BitVec 32 := Scalar.muli v77 c512_i32_46
  ![v92.toNat, v93.toNat]
def k0_cond11 (v77 : BitVec 32) (v89 : BitVec 32) : BitVec 1 :=
  let v94 : BitVec 1 := Scalar.cmpi .ne v77 v89
  let v96 : BitVec 32 := Scalar.extui v94
  let c0_i32_47 : BitVec 32 := 0#32
  let v97 : BitVec 1 := Scalar.cmpi .ne v96 c0_i32_47
  v97

def k0_chk6 (i : grid0.Coords) (v77 : BitVec 32) (v89 : BitVec 32) : Prop :=
  (∀ (k0_h3 : k0_cond3 i = 1#1), ∀ (k0_h8 : k0_cond8 i = 1#1), ∀ a, (k0_off16 v77 v89) a + S512x512.size a ≤ S2048x2048.size a) ∧
  (∀ (k0_h3 : k0_cond3 i = 1#1), ∀ (k0_h8 : k0_cond8 i = 1#1), ∀ (k0_h11 : k0_cond11 v77 v89 = 1#1), ∀ a, (k0_off17 v77 v89) a + S512x512.size a ≤ S2048x2048.size a)
theorem k0_off16_inb : ∀ (i : grid0.Coords) (v77 : BitVec 32) (v89 : BitVec 32) (k0_hw6 : k0_chk6 i v77 v89), ∀ (k0_h3 : k0_cond3 i = 1#1), ∀ (k0_h8 : k0_cond8 i = 1#1), ∀ a, (k0_off16 v77 v89) a + S512x512.size a ≤ S2048x2048.size a := fun i v77 v89 k0_hw6 k0_h3 k0_h8 => k0_hw6.1 k0_h3 k0_h8
theorem k0_off17_inb : ∀ (i : grid0.Coords) (v77 : BitVec 32) (v89 : BitVec 32) (k0_hw6 : k0_chk6 i v77 v89), ∀ (k0_h3 : k0_cond3 i = 1#1), ∀ (k0_h8 : k0_cond8 i = 1#1), ∀ (k0_h11 : k0_cond11 v77 v89 = 1#1), ∀ a, (k0_off17 v77 v89) a + S512x512.size a ≤ S2048x2048.size a := fun i v77 v89 k0_hw6 k0_h3 k0_h8 k0_h11 => k0_hw6.2 k0_h3 k0_h8 k0_h11

def k0_cond12 (i : grid0.Coords) : BitVec 1 :=
  let arg0 : BitVec 32 := BitVec.ofNat 32 (i 0).val
  let c19_i32 : BitVec 32 := 19#32
  let v56 : BitVec 1 := Scalar.cmpi .eq arg0 c19_i32
  let v57 : BitVec 32 := Scalar.extui v56
  let c0_i32_25 : BitVec 32 := 0#32
  let v58 : BitVec 1 := Scalar.cmpi .ne v57 c0_i32_25
  v58

def k0_cond13 (i : grid0.Coords) : BitVec 1 :=
  let arg0 : BitVec 32 := BitVec.ofNat 32 (i 0).val
  let c2_i32_26 : BitVec 32 := 2#32
  let c0_i32_27 : BitVec 32 := 0#32
  let v59 : BitVec 1 := Scalar.cmpi .eq c2_i32_26 c0_i32_27
  let c1_i32_28 : BitVec 32 := 1#32
  let v60 : BitVec 32 := Scalar.select v59 c1_i32_28 c2_i32_26
  let v61 : BitVec 32 := Scalar.remsi arg0 v60
  let c0_i32_30 : BitVec 32 := 0#32
  let v63 : BitVec 1 := Scalar.cmpi .slt v61 c0_i32_30
  let c0_i32_31 : BitVec 32 := 0#32
  let v64 : BitVec 1 := Scalar.cmpi .slt v60 c0_i32_31
  let v65 : BitVec 1 := Scalar.xori v63 v64
  let c0_i32_29 : BitVec 32 := 0#32
  let v62 : BitVec 1 := Scalar.cmpi .ne v61 c0_i32_29
  let v66 : BitVec 1 := Scalar.andi v65 v62
  let v67 : BitVec 32 := Scalar.addi v61 v60
  let v68 : BitVec 32 := Scalar.select v66 v67 v61
  let c0_i32_32 : BitVec 32 := 0#32
  let v69 : BitVec 1 := Scalar.cmpi .eq v68 c0_i32_32
  let v70 : BitVec 32 := Scalar.extui v69
  let c0_i32_33 : BitVec 32 := 0#32
  let v71 : BitVec 1 := Scalar.cmpi .ne v70 c0_i32_33
  v71

def k0_off18 (i : grid0.Coords) : Fin 1 → Nat :=
  let arg0 : BitVec 32 := BitVec.ofNat 32 (i 0).val
  let c10_i32_42 : BitVec 32 := 10#32
  let c0_i32_43 : BitVec 32 := 0#32
  let v85 : BitVec 1 := Scalar.cmpi .eq c10_i32_42 c0_i32_43
  let c1_i32_44 : BitVec 32 := 1#32
  let v86 : BitVec 32 := Scalar.select v85 c1_i32_44 c10_i32_42
  let v87 : BitVec 32 := Scalar.remsi arg0 v86
  let c0_i32_46 : BitVec 32 := 0#32
  let v89 : BitVec 1 := Scalar.cmpi .slt v87 c0_i32_46
  let c0_i32_47 : BitVec 32 := 0#32
  let v90 : BitVec 1 := Scalar.cmpi .slt v86 c0_i32_47
  let v91 : BitVec 1 := Scalar.xori v89 v90
  let c0_i32_45 : BitVec 32 := 0#32
  let v88 : BitVec 1 := Scalar.cmpi .ne v87 c0_i32_45
  let v92 : BitVec 1 := Scalar.andi v91 v88
  let v93 : BitVec 32 := Scalar.addi v87 v86
  let v94 : BitVec 32 := Scalar.select v92 v93 v87
  let v95 : Index := Scalar.indexCast v94
  ![v95.toNat]
def k0_off19 (v96 : BitVec 32) (v108 : BitVec 32) : Fin 2 → Nat :=
  let c512_i32_54 : BitVec 32 := 512#32
  let v109 : BitVec 32 := Scalar.muli v96 c512_i32_54
  let c512_i32_55 : BitVec 32 := 512#32
  let v110 : BitVec 32 := Scalar.muli v108 c512_i32_55
  ![v109.toNat, v110.toNat]

def k0_off20 (v96 : BitVec 32) (v108 : BitVec 32) : Fin 2 → Nat :=
  let c512_i32_56 : BitVec 32 := 512#32
  let v111 : BitVec 32 := Scalar.muli v108 c512_i32_56
  let c512_i32_57 : BitVec 32 := 512#32
  let v112 : BitVec 32 := Scalar.muli v96 c512_i32_57
  ![v111.toNat, v112.toNat]
def k0_cond14 (v96 : BitVec 32) (v108 : BitVec 32) : BitVec 1 :=
  let v113 : BitVec 1 := Scalar.cmpi .ne v96 v108
  let v115 : BitVec 32 := Scalar.extui v113
  let c0_i32_58 : BitVec 32 := 0#32
  let v116 : BitVec 1 := Scalar.cmpi .ne v115 c0_i32_58
  v116

def k0_chk7 (i : grid0.Coords) (v96 : BitVec 32) (v108 : BitVec 32) : Prop :=
  (∀ (k0_h3 : k0_cond3 i = 1#1), ∀ (k0_h12 : k0_cond12 i = 1#1), ∀ (k0_h13 : k0_cond13 i = 1#1), ∀ a, (k0_off19 v96 v108) a + S512x512.size a ≤ S2048x2048.size a) ∧
  (∀ (k0_h3 : k0_cond3 i = 1#1), ∀ (k0_h12 : k0_cond12 i = 1#1), ∀ (k0_h13 : k0_cond13 i = 1#1), ∀ (k0_h14 : k0_cond14 v96 v108 = 1#1), ∀ a, (k0_off20 v96 v108) a + S512x512.size a ≤ S2048x2048.size a)
theorem k0_off19_inb : ∀ (i : grid0.Coords) (v96 : BitVec 32) (v108 : BitVec 32) (k0_hw7 : k0_chk7 i v96 v108), ∀ (k0_h3 : k0_cond3 i = 1#1), ∀ (k0_h12 : k0_cond12 i = 1#1), ∀ (k0_h13 : k0_cond13 i = 1#1), ∀ a, (k0_off19 v96 v108) a + S512x512.size a ≤ S2048x2048.size a := fun i v96 v108 k0_hw7 k0_h3 k0_h12 k0_h13 => k0_hw7.1 k0_h3 k0_h12 k0_h13
theorem k0_off20_inb : ∀ (i : grid0.Coords) (v96 : BitVec 32) (v108 : BitVec 32) (k0_hw7 : k0_chk7 i v96 v108), ∀ (k0_h3 : k0_cond3 i = 1#1), ∀ (k0_h12 : k0_cond12 i = 1#1), ∀ (k0_h13 : k0_cond13 i = 1#1), ∀ (k0_h14 : k0_cond14 v96 v108 = 1#1), ∀ a, (k0_off20 v96 v108) a + S512x512.size a ≤ S2048x2048.size a := fun i v96 v108 k0_hw7 k0_h3 k0_h12 k0_h13 k0_h14 => k0_hw7.2 k0_h3 k0_h12 k0_h13 k0_h14

def k0_off21 (i : grid0.Coords) : Fin 1 → Nat :=
  let arg0 : BitVec 32 := BitVec.ofNat 32 (i 0).val
  let c1_i32_59 : BitVec 32 := 1#32
  let v117 : BitVec 32 := Scalar.subi arg0 c1_i32_59
  let c10_i32_60 : BitVec 32 := 10#32
  let c0_i32_61 : BitVec 32 := 0#32
  let v118 : BitVec 1 := Scalar.cmpi .eq c10_i32_60 c0_i32_61
  let c1_i32_62 : BitVec 32 := 1#32
  let v119 : BitVec 32 := Scalar.select v118 c1_i32_62 c10_i32_60
  let v120 : BitVec 32 := Scalar.remsi v117 v119
  let c0_i32_64 : BitVec 32 := 0#32
  let v122 : BitVec 1 := Scalar.cmpi .slt v120 c0_i32_64
  let c0_i32_65 : BitVec 32 := 0#32
  let v123 : BitVec 1 := Scalar.cmpi .slt v119 c0_i32_65
  let v124 : BitVec 1 := Scalar.xori v122 v123
  let c0_i32_63 : BitVec 32 := 0#32
  let v121 : BitVec 1 := Scalar.cmpi .ne v120 c0_i32_63
  let v125 : BitVec 1 := Scalar.andi v124 v121
  let v126 : BitVec 32 := Scalar.addi v120 v119
  let v127 : BitVec 32 := Scalar.select v125 v126 v120
  let v128 : Index := Scalar.indexCast v127
  ![v128.toNat]
def k0_off22 (v129 : BitVec 32) (v141 : BitVec 32) : Fin 2 → Nat :=
  let c512_i32_72 : BitVec 32 := 512#32
  let v142 : BitVec 32 := Scalar.muli v129 c512_i32_72
  let c512_i32_73 : BitVec 32 := 512#32
  let v143 : BitVec 32 := Scalar.muli v141 c512_i32_73
  ![v142.toNat, v143.toNat]

def k0_off23 (v129 : BitVec 32) (v141 : BitVec 32) : Fin 2 → Nat :=
  let c512_i32_74 : BitVec 32 := 512#32
  let v144 : BitVec 32 := Scalar.muli v141 c512_i32_74
  let c512_i32_75 : BitVec 32 := 512#32
  let v145 : BitVec 32 := Scalar.muli v129 c512_i32_75
  ![v144.toNat, v145.toNat]
def k0_cond15 (v129 : BitVec 32) (v141 : BitVec 32) : BitVec 1 :=
  let v146 : BitVec 1 := Scalar.cmpi .ne v129 v141
  let v148 : BitVec 32 := Scalar.extui v146
  let c0_i32_76 : BitVec 32 := 0#32
  let v149 : BitVec 1 := Scalar.cmpi .ne v148 c0_i32_76
  v149

def k0_chk8 (i : grid0.Coords) (v129 : BitVec 32) (v141 : BitVec 32) : Prop :=
  (∀ (k0_h3 : k0_cond3 i = 1#1), ∀ (k0_h12 : k0_cond12 i = 1#1), ∀ (k0_h13 : k0_cond13 i = 1#1), ∀ a, (k0_off22 v129 v141) a + S512x512.size a ≤ S2048x2048.size a) ∧
  (∀ (k0_h3 : k0_cond3 i = 1#1), ∀ (k0_h12 : k0_cond12 i = 1#1), ∀ (k0_h13 : k0_cond13 i = 1#1), ∀ (k0_h15 : k0_cond15 v129 v141 = 1#1), ∀ a, (k0_off23 v129 v141) a + S512x512.size a ≤ S2048x2048.size a)
theorem k0_off22_inb : ∀ (i : grid0.Coords) (v129 : BitVec 32) (v141 : BitVec 32) (k0_hw8 : k0_chk8 i v129 v141), ∀ (k0_h3 : k0_cond3 i = 1#1), ∀ (k0_h12 : k0_cond12 i = 1#1), ∀ (k0_h13 : k0_cond13 i = 1#1), ∀ a, (k0_off22 v129 v141) a + S512x512.size a ≤ S2048x2048.size a := fun i v129 v141 k0_hw8 k0_h3 k0_h12 k0_h13 => k0_hw8.1 k0_h3 k0_h12 k0_h13
theorem k0_off23_inb : ∀ (i : grid0.Coords) (v129 : BitVec 32) (v141 : BitVec 32) (k0_hw8 : k0_chk8 i v129 v141), ∀ (k0_h3 : k0_cond3 i = 1#1), ∀ (k0_h12 : k0_cond12 i = 1#1), ∀ (k0_h13 : k0_cond13 i = 1#1), ∀ (k0_h15 : k0_cond15 v129 v141 = 1#1), ∀ a, (k0_off23 v129 v141) a + S512x512.size a ≤ S2048x2048.size a := fun i v129 v141 k0_hw8 k0_h3 k0_h12 k0_h13 k0_h15 => k0_hw8.2 k0_h3 k0_h12 k0_h13 k0_h15

def k0_cond16 (i : grid0.Coords) : BitVec 1 :=
  let arg0 : BitVec 32 := BitVec.ofNat 32 (i 0).val
  let c2_i32_34 : BitVec 32 := 2#32
  let c0_i32_35 : BitVec 32 := 0#32
  let v72 : BitVec 1 := Scalar.cmpi .eq c2_i32_34 c0_i32_35
  let c1_i32_36 : BitVec 32 := 1#32
  let v73 : BitVec 32 := Scalar.select v72 c1_i32_36 c2_i32_34
  let v74 : BitVec 32 := Scalar.remsi arg0 v73
  let c0_i32_38 : BitVec 32 := 0#32
  let v76 : BitVec 1 := Scalar.cmpi .slt v74 c0_i32_38
  let c0_i32_39 : BitVec 32 := 0#32
  let v77 : BitVec 1 := Scalar.cmpi .slt v73 c0_i32_39
  let v78 : BitVec 1 := Scalar.xori v76 v77
  let c0_i32_37 : BitVec 32 := 0#32
  let v75 : BitVec 1 := Scalar.cmpi .ne v74 c0_i32_37
  let v79 : BitVec 1 := Scalar.andi v78 v75
  let v80 : BitVec 32 := Scalar.addi v74 v73
  let v81 : BitVec 32 := Scalar.select v79 v80 v74
  let c1_i32_40 : BitVec 32 := 1#32
  let v82 : BitVec 1 := Scalar.cmpi .eq v81 c1_i32_40
  let v83 : BitVec 32 := Scalar.extui v82
  let c0_i32_41 : BitVec 32 := 0#32
  let v84 : BitVec 1 := Scalar.cmpi .ne v83 c0_i32_41
  v84

def k0_off24 (i : grid0.Coords) : Fin 1 → Nat :=
  let arg0 : BitVec 32 := BitVec.ofNat 32 (i 0).val
  let c10_i32_42 : BitVec 32 := 10#32
  let c0_i32_43 : BitVec 32 := 0#32
  let v85 : BitVec 1 := Scalar.cmpi .eq c10_i32_42 c0_i32_43
  let c1_i32_44 : BitVec 32 := 1#32
  let v86 : BitVec 32 := Scalar.select v85 c1_i32_44 c10_i32_42
  let v87 : BitVec 32 := Scalar.remsi arg0 v86
  let c0_i32_46 : BitVec 32 := 0#32
  let v89 : BitVec 1 := Scalar.cmpi .slt v87 c0_i32_46
  let c0_i32_47 : BitVec 32 := 0#32
  let v90 : BitVec 1 := Scalar.cmpi .slt v86 c0_i32_47
  let v91 : BitVec 1 := Scalar.xori v89 v90
  let c0_i32_45 : BitVec 32 := 0#32
  let v88 : BitVec 1 := Scalar.cmpi .ne v87 c0_i32_45
  let v92 : BitVec 1 := Scalar.andi v91 v88
  let v93 : BitVec 32 := Scalar.addi v87 v86
  let v94 : BitVec 32 := Scalar.select v92 v93 v87
  let v95 : Index := Scalar.indexCast v94
  ![v95.toNat]
def k0_off25 (v96 : BitVec 32) (v108 : BitVec 32) : Fin 2 → Nat :=
  let c512_i32_54 : BitVec 32 := 512#32
  let v109 : BitVec 32 := Scalar.muli v96 c512_i32_54
  let c512_i32_55 : BitVec 32 := 512#32
  let v110 : BitVec 32 := Scalar.muli v108 c512_i32_55
  ![v109.toNat, v110.toNat]

def k0_off26 (v96 : BitVec 32) (v108 : BitVec 32) : Fin 2 → Nat :=
  let c512_i32_56 : BitVec 32 := 512#32
  let v111 : BitVec 32 := Scalar.muli v108 c512_i32_56
  let c512_i32_57 : BitVec 32 := 512#32
  let v112 : BitVec 32 := Scalar.muli v96 c512_i32_57
  ![v111.toNat, v112.toNat]
def k0_cond17 (v96 : BitVec 32) (v108 : BitVec 32) : BitVec 1 :=
  let v113 : BitVec 1 := Scalar.cmpi .ne v96 v108
  let v115 : BitVec 32 := Scalar.extui v113
  let c0_i32_58 : BitVec 32 := 0#32
  let v116 : BitVec 1 := Scalar.cmpi .ne v115 c0_i32_58
  v116

def k0_chk9 (i : grid0.Coords) (v96 : BitVec 32) (v108 : BitVec 32) : Prop :=
  (∀ (k0_h3 : k0_cond3 i = 1#1), ∀ (k0_h12 : k0_cond12 i = 1#1), ∀ (k0_h16 : k0_cond16 i = 1#1), ∀ a, (k0_off25 v96 v108) a + S512x512.size a ≤ S2048x2048.size a) ∧
  (∀ (k0_h3 : k0_cond3 i = 1#1), ∀ (k0_h12 : k0_cond12 i = 1#1), ∀ (k0_h16 : k0_cond16 i = 1#1), ∀ (k0_h17 : k0_cond17 v96 v108 = 1#1), ∀ a, (k0_off26 v96 v108) a + S512x512.size a ≤ S2048x2048.size a)
theorem k0_off25_inb : ∀ (i : grid0.Coords) (v96 : BitVec 32) (v108 : BitVec 32) (k0_hw9 : k0_chk9 i v96 v108), ∀ (k0_h3 : k0_cond3 i = 1#1), ∀ (k0_h12 : k0_cond12 i = 1#1), ∀ (k0_h16 : k0_cond16 i = 1#1), ∀ a, (k0_off25 v96 v108) a + S512x512.size a ≤ S2048x2048.size a := fun i v96 v108 k0_hw9 k0_h3 k0_h12 k0_h16 => k0_hw9.1 k0_h3 k0_h12 k0_h16
theorem k0_off26_inb : ∀ (i : grid0.Coords) (v96 : BitVec 32) (v108 : BitVec 32) (k0_hw9 : k0_chk9 i v96 v108), ∀ (k0_h3 : k0_cond3 i = 1#1), ∀ (k0_h12 : k0_cond12 i = 1#1), ∀ (k0_h16 : k0_cond16 i = 1#1), ∀ (k0_h17 : k0_cond17 v96 v108 = 1#1), ∀ a, (k0_off26 v96 v108) a + S512x512.size a ≤ S2048x2048.size a := fun i v96 v108 k0_hw9 k0_h3 k0_h12 k0_h16 k0_h17 => k0_hw9.2 k0_h3 k0_h12 k0_h16 k0_h17

def k0_off27 (i : grid0.Coords) : Fin 1 → Nat :=
  let arg0 : BitVec 32 := BitVec.ofNat 32 (i 0).val
  let c1_i32_59 : BitVec 32 := 1#32
  let v117 : BitVec 32 := Scalar.subi arg0 c1_i32_59
  let c10_i32_60 : BitVec 32 := 10#32
  let c0_i32_61 : BitVec 32 := 0#32
  let v118 : BitVec 1 := Scalar.cmpi .eq c10_i32_60 c0_i32_61
  let c1_i32_62 : BitVec 32 := 1#32
  let v119 : BitVec 32 := Scalar.select v118 c1_i32_62 c10_i32_60
  let v120 : BitVec 32 := Scalar.remsi v117 v119
  let c0_i32_64 : BitVec 32 := 0#32
  let v122 : BitVec 1 := Scalar.cmpi .slt v120 c0_i32_64
  let c0_i32_65 : BitVec 32 := 0#32
  let v123 : BitVec 1 := Scalar.cmpi .slt v119 c0_i32_65
  let v124 : BitVec 1 := Scalar.xori v122 v123
  let c0_i32_63 : BitVec 32 := 0#32
  let v121 : BitVec 1 := Scalar.cmpi .ne v120 c0_i32_63
  let v125 : BitVec 1 := Scalar.andi v124 v121
  let v126 : BitVec 32 := Scalar.addi v120 v119
  let v127 : BitVec 32 := Scalar.select v125 v126 v120
  let v128 : Index := Scalar.indexCast v127
  ![v128.toNat]
def k0_off28 (v129 : BitVec 32) (v141 : BitVec 32) : Fin 2 → Nat :=
  let c512_i32_72 : BitVec 32 := 512#32
  let v142 : BitVec 32 := Scalar.muli v129 c512_i32_72
  let c512_i32_73 : BitVec 32 := 512#32
  let v143 : BitVec 32 := Scalar.muli v141 c512_i32_73
  ![v142.toNat, v143.toNat]

def k0_off29 (v129 : BitVec 32) (v141 : BitVec 32) : Fin 2 → Nat :=
  let c512_i32_74 : BitVec 32 := 512#32
  let v144 : BitVec 32 := Scalar.muli v141 c512_i32_74
  let c512_i32_75 : BitVec 32 := 512#32
  let v145 : BitVec 32 := Scalar.muli v129 c512_i32_75
  ![v144.toNat, v145.toNat]
def k0_cond18 (v129 : BitVec 32) (v141 : BitVec 32) : BitVec 1 :=
  let v146 : BitVec 1 := Scalar.cmpi .ne v129 v141
  let v148 : BitVec 32 := Scalar.extui v146
  let c0_i32_76 : BitVec 32 := 0#32
  let v149 : BitVec 1 := Scalar.cmpi .ne v148 c0_i32_76
  v149

def k0_chk10 (i : grid0.Coords) (v129 : BitVec 32) (v141 : BitVec 32) : Prop :=
  (∀ (k0_h3 : k0_cond3 i = 1#1), ∀ (k0_h12 : k0_cond12 i = 1#1), ∀ (k0_h16 : k0_cond16 i = 1#1), ∀ a, (k0_off28 v129 v141) a + S512x512.size a ≤ S2048x2048.size a) ∧
  (∀ (k0_h3 : k0_cond3 i = 1#1), ∀ (k0_h12 : k0_cond12 i = 1#1), ∀ (k0_h16 : k0_cond16 i = 1#1), ∀ (k0_h18 : k0_cond18 v129 v141 = 1#1), ∀ a, (k0_off29 v129 v141) a + S512x512.size a ≤ S2048x2048.size a)
theorem k0_off28_inb : ∀ (i : grid0.Coords) (v129 : BitVec 32) (v141 : BitVec 32) (k0_hw10 : k0_chk10 i v129 v141), ∀ (k0_h3 : k0_cond3 i = 1#1), ∀ (k0_h12 : k0_cond12 i = 1#1), ∀ (k0_h16 : k0_cond16 i = 1#1), ∀ a, (k0_off28 v129 v141) a + S512x512.size a ≤ S2048x2048.size a := fun i v129 v141 k0_hw10 k0_h3 k0_h12 k0_h16 => k0_hw10.1 k0_h3 k0_h12 k0_h16
theorem k0_off29_inb : ∀ (i : grid0.Coords) (v129 : BitVec 32) (v141 : BitVec 32) (k0_hw10 : k0_chk10 i v129 v141), ∀ (k0_h3 : k0_cond3 i = 1#1), ∀ (k0_h12 : k0_cond12 i = 1#1), ∀ (k0_h16 : k0_cond16 i = 1#1), ∀ (k0_h18 : k0_cond18 v129 v141 = 1#1), ∀ a, (k0_off29 v129 v141) a + S512x512.size a ≤ S2048x2048.size a := fun i v129 v141 k0_hw10 k0_h3 k0_h12 k0_h16 k0_h18 => k0_hw10.2 k0_h3 k0_h12 k0_h16 k0_h18

def cc0_transform_0 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let c10_i32 : BitVec 32 := 10#32
  let v0 : BitVec 1 := Scalar.cmpi .slt arg0 c10_i32
  let c10_i32_0 : BitVec 32 := 10#32
  let c0_i32 : BitVec 32 := 0#32
  let v1 : BitVec 1 := Scalar.cmpi .eq c10_i32_0 c0_i32
  let c1_i32 : BitVec 32 := 1#32
  let v2 : BitVec 32 := Scalar.select v1 c1_i32 c10_i32_0
  let v3 : BitVec 32 := Scalar.remsi arg0 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let v11 : Index := Scalar.indexCast v10
  let v12 : BitVec 32 := pf.at 0 (Rect.unit (s := S10) ![v11.toNat] S1.size (k0_off1_inb i)) numel1_S1
  let c0_i32_4 : BitVec 32 := 0#32
  let v13 : BitVec 32 := Scalar.select v0 v12 c0_i32_4
  let c0_i32_5 : BitVec 32 := 0#32
  let c0_i32_6 : BitVec 32 := 0#32
  ![v13.toNat, c0_i32_5.toNat]

def cc0_transform_1 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let c10_i32 : BitVec 32 := 10#32
  let v0 : BitVec 1 := Scalar.cmpi .slt arg0 c10_i32
  let c10_i32_0 : BitVec 32 := 10#32
  let c0_i32 : BitVec 32 := 0#32
  let v1 : BitVec 1 := Scalar.cmpi .eq c10_i32_0 c0_i32
  let c1_i32 : BitVec 32 := 1#32
  let v2 : BitVec 32 := Scalar.select v1 c1_i32 c10_i32_0
  let v3 : BitVec 32 := Scalar.remsi arg0 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let v11 : Index := Scalar.indexCast v10
  let v12 : BitVec 32 := pf.at 1 (Rect.unit (s := S10) ![v11.toNat] S1.size (k0_off1_inb i)) numel1_S1
  let c0_i32_4 : BitVec 32 := 0#32
  let v13 : BitVec 32 := Scalar.select v0 v12 c0_i32_4
  let c0_i32_5 : BitVec 32 := 0#32
  let c0_i32_6 : BitVec 32 := 0#32
  ![v13.toNat, c0_i32_5.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== DecodeReferenceIdeal.lean ====
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_call0_cst : Ref sig .tc := ⟨.hbm, 5, rfl⟩
abbrev main_call0_v0 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.Region01.lean ====
/-
  The first two kernel regions of the program, `_mm` and `_hct`, at the contents `V` the region finds: what each
  staging buffer holds at a point, what the body leaves in it, and the body's obligation at every point.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.RegionArraysS
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0__mm_body` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's staging buffer holds its block at every point. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S512x512 := Rect.unit (s := S512x512) ![0, 0] S512x512.size inb_S512x512_S512x512_0_0
abbrev r0_1 : Rect S512x256 := Rect.unit (s := S512x256) ![0, 0] S512x256.size inb_S512x256_S512x256_0_0

/-! ## What the body leaves in each output window's buffer -/

/-- Window 2's staging buffer after the body, from the input windows' blocks: its 1 store as pieces, LAST
    FIRST (Lib/Pipeline/FrameBody.lean `View.canon`; the payloads are the skeleton's). -/
def out0_2 (x0 : Vec F S512x512 .f32) (x1 : Vec F S512x256 .f32) : Vec F S512x256 .bf16 :=
  View.canon [⟨r0_1, k0_pay1 (View.ld x0 r0_0) (View.ld x1 r0_1)⟩]

/-- Its stores tile the buffer (checked by evaluation), so they cover it. -/
theorem cover0_2 (p0 : Vec F S512x256 .bf16) (y : S512x256.Idx) :
    ∃ pc ∈ ([⟨r0_1, p0⟩] : List (View.Piece (Elt F) S512x256 .bf16)), y ∈ pc.1.set :=
  View.cover_of_tiled [⟨r0_1, p0⟩] S512x256.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`*_eq_skeleton`), which `sl_exec` runs (Lib/Exec.lean), through every part call. -/
theorem sound_kernel0 (c : Dev nD) (E : Set ℕ) (i : grid0.Coords) (arg1 : Memref sig .tc .vmem S512x512 .f32) (harg1 : arg1.IsWhole) (arg2 : Memref sig .tc .vmem S512x256 .f32) (harg2 : arg2.IsWhole) (arg3 : Memref sig .tc .vmem S512x256 .bf16) (harg3 : arg3.IsWhole)
    (x0 : Vec F S512x512 .f32) (x1 : Vec F S512x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__mm_body i arg1 harg1 arg2 harg2 arg3 harg3) K := by
  simp only [cc0__mm_body_eq_skeleton]; unfold cc0__mm_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! # REGION 1 of @main: custom_call 1, `cc1__hct_body` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's staging buffer holds its block at every point. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's staging buffer holds its block at every point. -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's staging buffer holds its block at every point. -/
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's staging buffer holds its block at every point. -/
theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S512x2048 := Rect.unit (s := S512x2048) ![0, 0] S512x2048.size inb_S512x2048_S512x2048_0_0
abbrev r1_1 : Rect S2048x256 := Rect.unit (s := S2048x256) ![0, 0] S2048x256.size inb_S2048x256_S2048x256_0_0
abbrev r1_2 : Rect S1x256 := Rect.unit (s := S1x256) ![0, 0] S1x256.size inb_S1x256_S1x256_0_0
abbrev r1_3 : Rect S256x2048 := Rect.unit (s := S256x2048) ![0, 0] S256x2048.size inb_S256x2048_S256x2048_0_0

/-! ## What the body leaves in each output window's buffer -/

/-- Window 5's staging buffer after the body, from the input windows' blocks: its 1 store as pieces, LAST
    FIRST (Lib/Pipeline/FrameBody.lean `View.canon`; the payloads are the skeleton's). -/
def out1_5 (x0 : Vec F S512x2048 .f32) (x1 : Vec F S2048x256 .bf16) (x2 : Vec F S1x256 .f32) (x3 : Vec F S256x2048 .f32) (x4 : Vec F S256x2048 .f32) : Vec F S512x2048 .bf16 :=
  View.canon [⟨r1_0, k1_pay2 (View.ld x0 r1_0) (View.ld x1 r1_1) (View.ld x2 r1_2) (View.ld x3 r1_3)⟩]

/-- Its stores tile the buffer (checked by evaluation), so they cover it. -/
theorem cover1_5 (p0 : Vec F S512x2048 .bf16) (y : S512x2048.Idx) :
    ∃ pc ∈ ([⟨r1_0, p0⟩] : List (View.Piece (Elt F) S512x2048 .bf16)), y ∈ pc.1.set :=
  View.cover_of_tiled [⟨r1_0, p0⟩] S512x2048.size (by rfl) y

/-- Window 6's staging buffer after the body, from the input windows' blocks: its 1 store as pieces, LAST
    FIRST (Lib/Pipeline/FrameBody.lean `View.canon`; the payloads are the skeleton's). -/
def out1_6 (x0 : Vec F S512x2048 .f32) (x1 : Vec F S2048x256 .bf16) (x2 : Vec F S1x256 .f32) (x3 : Vec F S256x2048 .f32) (x4 : Vec F S256x2048 .f32) : Vec F S512x2048 .bf16 :=
  View.canon [⟨r1_0, k1_pay3 (View.ld x0 r1_0) (View.ld x1 r1_1) (View.ld x2 r1_2) (View.ld x4 r1_3)⟩]

/-- Its stores tile the buffer (checked by evaluation), so they cover it. -/
theorem cover1_6 (p0 : Vec F S512x2048 .bf16) (y : S512x2048.Idx) :
    ∃ pc ∈ ([⟨r1_0, p0⟩] : List (View.Piece (Elt F) S512x2048 .bf16)), y ∈ pc.1.set :=
  View.cover_of_tiled [⟨r1_0, p0⟩] S512x2048.size (by rfl) y

/-! ## The body's triple -/

set_option maxHeartbeats 1000000 in
/-- The kernel body on whole staging memrefs, the inputs' at read contents `xW` and the outputs' at anything, runs to
    the continuation holding the inputs' as they were and each output's at `out1_W` of the inputs': the printed functions
    are their skeletons (`*_eq_skeleton`), which `sl_exec` runs (Lib/Exec.lean), through every part call. -/
theorem sound_kernel1 (c : Dev nD) (E : Set ℕ) (i : grid1.Coords) (arg1 : Memref sig .tc .vmem S512x2048 .f32) (harg1 : arg1.IsWhole) (arg2 : Memref sig .tc .vmem S2048x256 .bf16) (harg2 : arg2.IsWhole) (arg3 : Memref sig .tc .vmem S1x256 .f32) (harg3 : arg3.IsWhole) (arg4 : Memref sig .tc .vmem S256x2048 .f32) (harg4 : arg4.IsWhole) (arg5 : Memref sig .tc .vmem S256x2048 .f32) (harg5 : arg5.IsWhole) (arg6 : Memref sig .tc .vmem S512x2048 .bf16) (harg6 : arg6.IsWhole) (arg7 : Memref sig .tc .vmem S512x2048 .bf16) (harg7 : arg7.IsWhole)
    (x0 : Vec F S512x2048 .f32) (x1 : Vec F S2048x256 .bf16) (x2 : Vec F S1x256 .f32) (x3 : Vec F S256x2048 .f32) (x4 : Vec F S256x2048 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4) ∗ owns (c : Thread nD τ) arg7 fullShare (out1_6 x0 x1 x2 x3 x4)) -∗ K ⟨⟩))
      ⊢ wp frame (wpE (defs₀ (F := F)) Variants.none c none) E (cc1__hct_body i arg1 harg1 arg2 harg2 arg3 harg3 arg4 harg4 arg5 harg5 arg6 harg6 arg7 harg7) K := by
  simp only [cc1__hct_body_eq_skeleton]; unfold cc1__hct_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover1_5 _)
  iexists _; isplitr
  swap; · iexact H6
  ipureintro
  exact View.read_writes_eq_canon _ _ _ (cover1_6 _)

/-! ## The pipeline's proof data -/

/-- The proof data of pipeline 1 on core `c`: the arrays as the region finds them (`V`); after the body at
    point `t` each input's buffer at its block and each output's at `out1_W` of the input blocks; the invariant the
    class's (Lib/Pipeline/Frame.lean `ΦA`: the scoped rest and the generator register, untouched); nothing owed;
    full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
    | ⟨6, _⟩ => out1_6 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`, never `rfl`: Lib/Pipeline.lean `Dat`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Own

end
-- ==== Proof.Region2.lean ====
/-
  The third kernel region, `_gmuz`: four points fill two scratch matrices by blocks of 512 rows, eight points
  multiply blocks of 256 of their rows by the whole.
-/
module

public import proofs.«01_k».proof.Proof.Region01
public import Idealize.ShloMosaic.Lib.Pipeline.Value
public import Idealize.ShloMosaic.Lib.WritesUnit
public import Idealize.ShloMosaic.Lib.Pointwise.Index

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Regions
variable (V : (c : Dev nD) → (b : Ref sig .tc) → Buf (Elt F) ((c : Thread nD τ).loc b))

/-- Window `w`'s block at point `t`, read off the array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The schedule: four points fill the scratch, eight read it -/

theorem fills2 : ∀ t : Fin cfg2.N, k2_cond1 (grid2.coords t) = 1#1 ↔ t.val < 4 :=
  (by decide +kernel : ∀ t : Fin grid2.N, k2_cond1 (grid2.coords t) = 1#1 ↔ t.val < 4)
theorem reads2 : ∀ t : Fin cfg2.N, k2_cond2 (grid2.coords t) = 1#1 ↔ 4 ≤ t.val :=
  (by decide +kernel : ∀ t : Fin grid2.N, k2_cond2 (grid2.coords t) = 1#1 ↔ 4 ≤ t.val)
theorem fillRow2 : ∀ t : Fin cfg2.N, t.val < 4 → k2_off1 (grid2.coords t) = ![512 * t.val, 0] :=
  (by decide +kernel : ∀ t : Fin grid2.N, t.val < 4 → k2_off1 (grid2.coords t) = ![512 * t.val, 0])
theorem readRow2 : ∀ t : Fin cfg2.N, 4 ≤ t.val → k2_off2 (grid2.coords t) = ![256 * (t.val - 4), 0] :=
  (by decide +kernel : ∀ t : Fin grid2.N, 4 ≤ t.val → k2_off2 (grid2.coords t) = ![256 * (t.val - 4), 0])
theorem noFlush2 : ∀ (w : Fin cfg2.W) (t : Fin cfg2.N), t.val < 4 → (cfg2.win w).flush t = false :=
  (by decide +kernel : ∀ (w : Fin 9) (t : Fin grid2.N), t.val < 4 → (cfg2.win w).flush t = false)

/-! ## What the scratch holds, and what the body leaves in the outputs -/

/-- Row block `n` of 512 rows' point. -/
def fillPt (n : ℕ) (h : n < 4) : Fin cfg2.N := ⟨n, lt_of_lt_of_eq (by omega : n < 12) (show cfg2.N = 12 from N_2).symm⟩

theorem quarter_lt (y : S2048x2048.Idx) : (y 0).val / 512 < 4 := by
  have := (y 0).isLt; rw [Nat.div_lt_iff_lt_mul (by decide)]; exact this

/-- The place of index `y` in its block of 512 rows. -/
def inBlock (y : S2048x2048.Idx) : S512x2048.Idx := ix2 ⟨(y 0).val % 512, Nat.mod_lt _ (by decide)⟩ (y 1)

/-- The first scratch buffer once filled: row block `n` is what point `n` stores. -/
def scr2_0 (c : Dev nD) : Vec F S2048x2048 .bf16 := fun y =>
  k2_pay2 (iblk2 V c 0 (fillPt _ (quarter_lt y))) (iblk2 V c 1 (fillPt _ (quarter_lt y))) (iblk2 V c 3 (fillPt _ (quarter_lt y))) (inBlock y)

/-- The second. -/
def scr2_1 (c : Dev nD) : Vec F S2048x2048 .bf16 := fun y =>
  k2_pay3 (iblk2 V c 0 (fillPt _ (quarter_lt y))) (iblk2 V c 2 (fillPt _ (quarter_lt y))) (iblk2 V c 4 (fillPt _ (quarter_lt y))) (inBlock y)

/-- Rows `256·n …` of a matrix. -/
def rows256 (X : Vec F S2048x2048 .bf16) (n : ℕ) : Vec F S256x2048 .bf16 := fun x =>
  X (ix2 ⟨(256 * n + (x 0).val) % 2048, Nat.mod_lt _ (by decide)⟩ (x 1))

def out2_6 (c : Dev nD) (t : Fin cfg2.N) : Vec F S256x2048 .f32 :=
  k2_pay4 (rows256 (scr2_0 V c) (t.val - 4)) (scr2_0 V c)
def out2_7 (c : Dev nD) (t : Fin cfg2.N) : Vec F S256x2048 .f32 :=
  k2_pay5 (rows256 (scr2_1 V c) (t.val - 4)) (scr2_1 V c)
def out2_8 (c : Dev nD) (t : Fin cfg2.N) : Vec F S256x2048 .bf16 :=
  k2_pay6 (rows256 (scr2_0 V c) (t.val - 4)) (rows256 (scr2_1 V c) (t.val - 4)) (scr2_0 V c) (scr2_1 V c) (iblk2 V c 5 t)

/-- Contents agreeing with `G` on the first `n` blocks of 512 rows. -/
def Filled (G : Vec F S2048x2048 .bf16) (n : ℕ) (d : Vec F S2048x2048 .bf16) : Prop := ∀ y : S2048x2048.Idx, (y 0).val < 512 * n → d y = G y

theorem Filled.eq {G : Vec F S2048x2048 .bf16} {n : ℕ} {d : Vec F S2048x2048 .bf16} (h : Filled G n d) (hn : 4 ≤ n) : d = G :=
  funext fun y => h y (by have h₁ : (y 0).val < 2048 := (y 0).isLt; omega)

theorem filled_self (G : Vec F S2048x2048 .bf16) (n : ℕ) : Filled G n G := fun _ _ => rfl

/-- Storing block `n` of `G` over contents filled below `n` fills one block more. -/
theorem Filled.store {G : Vec F S2048x2048 .bf16} {n : ℕ} (hn : n < 4) {sp : Space} {κ : Kind} (v : View sig κ sp S2048x2048 .bf16) (f : v.ty.Contents (Elt F))
    (h : Filled G n (v.read (Elt F) f)) {off : Fin 2 → ℕ} (ho : off = ![512 * n, 0]) (inb : ∀ a, off a + S512x2048.size a ≤ S2048x2048.size a)
    (w : Vec F S512x2048 .bf16) (hw : ∀ y : S2048x2048.Idx, (y 0).val / 512 = n → w (inBlock y) = G y) :
    Filled G (n + 1) (v.read (Elt F) (v.writes (Elt F) f [⟨Rect.unit (s := S2048x2048) off S512x2048.size inb, w⟩])) := by
  intro y hy
  have hm : (y 0).val % 512 + 512 * ((y 0).val / 512) = (y 0).val := Nat.mod_add_div _ _
  by_cases hb : (y 0).val < 512 * n
  · rw [View.read_writes_cons_unit_of_not_mem v f inb w [] y ho 0 (Or.inl hb)]
    exact h y hb
  · have hq : (y 0).val / 512 = n := by omega
    rw [View.read_writes_cons_unit_of_mem v f inb w [] y (inBlock y) ho
      (Fin.forall_fin_two.mpr ⟨by show (y 0).val = 512 * n + (y 0).val % 512; omega, by show (y 1).val = 0 + (y 1).val; omega⟩)]
    exact hw y hq

/-- A load of the rows a reading point names. -/
theorem ld_rows256 (X : Vec F S2048x2048 .bf16) {n : ℕ} (hn : n < 8) {off : Fin 2 → ℕ} (ho : off = ![256 * n, 0]) (inb : ∀ a, off a + S256x2048.size a ≤ S2048x2048.size a) :
    View.ld X (Rect.unit (s := S2048x2048) off S256x2048.size inb) = rows256 X n := by
  subst ho
  funext x
  have h0 : (x 0).val < 256 := (x 0).isLt
  refine congrArg X (funext (Fin.forall_fin_two.mpr ⟨Fin.ext ?_, Fin.ext ?_⟩))
  · show 256 * n + 1 * (x 0).val = (256 * n + (x 0).val) % 2048
    rw [Nat.mod_eq_of_lt (by omega), Nat.one_mul]
  · show 0 + 1 * (x 1).val = (x 1).val
    omega

/-! ## The body's triples -/

set_option maxHeartbeats 1000000 in
/-- A filling point stores one block of rows in each scratch buffer; the outputs' buffers are not touched. -/
theorem fill2 (c : Dev nD) (i : grid2.Coords) (arg1 : Memref sig .tc .vmem S512x2048 .f32) (harg1 : arg1.IsWhole) (arg2 : Memref sig .tc .vmem S2048x2048 .bf16) (harg2 : arg2.IsWhole) (arg3 : Memref sig .tc .vmem S2048x2048 .bf16) (harg3 : arg3.IsWhole) (arg4 : Memref sig .tc .vmem S1x2048 .f32) (harg4 : arg4.IsWhole) (arg5 : Memref sig .tc .vmem S1x2048 .f32) (harg5 : arg5.IsWhole) (arg6 : Memref sig .tc .vmem S256x2048 .bf16) (harg6 : arg6.IsWhole) (arg7 : Memref sig .tc .vmem S256x2048 .f32) (harg7 : arg7.IsWhole) (arg8 : Memref sig .tc .vmem S256x2048 .f32) (harg8 : arg8.IsWhole) (arg9 : Memref sig .tc .vmem S256x2048 .bf16) (harg9 : arg9.IsWhole) (arg10 : Memref sig .tc .vmem S2048x2048 .bf16) (harg10 : arg10.IsWhole) (arg11 : Memref sig .tc .vmem S2048x2048 .bf16) (harg11 : arg11.IsWhole) (hc0 : k2_cond1 i = 1#1) (hc1 : ¬ k2_cond2 i = 1#1)
    (x0 : Vec F S512x2048 .f32) (x1 : Vec F S2048x2048 .bf16) (x2 : Vec F S2048x2048 .bf16) (x3 : Vec F S1x2048 .f32) (x4 : Vec F S1x2048 .f32) {n : ℕ} (hn : n < 4) (ho : k2_off1 i = ![512 * n, 0]) (G0 G1 d0 d1 : Vec F S2048x2048 .bf16) (hd0 : Filled G0 n d0) (hd1 : Filled G1 n d1)
    (hw0 : ∀ y : S2048x2048.Idx, (y 0).val / 512 = n → k2_pay2 x0 x1 x3 (inBlock y) = G0 y) (hw1 : ∀ y : S2048x2048.Idx, (y 0).val / 512 = n → k2_pay3 x0 x2 x4 (inBlock y) = G1 y) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ owns (c : Thread nD τ) arg10 fullShare d0 ∗ owns (c : Thread nD τ) arg11 fullShare d1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, ⌜Filled G0 (n + 1) d⌝ ∗ owns (c : Thread nD τ) arg10 fullShare d) ∗ (∃ d, ⌜Filled G1 (n + 1) d⌝ ∗ owns (c : Thread nD τ) arg11 fullShare d)) -∗ K ⟨⟩))
      ⊢ wp frame (wpE (defs₀ (F := F)) Variants.none c none) E (cc2__gmuz_body i arg1 harg1 arg2 harg2 arg3 harg3 arg4 harg4 arg5 harg5 arg6 harg6 arg7 harg7 arg8 harg8 arg9 harg9 arg10 harg10 arg11 harg11) K := by
  simp only [cc2__gmuz_body_eq_skeleton]; unfold cc2__gmuz_body_skel
  unfold owns
  iintro ⟨⟨%f0, %hf0, H0⟩, ⟨%f1, %hf1, H1⟩, ⟨%f2, %hf2, H2⟩, ⟨%f3, %hf3, H3⟩, ⟨%f4, %hf4, H4⟩, ⟨%g0, %hg0, HS0⟩, ⟨%g1, %hg1, HS1⟩, Hk⟩
  have e0 : ∀ X : Vec F S512x2048 .f32, View.ld X (Rect.unit (s := S512x2048) ![0, 0] S512x2048.size inb_S512x2048_S512x2048_0_0) = X := View.ld_unit_zero (by decide) _
  have e1 : ∀ X : Vec F S2048x2048 .bf16, View.ld X (Rect.unit (s := S2048x2048) ![0, 0] S2048x2048.size inb_S2048x2048_S2048x2048_0_0) = X := View.ld_unit_zero (by decide) _
  have e3 : ∀ X : Vec F S1x2048 .f32, View.ld X (Rect.unit (s := S1x2048) ![0, 0] S1x2048.size inb_S1x2048_S1x2048_0_0) = X := View.ld_unit_zero (by decide) _
  subst hf0 hf1 hf2 hf3 hf4 hg0 hg1
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [HS0]
  · iexists _; isplitr; swap
    · iexists _; isplitr; swap; · iexact HS0
      ipureintro; rfl
    ipureintro
    refine hd0.store hn _ _ ho _ _ fun y hy => ((?_ : _ = k2_pay2 _ _ _ (inBlock y)).trans (hw0 y hy))
    exact congrFun (congr (congrArg₂ k2_pay2 (e0 _) (e1 _)) (e3 _)) _
  · iexists _; isplitr; swap
    · iexists _; isplitr; swap; · iexact HS1
      ipureintro; rfl
    ipureintro
    refine hd1.store hn _ _ ho _ _ fun y hy => ((?_ : _ = k2_pay3 _ _ _ (inBlock y)).trans (hw1 y hy))
    exact congrFun (congr (congrArg₂ k2_pay3 (e0 _) (e1 _)) (e3 _)) _

/-- One store of the whole block of 256 rows covers it. -/
theorem cover256 {e : EltTy} (v : Vec F S256x2048 e) (y : S256x2048.Idx) :
    ∃ pc ∈ ([⟨Rect.unit (s := S256x2048) ![0, 0] S256x2048.size inb_S256x2048_S256x2048_0_0, v⟩] : List (View.Piece (Elt F) S256x2048 e)), y ∈ pc.1.set :=
  ⟨_, List.mem_singleton.mpr rfl, View.mem_set_unit_zero (by decide) inb_S256x2048_S256x2048_0_0 y⟩

set_option maxHeartbeats 1000000 in
/-- A reading point multiplies the rows it names by the whole scratch, and leaves the scratch as it was. -/
theorem read2 (c : Dev nD) (i : grid2.Coords) (arg1 : Memref sig .tc .vmem S512x2048 .f32) (harg1 : arg1.IsWhole) (arg2 : Memref sig .tc .vmem S2048x2048 .bf16) (harg2 : arg2.IsWhole) (arg3 : Memref sig .tc .vmem S2048x2048 .bf16) (harg3 : arg3.IsWhole) (arg4 : Memref sig .tc .vmem S1x2048 .f32) (harg4 : arg4.IsWhole) (arg5 : Memref sig .tc .vmem S1x2048 .f32) (harg5 : arg5.IsWhole) (arg6 : Memref sig .tc .vmem S256x2048 .bf16) (harg6 : arg6.IsWhole) (arg7 : Memref sig .tc .vmem S256x2048 .f32) (harg7 : arg7.IsWhole) (arg8 : Memref sig .tc .vmem S256x2048 .f32) (harg8 : arg8.IsWhole) (arg9 : Memref sig .tc .vmem S256x2048 .bf16) (harg9 : arg9.IsWhole) (arg10 : Memref sig .tc .vmem S2048x2048 .bf16) (harg10 : arg10.IsWhole) (arg11 : Memref sig .tc .vmem S2048x2048 .bf16) (harg11 : arg11.IsWhole) (hc0 : ¬ k2_cond1 i = 1#1) (hc1 : k2_cond2 i = 1#1)
    (X0 X1 : Vec F S2048x2048 .bf16) (x5 : Vec F S256x2048 .bf16) {n : ℕ} (hn : n < 8) (ho : k2_off2 i = ![256 * n, 0]) (E : Set ℕ) (K : PUnit → sProp 𝕄) :
    iprop(owns (c : Thread nD τ) arg6 fullShare x5 ∗ (∃ d, owns (c : Thread nD τ) arg7 fullShare d) ∗ (∃ d, owns (c : Thread nD τ) arg8 fullShare d) ∗ (∃ d, owns (c : Thread nD τ) arg9 fullShare d)
        ∗ owns (c : Thread nD τ) arg10 fullShare X0 ∗ owns (c : Thread nD τ) arg11 fullShare X1
        ∗ (iprop(owns (c : Thread nD τ) arg6 fullShare x5 ∗ owns (c : Thread nD τ) arg7 fullShare (k2_pay4 (rows256 X0 n) X0) ∗ owns (c : Thread nD τ) arg8 fullShare (k2_pay5 (rows256 X1 n) X1)
            ∗ owns (c : Thread nD τ) arg9 fullShare (k2_pay6 (rows256 X0 n) (rows256 X1 n) X0 X1 x5)
            ∗ owns (c : Thread nD τ) arg10 fullShare X0 ∗ owns (c : Thread nD τ) arg11 fullShare X1) -∗ K ⟨⟩))
      ⊢ wp frame (wpE (defs₀ (F := F)) Variants.none c none) E (cc2__gmuz_body i arg1 harg1 arg2 harg2 arg3 harg3 arg4 harg4 arg5 harg5 arg6 harg6 arg7 harg7 arg8 harg8 arg9 harg9 arg10 harg10 arg11 harg11) K := by
  simp only [cc2__gmuz_body_eq_skeleton]; unfold cc2__gmuz_body_skel
  unfold owns
  iintro ⟨⟨%f5, %hf5, H5⟩, ⟨%d6, %f6, -, H6⟩, ⟨%d7, %f7, -, H7⟩, ⟨%d8, %f8, -, H8⟩, ⟨%g0, %hg0, HS0⟩, ⟨%g1, %hg1, HS1⟩, Hk⟩
  have e1 : ∀ X : Vec F S2048x2048 .bf16, View.ld X (Rect.unit (s := S2048x2048) ![0, 0] S2048x2048.size inb_S2048x2048_S2048x2048_0_0) = X := View.ld_unit_zero (by decide) _
  have e5 : ∀ X : Vec F S256x2048 .bf16, View.ld X (Rect.unit (s := S256x2048) ![0, 0] S256x2048.size inb_S256x2048_S256x2048_0_0) = X := View.ld_unit_zero (by decide) _
  have er : ∀ X : Vec F S2048x2048 .bf16, View.ld X (Rect.unit (s := S2048x2048) (k2_off2 i) S256x2048.size (k2_off2_inb i hc1)) = rows256 X n := fun X => ld_rows256 X hn ho _
  have ec : ∀ {e : EltTy} (v : Vec F S256x2048 e), View.canon [(⟨Rect.unit (s := S256x2048) ![0, 0] S256x2048.size inb_S256x2048_S256x2048_0_0, v⟩ : View.Piece (Elt F) S256x2048 e)] = v := fun v => View.canon_unit_zero (by decide) _ _
  subst hf5 hg0 hg1
  sl_exec (disch := first | sl_exact hc0 | sl_exact hc1)
  sl_step
  iapply Hk
  isplitl [H5]
  · iexists f5; isplitr; · ipureintro; rfl
    iexact H5
  isplitl [H6]
  · iexists _; isplitr; swap; · iexact H6
    ipureintro
    refine (View.read_writes_eq_canon _ _ _ (cover256 _)).trans ((ec _).trans ?_)
    exact congrArg₂ k2_pay4 (er _) (e1 _)
  isplitl [H7]
  · iexists _; isplitr; swap; · iexact H7
    ipureintro
    refine (View.read_writes_eq_canon _ _ _ (cover256 _)).trans ((ec _).trans ?_)
    exact congrArg₂ k2_pay5 (er _) (e1 _)
  isplitl [H8]
  · iexists _; isplitr; swap; · iexact H8
    ipureintro
    refine (View.read_writes_eq_canon _ _ _ (cover256 _)).trans ((ec _).trans ?_)
    exact congr (congr (congr (congrArg₂ k2_pay6 (er _) (er _)) (e1 _)) (e1 _)) (e5 _)
  isplitl [HS0]
  · iexists g0; isplitr; · ipureintro; rfl
    iexact HS0
  · iexists g1; isplitr; · ipureintro; rfl
    iexact HS1

/-! ## The pipeline's proof data -/

abbrev scM2_0 : Memref sig .tc .vmem S2048x2048 .bf16 := Memref.whole cc2_scratch0
abbrev scM2_1 : Memref sig .tc .vmem S2048x2048 .bf16 := Memref.whole cc2_scratch1

/-- What the loop keeps before point `n`: each scratch buffer filled by the points before, the other scoped buffers
    and the generator register. -/
def phi2 (c : Dev nD) (n : ℕ) : sProp 𝕄 :=
  iprop((∃ d, ⌜Filled (scr2_0 V c) n d⌝ ∗ owns (c : Thread nD τ) scM2_0 fullShare d)
    ∗ (∃ d, ⌜Filled (scr2_1 V c) n d⌝ ∗ owns (c : Thread nD τ) scM2_1 fullShare d)
    ∗ Pipeline.scopedRestBut (Ix := Unit) (Name := ℕ) (U := Pipeline.UD sig nD τ) (Lvl := ℕ) (Val := Elt F) spec2 c [cc2_scratch0, cc2_scratch1]
    ∗ (∃ r, prngReg c r))

def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 V c t
    | ⟨7, _⟩ => out2_7 V c t
    | ⟨8, _⟩ => out2_8 V c t
  Φ t := phi2 V c t.val
  q _ := fullShare
  owed _ := 0

theorem A_eq2 (c : Dev nD) (w : Fin cfg2.W) : (dat2 V c).A w = V c (Pipeline.arrRef spec2 w) := by
  dsimp only [dat2]
theorem phi_eq2 (c : Dev nD) (t : Fin (cfg2.N + 1)) : (dat2 V c).Φ t = phi2 V c t.val := by dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 V c t := by dsimp only [dat2]
theorem after2_7 (c : Dev nD) (t : Fin cfg2.N) : (dat2 V c).after 7 t = out2_7 V c t := by dsimp only [dat2]
theorem after2_8 (c : Dev nD) (t : Fin cfg2.N) : (dat2 V c).after 8 t = out2_8 V c t := by dsimp only [dat2]

/-- An input window whose buffer the body leaves in place holds its block at every point. -/
theorem before2_in (c : Dev nD) (w : Fin cfg2.W) (hw : (cfg2.win w).isOut = false) (hlive : ∀ i, cfg2.idle w i = false)
    (hclip : ∀ t t' : Fin cfg2.N, (cfg2.win w).index t = (cfg2.win w).index t' → (cfg2.win w).clip (cfg2.grid.coords t) = (cfg2.win w).clip (cfg2.grid.coords t'))
    (hkeep : ∀ t, (cfg2.win w).cut (cfg2.grid.coords t) ((dat2 V c).after w t) = (dat2 V c).blockOf w t) (t : Fin cfg2.N) (d : (cfg2.win w).block.Idx → Elt F (cfg2.win w).elt) :
    (dat2 V c).before w t d = (dat2 V c).fetched w t d := (dat2 V c).before_in_eq_fetched w hw hlive hclip hkeep t d

theorem before2_0 (c : Dev nD) (t : Fin cfg2.N) (d) : (dat2 V c).before 0 t d = iblk2 V c 0 t :=
  before2_in V c 0 rfl (fun _ => rfl) (fun _ _ _ => rfl) (fun t => by rw [after2_0]; rfl) t d
theorem before2_1 (c : Dev nD) (t : Fin cfg2.N) (d) : (dat2 V c).before 1 t d = iblk2 V c 1 t :=
  before2_in V c 1 rfl (fun _ => rfl) (fun _ _ _ => rfl) (fun t => by rw [after2_1]; rfl) t d
theorem before2_2 (c : Dev nD) (t : Fin cfg2.N) (d) : (dat2 V c).before 2 t d = iblk2 V c 2 t :=
  before2_in V c 2 rfl (fun _ => rfl) (fun _ _ _ => rfl) (fun t => by rw [after2_2]; rfl) t d
theorem before2_3 (c : Dev nD) (t : Fin cfg2.N) (d) : (dat2 V c).before 3 t d = iblk2 V c 3 t :=
  before2_in V c 3 rfl (fun _ => rfl) (fun _ _ _ => rfl) (fun t => by rw [after2_3]; rfl) t d
theorem before2_4 (c : Dev nD) (t : Fin cfg2.N) (d) : (dat2 V c).before 4 t d = iblk2 V c 4 t :=
  before2_in V c 4 rfl (fun _ => rfl) (fun _ _ _ => rfl) (fun t => by rw [after2_4]; rfl) t d
theorem before2_5 (c : Dev nD) (t : Fin cfg2.N) (d) : (dat2 V c).before 5 t d = iblk2 V c 5 t :=
  before2_in V c 5 rfl (fun _ => rfl) (fun _ _ _ => rfl) (fun t => by rw [after2_5]; rfl) t d

/-! ## The body obligation -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t
    ∗ (dat2 V c).leavesExact 3 t ∗ (dat2 V c).leavesExact 4 t ∗ (dat2 V c).leavesExact 5 t
    ∗ (dat2 V c).leavesExact 6 t ∗ (dat2 V c).leavesExact 7 t ∗ (dat2 V c).leavesExact 8 t)

/-- A window not idle at a point is left at what the body leaves there. -/
theorem leaves_live2 (c : Dev nD) (w : Fin cfg2.W) (t : Fin cfg2.N) (h : cfg2.idle w (cfg2.grid.coords t) = false) :
    (dat2 V c).leavesExact w t = owns (c : Thread nD τ) ((cfg2.win w).stage (cfg2.slots t w)) fullShare ((dat2 V c).after w t) := by
  unfold Dat.leavesExact; rw [h]

theorem idleOut2 (t : Fin cfg2.N) : (!(k2_cond2 (grid2.coords t) == 1#1)) = decide (t.val < 4) := by
  by_cases h : t.val < 4
  · have := mt (reads2 t).mp (by omega); simp [this, h]
  · have := (reads2 t).mpr (by omega); simp [this, h]

set_option maxHeartbeats 1600000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl, phi_eq2, phi_eq2,
    leaves_live2 V c 0 t rfl, leaves_live2 V c 1 t rfl, leaves_live2 V c 2 t rfl, leaves_live2 V c 3 t rfl, leaves_live2 V c 4 t rfl, leaves_live2 V c 5 t rfl,
    after2_0, after2_1, after2_2, after2_3, after2_4, after2_5]
  rw [show (t.castSucc).val = t.val from rfl, show (t.succ).val = t.val + 1 from rfl]
  have hN : t.val < 12 := lt_of_lt_of_eq t.isLt (show cfg2.N = 12 from N_2)
  by_cases h : t.val < 4
  · have hi : (!(k2_cond2 (grid2.coords t) == 1#1)) = true := (idleOut2 t).trans (decide_eq_true h)
    rw [(dat2 V c).leavesExact_idle 6 t hi (noFlush2 6 t h), (dat2 V c).leavesExact_idle 7 t hi (noFlush2 7 t h), (dat2 V c).leavesExact_idle 8 t hi (noFlush2 8 t h)]
    unfold phi2
    iintro ⟨⟨⟨%g0, %hg0, HS0⟩, ⟨%g1, %hg1, HS1⟩, HR⟩, Ho, ⟨%d0, H0⟩, ⟨%d1, H1⟩, ⟨%d2, H2⟩, ⟨%d3, H3⟩, ⟨%d4, H4⟩, ⟨%d5, H5⟩, H6, H7, H8⟩
    iapply (fill2 c (grid2.coords t) _ _ _ _ _ _ _ _ _ _ _ _ _ _ _ _ _ _ _ _ _ _ ((fills2 t).mpr h) (mt (reads2 t).mp (by omega)) (iblk2 V c 0 t) (iblk2 V c 1 t) (iblk2 V c 2 t) (iblk2 V c 3 t) (iblk2 V c 4 t) h (fillRow2 t h) (scr2_0 V c) (scr2_1 V c) g0 g1 hg0 hg1
      (fun y hy => by unfold scr2_0; rw [show fillPt _ (quarter_lt y) = t from Fin.ext hy]) (fun y hy => by unfold scr2_1; rw [show fillPt _ (quarter_lt y) = t from Fin.ext hy]) Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, HS0, HS1⟩
    isplitl [HS0 HS1 HR]
    · isplitl [HS0]; · iexact HS0
      isplitl [HS1]; · iexact HS1
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · have hi : (!(k2_cond2 (grid2.coords t) == 1#1)) = false := (idleOut2 t).trans (decide_eq_false h)
    rw [leaves_live2 V c 6 t hi, leaves_live2 V c 7 t hi, leaves_live2 V c 8 t hi, after2_6, after2_7, after2_8]
    unfold phi2
    iintro ⟨⟨⟨%g0, %hg0, HS0⟩, ⟨%g1, %hg1, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    have e0 := hg0.eq (by omega)
    have e1 := hg1.eq (by omega)
    iapply (read2 c (grid2.coords t) _ _ _ _ _ _ _ _ _ _ _ _ _ _ _ _ _ _ _ _ _ _ (mt (fills2 t).mp h) ((reads2 t).mpr (by omega)) (scr2_0 V c) (scr2_1 V c) (iblk2 V c 5 t) (by omega) (readRow2 t (by omega)) Set.univ _)
    isplitl [H5]; · iexact H5
    isplitl [H6]; · iexists _; iexact H6
    isplitl [H7]; · iexists _; iexact H7
    isplitl [H8]; · iexists _; iexact H8
    isplitl [HS0]; · rw [← e0]; iexact HS0
    isplitl [HS1]; · rw [← e1]; iexact HS1
    iintro ⟨H5, H6, H7, H8, HS0, HS1⟩
    isplitl [HS0 HS1 HR]
    · isplitl [HS0]
      · iexists _; isplitr; swap; · iexact HS0
        ipureintro; exact filled_self _ _
      isplitl [HS1]
      · iexists _; isplitr; swap; · iexact HS1
        ipureintro; exact filled_self _ _
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

theorem defs₀_row2 (t : Fin cfg2.N) : defs₀ (F := F) .tc cfg2.body (cfg2.bodyArgs t (cfg2.slots t)) = bodyAt2 t := by
  unfold defs₀; rw [Defs.onTc_tc]

theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

/-! ## The invariant at the region's ends -/

/-- The rest of the scoped memory with the two scratch matrices taken out. -/
theorem split2 (c : Dev nD) : (Pipeline.scopedRest (Ix := Unit) (Name := ℕ) (U := Pipeline.UD sig nD τ) (Lvl := ℕ) (Val := Elt F) spec2 c : sProp 𝕄)
    = iprop(((∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f))
      ∗ Pipeline.scopedRestBut (Ix := Unit) (Name := ℕ) (U := Pipeline.UD sig nD τ) (Lvl := ℕ) (Val := Elt F) spec2 c [cc2_scratch0, cc2_scratch1]) :=
  Pipeline.scopedRest_split_of_list spec2 c [cc2_scratch0, cc2_scratch1] (by decide) (by decide)

theorem phi2_in (c : Dev nD) : iprop(Pipeline.scopedRest (Ix := Unit) (Name := ℕ) (U := Pipeline.UD sig nD τ) (Lvl := ℕ) (Val := Elt F) spec2 c ∗ (∃ r, prngReg c r)) ⊢ (dat2 V c).Φ 0 := by
  rw [phi_eq2, split2]; unfold phi2
  iintro ⟨⟨⟨⟨%f0, HS0⟩, ⟨%f1, HS1⟩⟩, HR⟩, Hp⟩
  isplitl [HS0]
  · iexists f0; isplitr
    · ipureintro; intro y hy; exact absurd hy (by show ¬ _ < 512 * 0; omega)
    rw [owns_whole]; iexact HS0
  isplitl [HS1]
  · iexists f1; isplitr
    · ipureintro; intro y hy; exact absurd hy (by show ¬ _ < 512 * 0; omega)
    rw [owns_whole]; iexact HS1
  isplitl [HR]; · iexact HR
  iexact Hp

theorem phi2_out (c : Dev nD) : (dat2 V c).Φ (Fin.last cfg2.N) ⊢ iprop(Pipeline.scopedRest (Ix := Unit) (Name := ℕ) (U := Pipeline.UD sig nD τ) (Lvl := ℕ) (Val := Elt F) spec2 c ∗ (∃ r, prngReg c r)) := by
  rw [phi_eq2, split2]; unfold phi2
  simp only [scM2_0, scM2_1, owns_whole]
  iintro ⟨⟨%f0, -, HS0⟩, ⟨%f1, -, HS1⟩, HR, Hp⟩
  isplitr [Hp]
  · isplitr [HR]
    · isplitl [HS0]
      · iexists f0; iexact HS0
      · iexists f1; iexact HS1
    iexact HR
  iexact Hp

end Regions

end Cert.KernelIdeal.Own

end
-- ==== Proof.Run.lean ====
/-
The run of the program: the regions' records, what each region leaves in its results, and the run of @main with
  every buffer of a core at the contents the last item leaves.
-/
module

public import proofs.«01_k».proof.Proof.Gen.KernelIdeal.Regions
public import proofs.«01_k».proof.Proof.Region01
public import proofs.«01_k».proof.Proof.Region2

@[expose] public section

set_option maxErrors 8
set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # The run of @main: the three regions between the host operations -/

variable (m : (ℓ : Loc nD τ sig) → Buf (Elt F) ℓ) (ρ : Dev nD → PrngReg)

/-! ## The launch's data: no cell owes anything, so one level is enough -/

/-- The index every cell of a TensorCore carries. -/
def cellIx : GSem nD τ sig → Finset Unit := fun g => if g.1.2 = .tc then {()} else ∅
/-- Every cell's level. -/
def cellLv : GSem nD τ sig → Unit → ℕ := fun _ _ => 0
/-- What rides beside the buffers from item to item: the core owes nothing, and its generator register at some state. -/
def beside (c : Dev nD) : sProp 𝕄 := iprop((∃ W, owes (c : Thread nD τ) (0 : CellTallies nD τ sig Unit) W) ∗ (∃ r, prngReg c r))

theorem cut (pdats : (p : Fin 3) → (c : Dev nD) → Dat τ (Elt F) Unit ℕ (Pipeline.UD sig nD τ) ℕ (cfgs p) c) (p : Fin 3) :
    Pipeline.LevelCut (pcfgs (F := F)) adm () cellIx cellLv p (fun _ => 0) (fun _ : Dev nD => 0) where
  hι c w s := by unfold cellIx; simp
  hιb c w s := le_refl _
  hD c g i h := absurd h (Nat.lt_irrefl 0)

/-! ## What each region leaves -/

/-- Region 0's results, from the launch contents. -/
def outs0 : Outs (F := F) := fun _ r c =>
  Pipeline.afterRegion (dat0 (fun c b => V0 m c b) c) (V0 m c) r
/-- … and region 1's, from what it finds. -/
def outs1 : Outs (F := F) := fun J r c => match J with
  | 1 => outs0 m 1 r c
  | _ => Pipeline.afterRegion (dat1 (fun c b => V2 m (outs0 m) c b) c) (V2 m (outs0 m) c) r
/-- … and region 2's. -/
def outs2 : Outs (F := F) := fun J r c => match J with
  | 1 => outs0 m 1 r c
  | 3 => outs1 m 3 r c
  | _ => Pipeline.afterRegion (dat2 (fun c b => V6 m (outs1 m) c b) c) (V6 m (outs1 m) c) r

/-- Every region's proof data, at the contents it is entered with. -/
def pdats : (p : Fin 3) → (c : Dev nD) → Dat τ (Elt F) Unit ℕ (Pipeline.UD sig nD τ) ℕ (cfgs p) c
  | 0 => fun c => dat0 (fun c b => V0 m c b) c
  | 1 => fun c => dat1 (fun c b => V2 m (outs0 m) c b) c
  | 2 => fun c => dat2 (fun c b => V6 m (outs1 m) c b) c

/-- A buffer that is no output window's array is after the region as before it. -/
theorem afterRegion_ne {cfg : Cfg sig Λ₀} {c : Dev nD} (dat : Dat τ (Elt F) Unit ℕ (Pipeline.UD sig nD τ) ℕ cfg c) (W : Valuation τ sig (Elt F))
    (hinj : Function.Injective (Pipeline.arrRef cfg.spec)) (hA : ∀ w, dat.A w = W (Proc.devRef .tc (Pipeline.arrRef cfg.spec w)))
    (b : DevRef τ sig) (h : ∀ w, (cfg.win w).isOut = true → b ≠ Proc.devRef .tc (Pipeline.arrRef cfg.spec w)) :
    Pipeline.afterRegion dat W b = W b := by
  by_cases hw : ∃ w, b = Proc.devRef .tc (Pipeline.arrRef cfg.spec w)
  · obtain ⟨w, rfl⟩ := hw
    refine Pipeline.afterRegion_keeps dat W hinj hA _ fun w' e => ?_
    by_contra hne
    exact h w' (by simpa using hne) (by rw [e])
  · unfold Pipeline.afterRegion
    rw [dif_neg hw]

theorem left0 (c : Dev nD) : Pipeline.afterRegion (dat0 (fun c b => V0 m c b) c) (V0 m c) = V1 m (outs2 m) c := by
  funext b
  show _ = Function.update (V0 m c) (Proc.devRef .tc main_v0) (outs0 m 1 main_v0 c) b
  by_cases h : b = Proc.devRef .tc main_v0
  · subst h; rw [Function.update_self]; rfl
  · rw [Function.update_of_ne h]
    refine afterRegion_ne _ _ launch0.win.arr_inj (fun w => A_eq0 _ c w) b fun w hw => ?_
    match w, hw with
    | ⟨2, _⟩, _ => exact h

theorem left1 (c : Dev nD) : Pipeline.afterRegion (dat1 (fun c b => V2 m (outs0 m) c b) c) (V2 m (outs0 m) c) = V3 m (outs2 m) c := by
  funext b
  show _ = Function.update (Function.update (V2 m (outs0 m) c) (Proc.devRef .tc main_v2_0) (outs1 m 3 main_v2_0 c))
    (Proc.devRef .tc main_v2_1) (outs1 m 3 main_v2_1 c) b
  by_cases h1 : b = Proc.devRef .tc main_v2_1
  · subst h1; rw [Function.update_self]; rfl
  rw [Function.update_of_ne h1]
  by_cases h0 : b = Proc.devRef .tc main_v2_0
  · subst h0; rw [Function.update_self]; rfl
  rw [Function.update_of_ne h0]
  refine afterRegion_ne _ _ launch1.win.arr_inj (fun w => A_eq1 _ c w) b fun w hw => ?_
  match w, hw with
  | ⟨5, _⟩, _ => exact h0
  | ⟨6, _⟩, _ => exact h1

theorem left2 (c : Dev nD) : Pipeline.afterRegion (dat2 (fun c b => V6 m (outs1 m) c b) c) (V6 m (outs1 m) c) = V7 m (outs2 m) c := by
  funext b
  show _ = Function.update (Function.update (Function.update (V6 m (outs1 m) c) (Proc.devRef .tc main_v14_0) (outs2 m 7 main_v14_0 c))
    (Proc.devRef .tc main_v14_1) (outs2 m 7 main_v14_1 c)) (Proc.devRef .tc main_v14_2) (outs2 m 7 main_v14_2 c) b
  by_cases h2 : b = Proc.devRef .tc main_v14_2
  · subst h2; rw [Function.update_self]; rfl
  rw [Function.update_of_ne h2]
  by_cases h1 : b = Proc.devRef .tc main_v14_1
  · subst h1; rw [Function.update_self]; rfl
  rw [Function.update_of_ne h1]
  by_cases h0 : b = Proc.devRef .tc main_v14_0
  · subst h0; rw [Function.update_self]; rfl
  rw [Function.update_of_ne h0]
  refine afterRegion_ne _ _ launch2.win.arr_inj (fun w => A_eq2 _ c w) b fun w hw => ?_
  match w, hw with
  | ⟨6, _⟩, _ => exact h0
  | ⟨7, _⟩, _ => exact h1
  | ⟨8, _⟩, _ => exact h2

/-! ## The regions' records -/

/-- A region's windows' arrays are among the buffers the run holds. -/
theorem arrs_held {W gr : ℕ} (win : Fin W → Pipeline.WinSpec sig gr) (h : ∀ w, (Pipeline.arrRef win w).isScoped = false) :
    Pipeline.arrRefs (τ := τ) win ⊆ Pipeline.ucRefs τ sig := by
  intro b hb
  obtain ⟨r, hr, rfl⟩ := Finset.mem_map.mp hb
  obtain ⟨w, -, rfl⟩ := Finset.mem_image.mp hr
  exact Pipeline.devRef_mem_ucRefs (h w)

/-- A region's record from proof data `dat` that enter the arrays at `W` and hold them whole. -/
def segOf (p : Fin 3) (pd : (p : Fin 3) → (c : Dev nD) → Dat τ (Elt F) Unit ℕ (Pipeline.UD sig nD τ) ℕ (cfgs p) c)
    (kit : Pipeline.LaunchFacts (nD := nD) (τ := τ) cfgs p) (W : Dev nD → Valuation τ sig (Elt F))
    (hbody : ∀ c, BodyObligation (pd p c) (defs₀ (F := F)) Variants.none () Set.univ) (howed : ∀ c t, (pd p c).owed t = 0)
    (hrec : ∀ c, (pd p c).recorded 0 = Set.univ) (hq : ∀ c w, (pd p c).q w = fullShare)
    (hin : ∀ c, iprop(Pipeline.scopedRest (Ix := Unit) (Name := ℕ) (U := Pipeline.UD sig nD τ) (Lvl := ℕ) (Val := Elt F) (cfgs p).spec c ∗ (∃ r, prngReg c r)) ⊢ (pd p c).Φ 0)
    (hout : ∀ c, (pd p c).Φ (Fin.last (cfgs p).N) ⊢ iprop(Pipeline.scopedRest (Ix := Unit) (Name := ℕ) (U := Pipeline.UD sig nD τ) (Lvl := ℕ) (Val := Elt F) (cfgs p).spec c ∗ (∃ r, prngReg c r)))
    (hA : ∀ c w, (pd p c).A w = W c (Proc.devRef .tc (Pipeline.arrRef (cfgs p).spec w))) :
    Pipeline.RegionSeg (pcfgs (F := F)) adm pd () (defs₀ (F := F)) Variants.none cellIx cellLv p :=
  Pipeline.RegionSeg.ofHeldIn _ _ _ _ _ _ _ _ p (fun _ => 0) (Pipeline.ucRefs τ sig)
    (fun c => iprop(∃ r, prngReg c r)) (fun c => iprop(∃ r, prngReg c r)) (kit.toP) rfl
    (fun c => (hbody c).loose) howed hrec (fun c => (pd p c).share_full (hq c))
    hin hout (fun _ => 0) (cut pd p) (fun _ => iprop(emp)) W
    (fun c w => hA c w)

/-- What rides beside, as a region's record takes it … -/
theorem beside_in (c : Dev nD) : beside (F := F) c ⊢ iprop((∃ W, owes (c : Thread nD τ) (0 : CellTallies nD τ sig Unit) W) ∗ (∃ r, prngReg c r) ∗ emp) := by
  unfold beside
  iintro ⟨HO, Hp⟩
  isplitl [HO]; · iexact HO
  isplitl [Hp]; · iexact Hp
  iempintro
/-- … and as it gives it back. -/
theorem beside_out (c : Dev nD) : iprop((∃ W, owes (c : Thread nD τ) (0 : CellTallies nD τ sig Unit) W) ∗ (∃ r, prngReg c r) ∗ emp) ⊢ beside (F := F) c := by
  unfold beside
  iintro ⟨HO, Hp, -⟩
  isplitl [HO]; · iexact HO
  iexact Hp

theorem segOf_enter {p : Fin 3} {pd kit} {W : Dev nD → Valuation τ sig (Elt F)} {hbody howed hrec hq hin hout hA} (h : ∀ w, (Pipeline.arrRef (cfgs p).spec w).isScoped = false) (c : Dev nD) :
    iprop(StableHlo.held (c : Thread nD τ) (Pipeline.ucRefs τ sig) (W c) ∗ beside c)
      ⊢ (segOf (F := F) p pd kit W hbody howed hrec hq hin hout hA).pre c := by
  unfold segOf
  refine BIBase.Entails.trans ?_ (Pipeline.RegionSeg.ofHeldIn_pre (arrs_held _ h) c)
  exact sep_mono .rfl (beside_in c)
theorem segOf_leave {p pd kit W hbody howed hrec hq hin hout hA} (h : ∀ w, (Pipeline.arrRef (cfgs p).spec w).isScoped = false) (c : Dev nD) :
    (segOf (F := F) p pd kit W hbody howed hrec hq hin hout hA).post c
      ⊢ iprop(StableHlo.held (c : Thread nD τ) (Pipeline.ucRefs τ sig) (Pipeline.afterRegion (pd p c) (W c)) ∗ beside c) :=
  (Pipeline.RegionSeg.ofHeldIn_post (arrs_held _ h) c).trans (sep_mono .rfl (beside_out c))

def R0 : Pipeline.RegionSeg (pcfgs (F := F)) adm (pdats m) () (defs₀ (F := F)) Variants.none cellIx cellLv 0 :=
  segOf 0 (pdats m) launch0 (V0 m) (fun c => body_obligation0 _ c) (fun _ _ => rfl) (fun _ => rfl) (fun _ _ => rfl)
    (fun c => .rfl) (fun c => .rfl) (fun c w => A_eq0 (fun c b => V0 m c b) c w)
def R1 : Pipeline.RegionSeg (pcfgs (F := F)) adm (pdats m) () (defs₀ (F := F)) Variants.none cellIx cellLv 1 :=
  segOf 1 (pdats m) launch1 (V2 m (outs0 m)) (fun c => body_obligation1 _ c) (fun _ _ => rfl) (fun _ => rfl) (fun _ _ => rfl)
    (fun c => .rfl) (fun c => .rfl) (fun c w => A_eq1 (fun c b => V2 m (outs0 m) c b) c w)
def R2 : Pipeline.RegionSeg (pcfgs (F := F)) adm (pdats m) () (defs₀ (F := F)) Variants.none cellIx cellLv 2 :=
  segOf 2 (pdats m) launch2 (V6 m (outs1 m)) (fun c => body_obligation2 _ c) (fun _ _ => rfl) (fun _ => rfl) (fun _ _ => rfl)
    (fun c => phi2_in _ c) (fun c => phi2_out _ c) (fun c w => A_eq2 (fun c b => V6 m (outs1 m) c b) c w)

/-- A later region's results do not show before it. -/
theorem same2 (c : Dev nD) : V2 m (outs2 m) c = V2 m (outs0 m) c :=
  congrArg (StableHlo.after hostOps1) (congrArg (Function.update (V0 m c) _) (rfl : outs2 m 1 main_v0 c = outs0 m 1 main_v0 c))
theorem same2' (c : Dev nD) : V2 m (outs1 m) c = V2 m (outs0 m) c :=
  congrArg (StableHlo.after hostOps1) (congrArg (Function.update (V0 m c) _) (rfl : outs1 m 1 main_v0 c = outs0 m 1 main_v0 c))
theorem same3 (c : Dev nD) : V3 m (outs2 m) c = V3 m (outs1 m) c := by
  show Function.update (Function.update (V2 m (outs2 m) c) (Proc.devRef .tc main_v2_0) (outs1 m 3 main_v2_0 c))
      (Proc.devRef .tc main_v2_1) (outs1 m 3 main_v2_1 c)
    = Function.update (Function.update (V2 m (outs1 m) c) (Proc.devRef .tc main_v2_0) (outs1 m 3 main_v2_0 c))
      (Proc.devRef .tc main_v2_1) (outs1 m 3 main_v2_1 c)
  rw [same2, same2']
theorem same6 (c : Dev nD) : V6 m (outs2 m) c = V6 m (outs1 m) c :=
  congrArg (StableHlo.after hostOps2_2) (congrArg (StableHlo.after hostOps2_1) (congrArg (StableHlo.after hostOps2) (same3 m c)))

theorem enter0 (c : Dev nD) : iprop(StableHlo.held (c : Thread nD τ) (Pipeline.ucRefs τ sig) (V0 m c) ∗ beside c) ⊢ (R0 m).pre c :=
  segOf_enter (by decide) c
theorem leave0 (c : Dev nD) : (R0 m).post c ⊢ iprop(StableHlo.held (c : Thread nD τ) (Pipeline.ucRefs τ sig) (V1 m (outs2 m) c) ∗ beside c) := by
  rw [← left0 m c]
  exact segOf_leave (by decide) c
theorem enter1 (c : Dev nD) : iprop(StableHlo.held (c : Thread nD τ) (Pipeline.ucRefs τ sig) (V2 m (outs2 m) c) ∗ beside c) ⊢ (R1 m).pre c := by
  rw [same2 m c]
  exact segOf_enter (by decide) c
theorem leave1 (c : Dev nD) : (R1 m).post c ⊢ iprop(StableHlo.held (c : Thread nD τ) (Pipeline.ucRefs τ sig) (V3 m (outs2 m) c) ∗ beside c) := by
  rw [← left1 m c]
  exact segOf_leave (by decide) c
theorem enter2 (c : Dev nD) : iprop(StableHlo.held (c : Thread nD τ) (Pipeline.ucRefs τ sig) (V6 m (outs2 m) c) ∗ beside c) ⊢ (R2 m).pre c := by
  rw [same6 m c]
  exact segOf_enter (by decide) c
theorem leave2 (c : Dev nD) : (R2 m).post c ⊢ iprop(StableHlo.held (c : Thread nD τ) (Pipeline.ucRefs τ sig) (V7 m (outs2 m) c) ∗ beside c) := by
  rw [← left2 m c]
  exact segOf_leave (by decide) c

/-! ## The run -/

/-- The launch's ghost state: every staging buffer's rounds, and no transfer's counter yet. -/
def ghost : Pipeline.UD sig nD τ :=
  (initOf (Pipeline.cells cfgs cellOf_inj) (Pipeline.launchToks cfgs cellOf_inj), 1)

theorem ghost_split : (ownU ghost : sProp 𝕄) ⊢ |={Set.univ}=> iprop(BI.own (embL (initOf (Pipeline.cells cfgs cellOf_inj) (Pipeline.launchToks cfgs cellOf_inj)))
    ∗ bigSep Finset.univ fun _ : Dev nD => iprop(emp)) := by
  unfold ghost
  iintro Hu
  ihave H := (ownU_pair _ _) $$ Hu
  icases H with ⟨HP, -⟩
  imodintro
  isplitl [HP]; · iexact HP
  iapply (show (BI.emp : sProp 𝕄) ⊢ bigSep Finset.univ (fun _ : Dev nD => (BI.emp : sProp 𝕄)) from by rw [BI.bigSep_emp_const])
  iempintro

-- the run theorem's implicit arguments are found by unifying its conclusion with this one, which takes unfolding plain
-- definitions in a metavariable's type
set_option backward.isDefEq.respectTransparency.types false in
/-- The program's run: it ends with every buffer of a core at the last valuation, and every counter at zero. -/
theorem run_main : θ_run defs (onTc (τ := τ) (main (F := F))) ⟨m, fun _ => 0, ρ⟩ (fun r =>
    (∀ c : Dev nD, ∀ b ∈ Pipeline.ucRefs τ sig, r.2.mem (c, b) = V7 m (outs2 m) c b) ∧ r.2.sem = fun _ => 0) := by
  refine Pipeline.θ_run_regions_kit_dev_sems (pcfgs (F := F)) adm (pdats m) () cellOf_inj embL (defs₀ (F := F)) Variants.none cellIx cellLv m ρ main
    (segs m (outs2 m) Variants.none cellIx cellLv (fun _ => beside) () (pdats m) (R0 m) (R1 m) (R2 m))
    (fun c Q => by
      rewrite [main_chain c, Pipeline.Seg.run_eq_chain,
        show (segs m (outs2 m) Variants.none cellIx cellLv (fun _ => beside) () (pdats m) (R0 m) (R1 m) (R2 m) c).map Pipeline.Seg.prog = [
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          Prog.lift (.customCall (Pipeline.entry 2) ()) ] from rfl]
      dsimp (config := { failIfUnchanged := false }) only
      exact .rfl)
    (fun c => by simp only [segs, Pipeline.Seg.pipes_host, Pipeline.Seg.pipes_region, Pipeline.Seg.pipes_nil]; decide) (fun _ => 0)
    (fun g hg => if_neg hg) (fun _ => iprop(emp)) ghost ghost_split
    (T₀ := fun c => iprop(StableHlo.held (c : Thread nD τ) (Pipeline.ucRefs τ sig) (V0 m c) ∗ beside c))
    (Tₙ := fun c => StableHlo.held (c : Thread nD τ) (Pipeline.ucRefs τ sig) (V7 m (outs2 m) c))
    (hch := fun c => ⟨enter0 m c, leave0 m c, enter1 m c, leave1 m c, .rfl, .rfl, enter2 m c, (leave2 m c).trans (sep_mono .rfl ?_)⟩)
    (hinit := ?_) (QY := fun c s => ∀ b ∈ Pipeline.ucRefs τ sig, s.mem (c, b) = V7 m (outs2 m) c b)
    (hfin := fun c s' => ?_) (hQ := fun _ h hz => ⟨h, funext fun g => hz g (.inr (regions_no_unscoped g.2))⟩)
  · unfold beside
    iintro ⟨HO, -⟩
    iexact HO
  · refine Pipeline.initEach cellIx cellLv fun c => ?_
    rw [show unscopedBufs c (fun b => m ((c.tc : Thread nD τ).loc b)) = StableHlo.held (c : Thread nD τ) (Pipeline.ucRefs τ sig) (V0 m c) from
      Pipeline.unscopedBufs_held (Ix := Unit) (Name := ℕ) (U := Pipeline.UD sig nD τ) (Lvl := ℕ) c (V0 m c)]
    iintro ⟨⟨Hh, -, HO, -, Hp, -⟩, -⟩
    imodintro
    isplitl [Hh]; · iexact Hh
    unfold beside
    isplitl [HO]
    · iexists ∅; iexact HO
    · iexists (ρ c); iexact Hp
  · unfold StableHlo.held
    iintro ⟨Hh, HSI⟩
    ihave Hr := (pointsTo_read_all (Pipeline.ucRefs τ sig) (fun b => ((c : Thread nD τ).1, b)) (V7 m (outs2 m) c) s') $$ [Hh HSI]
    · isplitl [Hh] <;> iassumption
    icases Hr with ⟨%h, HSI⟩
    imodintro
    isplitr
    · ipureintro
      exact h
    · iexact HSI

/-- A buffer of @main read off the end of the run. -/
theorem read_end {c : Dev nD} {s : MemSt nD τ sig (Elt F)} (h : ∀ b ∈ Pipeline.ucRefs τ sig, s.mem (c, b) = V7 m (outs2 m) c b) (b : Ref sig .tc)
    (hb : b.isScoped = false) : s.mem ((c.tc : Thread nD τ).loc b) = V7 m (outs2 m) c b :=
  h _ (Pipeline.devRef_mem_ucRefs hb)

/-- Every argument ends as launched. -/
theorem args_end {c : Dev nD} {s : MemSt nD τ sig (Elt F)} (h : ∀ b ∈ Pipeline.ucRefs τ sig, s.mem (c, b) = V7 m (outs2 m) c b) :
    s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_arg5) = m ((c.tc : Thread nD τ).loc main_arg5)
    ∧ s.mem ((c.tc : Thread nD τ).loc main_arg6) = m ((c.tc : Thread nD τ).loc main_arg6)
    ∧ s.mem ((c.tc : Thread nD τ).loc main_arg7) = m ((c.tc : Thread nD τ).loc main_arg7) :=
  ⟨(read_end m h main_arg0 rfl).trans (V7_main_arg0 m _ c), (read_end m h main_arg1 rfl).trans (V7_main_arg1 m _ c),
    (read_end m h main_arg2 rfl).trans (V7_main_arg2 m _ c), (read_end m h main_arg3 rfl).trans (V7_main_arg3 m _ c),
    (read_end m h main_arg4 rfl).trans (V7_main_arg4 m _ c), (read_end m h main_arg5 rfl).trans (V7_main_arg5 m _ c),
    (read_end m h main_arg6 rfl).trans (V7_main_arg6 m _ c), (read_end m h main_arg7 rfl).trans (V7_main_arg7 m _ c)⟩

end Cert.KernelIdeal.Own

end
-- ==== Proof.Math.lean ====
/-
What each region leaves in its result arrays, over the extended reals, as sums of products of what it found.
-/
module

public import proofs.«01_k».proof.Proof.Region2
public import Idealize.ShloMosaic.Lib.Pointwise
public import Idealize.ShloMosaic.Lib.Pipeline.ValueKit

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The sum of the products of two rows of `K` numbers. -/
def dot (K : ℕ) (f g : Fin K → EReal) : EReal := ∑ k, f k * g k

theorem pay0_apply (a : Vec Ideal S512x512 .f32) (b : Vec Ideal S512x256 .f32) (i : S512x256.Idx) :
    k0_pay1 (F := Ideal) a b i = dot 512 (fun k => a (ix2 (i 0) k)) (fun k => b (ix2 k (i 1))) := by
  unfold dot k0_pay1
  pointwise

theorem pay1_2_apply (a : Vec Ideal S512x2048 .f32) (b : Vec Ideal S2048x256 .bf16) (h : Vec Ideal S1x256 .f32) (w : Vec Ideal S256x2048 .f32) (i : S512x2048.Idx) :
    k1_pay2 (F := Ideal) a b h w i = dot 256 (fun k => max (dot 2048 (fun l => a (ix2 (i 0) l)) (fun l => b (ix2 l k)) + h (ix2 0 k)) 0) (fun k => w (ix2 k (i 1))) := by
  unfold dot k1_pay2 k1_pay1
  pointwise

theorem pay2_2_apply (a : Vec Ideal S512x2048 .f32) (b : Vec Ideal S2048x2048 .bf16) (h : Vec Ideal S1x2048 .f32) (i : S512x2048.Idx) :
    k2_pay2 (F := Ideal) a b h i = dot 2048 (fun k => a (ix2 (i 0) k)) (fun k => b (ix2 k (i 1))) + h (ix2 0 (i 1)) := by
  unfold dot k2_pay2 k2_pay1
  pointwise

theorem pay2_4_apply (a : Vec Ideal S256x2048 .bf16) (b : Vec Ideal S2048x2048 .bf16) (i : S256x2048.Idx) :
    k2_pay4 (F := Ideal) a b i = dot 2048 (fun k => a (ix2 (i 0) k)) (fun k => b (ix2 k (i 1))) := by
  unfold dot k2_pay4
  pointwise

theorem pay2_6_apply (a a' : Vec Ideal S256x2048 .bf16) (b b' : Vec Ideal S2048x2048 .bf16) (e : Vec Ideal S256x2048 .bf16) (i : S256x2048.Idx) :
    k2_pay6 (F := Ideal) a a' b b' e i = k2_pay4 a b i + e i * FloatOps.exp (FloatOps.mulf (Scalar.ofBits (F := Ideal) .f32 0x3F000000#32) (k2_pay5 a' b' i)) := by
  unfold k2_pay6
  pointwise

theorem pay1_3_apply (a : Vec Ideal S512x2048 .f32) (b : Vec Ideal S2048x256 .bf16) (h : Vec Ideal S1x256 .f32) (w : Vec Ideal S256x2048 .f32) (i : S512x2048.Idx) :
    k1_pay3 (F := Ideal) a b h w i = dot 256 (fun k => max (dot 2048 (fun l => a (ix2 (i 0) l)) (fun l => b (ix2 l k)) + h (ix2 0 k)) 0) (fun k => w (ix2 k (i 1))) := by
  unfold dot k1_pay3 k1_pay1
  pointwise

theorem pay2_3_apply (a : Vec Ideal S512x2048 .f32) (b : Vec Ideal S2048x2048 .bf16) (h : Vec Ideal S1x2048 .f32) (i : S512x2048.Idx) :
    k2_pay3 (F := Ideal) a b h i = dot 2048 (fun k => a (ix2 (i 0) k)) (fun k => b (ix2 k (i 1))) + h (ix2 0 (i 1)) := by
  unfold dot k2_pay3 k2_pay1
  pointwise

theorem pay2_5_apply (a : Vec Ideal S256x2048 .bf16) (b : Vec Ideal S2048x2048 .bf16) (i : S256x2048.Idx) :
    k2_pay5 (F := Ideal) a b i = dot 2048 (fun k => a (ix2 (i 0) k)) (fun k => b (ix2 k (i 1))) := by
  unfold dot k2_pay5
  pointwise

/-! ## The arrays -/

section Values
variable (V : (c : Dev nD) → (b : Ref sig .tc) → Buf (Elt Ideal) ((c : Thread nD τ).loc b))

theorem index0_0 : ∀ t : Fin cfg0.N, (cfg0.win 0).index t = ![t.val, 0] := (by decide +kernel : ∀ t : Fin grid0.N, (cfg0.win 0).index t = ![t.val, 0])
theorem index0_1 : ∀ t : Fin cfg0.N, (cfg0.win 1).index t = ![0, 0] := (by decide +kernel : ∀ t : Fin grid0.N, (cfg0.win 1).index t = ![0, 0])
theorem index0_2 : ∀ t : Fin cfg0.N, (cfg0.win 2).index t = ![t.val, 0] := (by decide +kernel : ∀ t : Fin grid0.N, (cfg0.win 2).index t = ![t.val, 0])

theorem out0_eq (x0 : Vec Ideal S512x512 .f32) (x1 : Vec Ideal S512x256 .f32) : out0_2 x0 x1 = k0_pay1 x0 x1 := by
  unfold out0_2
  rw [View.canon_unit_zero (by decide), View.ld_unit_zero (by decide), View.ld_unit_zero (by decide)]

theorem arr0 (c : Dev nD) (A : Vec Ideal S2048x512 .f32) (B : Vec Ideal S512x256 .f32) (hA : V c (Pipeline.arrRef spec0 0) = A) (hB : V c (Pipeline.arrRef spec0 1) = B) :
    (dat0 V c).arrAt 2 cfg0.N = fun i : S2048x256.Idx => dot 512 (fun k => A (ix2 (i 0) k)) (fun k => B (ix2 k (i 1))) := by
  refine (dat0 V c).arrAt_eq_of_covers 2 _ (by decide +kernel) fun t hf y => ?_
  rw [after0_2, out0_eq]
  blk_simp
  rw [pay0_apply]
  subst hA hB
  refine congrArg₂ (dot 512) (funext fun k => ?_) (funext fun k => ?_) <;> blk_ext [iblk0, index0_0 t, index0_1 t, index0_2 t]

theorem index1_0 : ∀ t : Fin cfg1.N, (cfg1.win 0).index t = ![t.val, 0] := (by decide +kernel : ∀ t : Fin grid1.N, (cfg1.win 0).index t = ![t.val, 0])
theorem index1_1 : ∀ t : Fin cfg1.N, (cfg1.win 1).index t = ![0, 0] := (by decide +kernel : ∀ t : Fin grid1.N, (cfg1.win 1).index t = ![0, 0])
theorem index1_2 : ∀ t : Fin cfg1.N, (cfg1.win 2).index t = ![0, 0] := (by decide +kernel : ∀ t : Fin grid1.N, (cfg1.win 2).index t = ![0, 0])
theorem index1_3 : ∀ t : Fin cfg1.N, (cfg1.win 3).index t = ![0, 0] := (by decide +kernel : ∀ t : Fin grid1.N, (cfg1.win 3).index t = ![0, 0])
theorem index1_4 : ∀ t : Fin cfg1.N, (cfg1.win 4).index t = ![0, 0] := (by decide +kernel : ∀ t : Fin grid1.N, (cfg1.win 4).index t = ![0, 0])
theorem index1_5 : ∀ t : Fin cfg1.N, (cfg1.win 5).index t = ![t.val, 0] := (by decide +kernel : ∀ t : Fin grid1.N, (cfg1.win 5).index t = ![t.val, 0])
theorem index1_6 : ∀ t : Fin cfg1.N, (cfg1.win 6).index t = ![t.val, 0] := (by decide +kernel : ∀ t : Fin grid1.N, (cfg1.win 6).index t = ![t.val, 0])

theorem out1_5_eq (x0 : Vec Ideal S512x2048 .f32) (x1 : Vec Ideal S2048x256 .bf16) (x2 : Vec Ideal S1x256 .f32) (x3 x4 : Vec Ideal S256x2048 .f32) :
    out1_5 x0 x1 x2 x3 x4 = k1_pay2 x0 x1 x2 x3 := by
  unfold out1_5
  rw [View.canon_unit_zero (by decide), View.ld_unit_zero (by decide), View.ld_unit_zero (by decide), View.ld_unit_zero (by decide), View.ld_unit_zero (by decide)]
theorem out1_6_eq (x0 : Vec Ideal S512x2048 .f32) (x1 : Vec Ideal S2048x256 .bf16) (x2 : Vec Ideal S1x256 .f32) (x3 x4 : Vec Ideal S256x2048 .f32) :
    out1_6 x0 x1 x2 x3 x4 = k1_pay3 x0 x1 x2 x4 := by
  unfold out1_6
  rw [View.canon_unit_zero (by decide), View.ld_unit_zero (by decide), View.ld_unit_zero (by decide), View.ld_unit_zero (by decide), View.ld_unit_zero (by decide)]

/-- A layer and the product after it: `max (A·X + h) 0 · W`. -/
def layer (A : Vec Ideal S2048x2048 .f32) (X : Vec Ideal S2048x256 .bf16) (h : Vec Ideal S1x256 .f32) (W : Vec Ideal S256x2048 .f32) : Vec Ideal S2048x2048 .bf16 := fun i =>
  dot 256 (fun k => max (dot 2048 (fun l => A (ix2 (i 0) l)) (fun l => X (ix2 l k)) + h (ix2 0 k)) 0) (fun k => W (ix2 k (i 1)))

theorem arr1_5 (c : Dev nD) (A : Vec Ideal S2048x2048 .f32) (X : Vec Ideal S2048x256 .bf16) (h : Vec Ideal S1x256 .f32) (W : Vec Ideal S256x2048 .f32)
    (hA : V c (Pipeline.arrRef spec1 0) = A) (hX : V c (Pipeline.arrRef spec1 1) = X) (hh : V c (Pipeline.arrRef spec1 2) = h) (hW : V c (Pipeline.arrRef spec1 3) = W) :
    (dat1 V c).arrAt 5 cfg1.N = layer A X h W := by
  refine (dat1 V c).arrAt_eq_of_covers 5 _ (by decide +kernel) fun t hf y => ?_
  rw [after1_5, out1_5_eq]
  blk_simp
  rw [pay1_2_apply]
  subst hA hX hh hW
  unfold layer
  refine congrArg₂ (dot 256) (funext fun k => ?_) (funext fun k => ?_)
  · refine congrArg₂ max (congrArg₂ (· + ·) (congrArg₂ (dot 2048) (funext fun l => ?_) (funext fun l => ?_)) ?_) rfl
    · blk_ext [iblk1, index1_0 t, index1_5 t]
    · blk_ext [iblk1, index1_1 t]
    · blk_ext [iblk1, index1_2 t]
  · blk_ext [iblk1, index1_3 t, index1_5 t]

theorem arr1_6 (c : Dev nD) (A : Vec Ideal S2048x2048 .f32) (X : Vec Ideal S2048x256 .bf16) (h : Vec Ideal S1x256 .f32) (W : Vec Ideal S256x2048 .f32)
    (hA : V c (Pipeline.arrRef spec1 0) = A) (hX : V c (Pipeline.arrRef spec1 1) = X) (hh : V c (Pipeline.arrRef spec1 2) = h) (hW : V c (Pipeline.arrRef spec1 4) = W) :
    (dat1 V c).arrAt 6 cfg1.N = layer A X h W := by
  refine (dat1 V c).arrAt_eq_of_covers 6 _ (by decide +kernel) fun t hf y => ?_
  rw [after1_6, out1_6_eq]
  blk_simp
  rw [pay1_3_apply]
  subst hA hX hh hW
  unfold layer
  refine congrArg₂ (dot 256) (funext fun k => ?_) (funext fun k => ?_)
  · refine congrArg₂ max (congrArg₂ (· + ·) (congrArg₂ (dot 2048) (funext fun l => ?_) (funext fun l => ?_)) ?_) rfl
    · blk_ext [iblk1, index1_0 t, index1_6 t]
    · blk_ext [iblk1, index1_1 t]
    · blk_ext [iblk1, index1_2 t]
  · blk_ext [iblk1, index1_4 t, index1_6 t]

/-- `A·T + h`. -/
def affine (A : Vec Ideal S2048x2048 .f32) (T : Vec Ideal S2048x2048 .bf16) (h : Vec Ideal S1x2048 .f32) : Vec Ideal S2048x2048 .bf16 := fun i =>
  dot 2048 (fun k => A (ix2 (i 0) k)) (fun k => T (ix2 k (i 1))) + h (ix2 0 (i 1))

/-- `G·G`. -/
def square (G : Vec Ideal S2048x2048 .bf16) : Vec Ideal S2048x2048 .f32 := fun i =>
  dot 2048 (fun k => G (ix2 (i 0) k)) (fun k => G (ix2 k (i 1)))

theorem index2_0 : ∀ t : Fin cfg2.N, t.val < 4 → (cfg2.win 0).index t = ![t.val, 0] := (by decide +kernel : ∀ t : Fin grid2.N, t.val < 4 → (cfg2.win 0).index t = ![t.val, 0])
theorem index2_1 : ∀ t : Fin cfg2.N, (cfg2.win 1).index t = ![0, 0] := (by decide +kernel : ∀ t : Fin grid2.N, (cfg2.win 1).index t = ![0, 0])
theorem index2_2 : ∀ t : Fin cfg2.N, (cfg2.win 2).index t = ![0, 0] := (by decide +kernel : ∀ t : Fin grid2.N, (cfg2.win 2).index t = ![0, 0])
theorem index2_3 : ∀ t : Fin cfg2.N, (cfg2.win 3).index t = ![0, 0] := (by decide +kernel : ∀ t : Fin grid2.N, (cfg2.win 3).index t = ![0, 0])
theorem index2_4 : ∀ t : Fin cfg2.N, (cfg2.win 4).index t = ![0, 0] := (by decide +kernel : ∀ t : Fin grid2.N, (cfg2.win 4).index t = ![0, 0])
theorem index2_5 : ∀ t : Fin cfg2.N, (cfg2.win 5).index t = ![t.val - 4, 0] := (by decide +kernel : ∀ t : Fin grid2.N, (cfg2.win 5).index t = ![t.val - 4, 0])
theorem index2_6 : ∀ t : Fin cfg2.N, (cfg2.win 6).index t = ![t.val - 4, 0] := (by decide +kernel : ∀ t : Fin grid2.N, (cfg2.win 6).index t = ![t.val - 4, 0])
theorem index2_7 : ∀ t : Fin cfg2.N, (cfg2.win 7).index t = ![t.val - 4, 0] := (by decide +kernel : ∀ t : Fin grid2.N, (cfg2.win 7).index t = ![t.val - 4, 0])
theorem index2_8 : ∀ t : Fin cfg2.N, (cfg2.win 8).index t = ![t.val - 4, 0] := (by decide +kernel : ∀ t : Fin grid2.N, (cfg2.win 8).index t = ![t.val - 4, 0])

theorem fillPt_val (n : ℕ) (h : n < 4) : (fillPt n h).val = n := rfl

theorem scr2_0_eq (c : Dev nD) (A : Vec Ideal S2048x2048 .f32) (T : Vec Ideal S2048x2048 .bf16) (h : Vec Ideal S1x2048 .f32)
    (hA : V c (Pipeline.arrRef spec2 0) = A) (hT : V c (Pipeline.arrRef spec2 1) = T) (hh : V c (Pipeline.arrRef spec2 3) = h) :
    scr2_0 V c = affine A T h := by
  funext y
  unfold scr2_0 affine
  rw [pay2_2_apply]
  subst hA hT hh
  have hq := quarter_lt y
  refine congrArg₂ (· + ·) (congrArg₂ (dot 2048) (funext fun l => ?_) (funext fun l => ?_)) ?_
  · blk_ext [iblk2, index2_0 (fillPt _ hq) hq, inBlock, fillPt_val]
  · blk_ext [iblk2, index2_1 (fillPt _ hq), inBlock]
  · blk_ext [iblk2, index2_3 (fillPt _ hq), inBlock]

theorem scr2_1_eq (c : Dev nD) (A : Vec Ideal S2048x2048 .f32) (T : Vec Ideal S2048x2048 .bf16) (h : Vec Ideal S1x2048 .f32)
    (hA : V c (Pipeline.arrRef spec2 0) = A) (hT : V c (Pipeline.arrRef spec2 2) = T) (hh : V c (Pipeline.arrRef spec2 4) = h) :
    scr2_1 V c = affine A T h := by
  funext y
  unfold scr2_1 affine
  rw [pay2_3_apply]
  subst hA hT hh
  have hq := quarter_lt y
  refine congrArg₂ (· + ·) (congrArg₂ (dot 2048) (funext fun l => ?_) (funext fun l => ?_)) ?_
  · blk_ext [iblk2, index2_0 (fillPt _ hq) hq, inBlock, fillPt_val]
  · blk_ext [iblk2, index2_2 (fillPt _ hq), inBlock]
  · blk_ext [iblk2, index2_4 (fillPt _ hq), inBlock]

theorem late2 (w : Fin cfg2.W) (t : Fin cfg2.N) (hf : (cfg2.win w).flush t = true) : 4 ≤ t.val := by
  by_contra hlt
  have := noFlush2 w t (by omega)
  rw [hf] at this; cases this

theorem rows256_apply (G : Vec Ideal S2048x2048 .bf16) (n : ℕ) (hn : n < 8) (y : S256x2048.Idx) (a b : Fin 2048) (ha : a.val = 256 * n + (y 0).val) (hb : b.val = (y 1).val) :
    rows256 G n y = G (ix2 a b) := by
  unfold rows256
  have h0 : (y 0).val < 256 := (y 0).isLt
  congr 1
  blk_ext [ha, hb]

theorem arr2_6 (c : Dev nD) : (dat2 V c).arrAt 6 cfg2.N = square (scr2_0 V c) := by
  refine (dat2 V c).arrAt_eq_of_covers 6 _ (by decide +kernel) fun t hf y => ?_
  have h4 := late2 6 t hf
  have hN : t.val < 12 := lt_of_lt_of_eq t.isLt (show cfg2.N = 12 from N_2)
  rw [after2_6, out2_6]
  blk_simp
  rw [pay2_4_apply]
  unfold square
  refine congrArg₂ (dot 2048) (funext fun l => ?_) (funext fun l => ?_)
  · refine rows256_apply _ _ (by omega) _ _ _ ?_ ?_ <;> blk_simp [index2_6 t] <;> omega
  · blk_ext [index2_6 t]

theorem arr2_7 (c : Dev nD) : (dat2 V c).arrAt 7 cfg2.N = square (scr2_1 V c) := by
  refine (dat2 V c).arrAt_eq_of_covers 7 _ (by decide +kernel) fun t hf y => ?_
  have h4 := late2 7 t hf
  have hN : t.val < 12 := lt_of_lt_of_eq t.isLt (show cfg2.N = 12 from N_2)
  rw [after2_7, out2_7]
  blk_simp
  rw [pay2_5_apply]
  unfold square
  refine congrArg₂ (dot 2048) (funext fun l => ?_) (funext fun l => ?_)
  · refine rows256_apply _ _ (by omega) _ _ _ ?_ ?_ <;> blk_simp [index2_7 t] <;> omega
  · blk_ext [index2_7 t]

/-- `M + E · exp (½ L)`, entry by entry. -/
def sampled (M L : Vec Ideal S2048x2048 .f32) (E : Vec Ideal S2048x2048 .bf16) : Vec Ideal S2048x2048 .bf16 := fun i =>
  M i + E i * FloatOps.exp (F := Ideal) (φ := .f32) (FloatOps.mulf (F := Ideal) (φ := .f32) (Scalar.ofBits (F := Ideal) .f32 0x3F000000#32) (L i))

theorem arr2_8 (c : Dev nD) (E : Vec Ideal S2048x2048 .bf16) (hE : V c (Pipeline.arrRef spec2 5) = E) :
    (dat2 V c).arrAt 8 cfg2.N = sampled (square (scr2_0 V c)) (square (scr2_1 V c)) E := by
  refine (dat2 V c).arrAt_eq_of_covers 8 _ (by decide +kernel) fun t hf y => ?_
  have h4 := late2 8 t hf
  have hN : t.val < 12 := lt_of_lt_of_eq t.isLt (show cfg2.N = 12 from N_2)
  rw [after2_8, out2_8]
  blk_simp
  rw [pay2_6_apply, pay2_4_apply, pay2_5_apply]
  subst hE
  unfold sampled square
  refine congrArg₂ (· + ·) (congrArg₂ (dot 2048) (funext fun l => ?_) (funext fun l => ?_))
    (congrArg₂ (· * ·) ?_ (congrArg (FloatOps.exp (F := Ideal) (φ := .f32)) (congrArg (FloatOps.mulf (F := Ideal) (φ := .f32) _)
      (congrArg₂ (dot 2048) (funext fun l => ?_) (funext fun l => ?_)))))
  · refine rows256_apply _ _ (by omega) _ _ _ ?_ ?_ <;> blk_simp [index2_8 t] <;> omega
  · blk_ext [index2_8 t]
  · blk_ext [iblk2, index2_5 t, index2_8 t]
  · refine rows256_apply _ _ (by omega) _ _ _ ?_ ?_ <;> blk_simp [index2_8 t] <;> omega
  · blk_ext [index2_8 t]
end Values

end Cert.KernelIdeal.Own

end
-- ==== Proof.RefMath.lean ====
/-
The reference over the extended reals, operation by operation, in the same vocabulary.
-/
module

public import proofs.«01_k».proof.Proof.Math
public import proofs.«01_k».proof.Proof.Gen.ReferenceIdeal.Run

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- A vector as the single row of a matrix. -/
def row256 (b : Vec Ideal S256 .f32) : Vec Ideal S1x256 .f32 := fun i => b (ix1 (i 1))
def row2048 (b : Vec Ideal S2048 .f32) : Vec Ideal S1x2048 .f32 := fun i => b (ix1 (i 1))

/-- `X·W` over 512 columns. -/
def embed (X : Vec Ideal S2048x512 .f32) (W : Vec Ideal S512x256 .f32) : Vec Ideal S2048x256 .bf16 := fun i =>
  dot 512 (fun k => X (ix2 (i 0) k)) (fun k => W (ix2 k (i 1)))

section Reference
variable [Cert.ReferenceIdeal.Facts]

theorem ref_embed (X : Vec Ideal S2048x512 .f32) (W : Vec Ideal S512x256 .f32) :
    Host.dotGeneral (F := Ideal) (φ₁ := .f32) (φ₂ := .f32) Cert.ReferenceIdeal.dot_S2048x512_S512x256_S2048x256_1_0_0_1_n_n none X W = embed X W := by
  funext i; unfold embed dot; pointwise

/-- The reference's hidden layer. -/
def refHidden (A : Vec Ideal S2048x2048 .f32) (X : Vec Ideal S2048x512 .f32) (W : Vec Ideal S512x256 .f32) (b : Vec Ideal S256 .f32) : Vec Ideal S2048x256 .f32 :=
  maximumf (addf (Host.dotGeneral (F := Ideal) (φ₁ := .f32) (φ₂ := .f32) Cert.ReferenceIdeal.dot_S2048x2048_S2048x256_S2048x256_1_0_0_1_n_n none A (Host.dotGeneral (F := Ideal) (φ₁ := .f32) (φ₂ := .f32) Cert.ReferenceIdeal.dot_S2048x512_S512x256_S2048x256_1_0_0_1_n_n none X W))
    (broadcastInDim S2048x256 ![0, 1] Cert.ReferenceIdeal.Facts₀.bcast_S1x256_S2048x256_0_1 (broadcastInDim S1x256 ![1] Cert.ReferenceIdeal.Facts₀.bcast_S256_S1x256_1 b)))
    (broadcastInDim S2048x256 ![] Cert.ReferenceIdeal.Facts₀.bcast_S_S2048x256 (constant Cert.ReferenceIdeal.S_ .f32 0x00000000#32))

theorem ref_layer (A : Vec Ideal S2048x2048 .f32) (X : Vec Ideal S2048x512 .f32) (W : Vec Ideal S512x256 .f32) (b : Vec Ideal S256 .f32) (U : Vec Ideal S256x2048 .f32) :
    Host.dotGeneral (F := Ideal) (φ₁ := .f32) (φ₂ := .f32) Cert.ReferenceIdeal.dot_S2048x256_S256x2048_S2048x2048_1_0_0_1_n_n none (refHidden A X W b) U = layer A (embed X W) (row256 b) U := by
  funext i; unfold layer refHidden row256; rw [ref_embed]; unfold dot; pointwise

theorem ref_affine (A : Vec Ideal S2048x2048 .f32) (T : Vec Ideal S2048x2048 .f32) (b : Vec Ideal S2048 .f32) :
    addf (Host.dotGeneral (F := Ideal) (φ₁ := .f32) (φ₂ := .f32) Cert.ReferenceIdeal.dot_S2048x2048_S2048x2048_S2048x2048_1_0_0_1_n_n none A T)
      (broadcastInDim S2048x2048 ![0, 1] Cert.ReferenceIdeal.Facts₀.bcast_S1x2048_S2048x2048_0_1 (broadcastInDim S1x2048 ![1] Cert.ReferenceIdeal.Facts₀.bcast_S2048_S1x2048_1 b)) = affine A T (row2048 b) := by
  funext i; unfold affine row2048 dot; pointwise

theorem ref_square (G : Vec Ideal S2048x2048 .f32) : Host.dotGeneral (F := Ideal) (φ₁ := .f32) (φ₂ := .f32) Cert.ReferenceIdeal.dot_S2048x2048_S2048x2048_S2048x2048_1_0_0_1_n_n none G G = square G := by
  funext i; unfold square dot; pointwise

/-- A branch of the encoder, from the arguments: the square of `A·(h·U) + d`, `h` the hidden layer. -/
def branch (X : Vec Ideal S2048x512 .f32) (A : Vec Ideal S2048x2048 .f32) (W : Vec Ideal S512x256 .f32) (b : Vec Ideal S256 .f32) (U : Vec Ideal S256x2048 .f32) (d : Vec Ideal S2048 .f32) :
    Vec Ideal S2048x2048 .f32 := square (affine A (layer A (embed X W) (row256 b) U) (row2048 d))

theorem ref_branch (X : Vec Ideal S2048x512 .f32) (A : Vec Ideal S2048x2048 .f32) (W : Vec Ideal S512x256 .f32) (b : Vec Ideal S256 .f32) (U : Vec Ideal S256x2048 .f32) (d : Vec Ideal S2048 .f32) :
    Host.dotGeneral (F := Ideal) (φ₁ := .f32) (φ₂ := .f32) Cert.ReferenceIdeal.dot_S2048x2048_S2048x2048_S2048x2048_1_0_0_1_n_n none
      (addf (Host.dotGeneral (F := Ideal) (φ₁ := .f32) (φ₂ := .f32) Cert.ReferenceIdeal.dot_S2048x2048_S2048x2048_S2048x2048_1_0_0_1_n_n none A (Host.dotGeneral (F := Ideal) (φ₁ := .f32) (φ₂ := .f32) Cert.ReferenceIdeal.dot_S2048x256_S256x2048_S2048x2048_1_0_0_1_n_n none (refHidden A X W b) U))
        (broadcastInDim S2048x2048 ![0, 1] Cert.ReferenceIdeal.Facts₀.bcast_S1x2048_S2048x2048_0_1 (broadcastInDim S1x2048 ![1] Cert.ReferenceIdeal.Facts₀.bcast_S2048_S1x2048_1 d)))
      (addf (Host.dotGeneral (F := Ideal) (φ₁ := .f32) (φ₂ := .f32) Cert.ReferenceIdeal.dot_S2048x2048_S2048x2048_S2048x2048_1_0_0_1_n_n none A (Host.dotGeneral (F := Ideal) (φ₁ := .f32) (φ₂ := .f32) Cert.ReferenceIdeal.dot_S2048x256_S256x2048_S2048x2048_1_0_0_1_n_n none (refHidden A X W b) U))
        (broadcastInDim S2048x2048 ![0, 1] Cert.ReferenceIdeal.Facts₀.bcast_S1x2048_S2048x2048_0_1 (broadcastInDim S1x2048 ![1] Cert.ReferenceIdeal.Facts₀.bcast_S2048_S1x2048_1 d))) = branch X A W b U d := by
  unfold branch; rw [ref_layer, ref_affine, ref_square]
end Reference

end Cert.KernelIdeal.Own

end
-- ==== Proof.Values.lean ====
/-
The kernel's results at the extended reals: what each region finds in its arrays, and so what the run leaves in
  `mu` and `logvar`.
-/
module

public import proofs.«01_k».proof.Proof.Run
public import proofs.«01_k».proof.Proof.Math
public import proofs.«01_k».proof.Proof.RefMath
public import Idealize.ShloMosaic.Lib.Pipeline.ValueKit

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt Ideal) ℓ) (c : Dev nD)

/-- A buffer of core `c` at the launch. -/
abbrev at0 (b : Ref sig .tc) : b.ty.Contents (Elt Ideal) := m ((c : Thread nD τ).loc b)

/-! ## What region 1 finds -/

theorem found2 (r : Ref sig .tc) (h1 : r ∉ hostOps1_W) (h0 : r ∉ ([main_v0] : List (Ref sig .tc))) :
    V2 m (outs0 m) c r = m ((c : Thread nD τ).loc r) :=
  (V2_of m (outs0 m) c r h1).trans (V1_of m (outs0 m) c r h0)

/-- Region 0 leaves the embedding `x·W3` … -/
theorem found2_xw : V2 m (outs0 m) c main_v0 = embed (at0 m c main_arg0) (at0 m c main_arg6) := by
  rw [V2_of m (outs0 m) c main_v0 (by decide)]
  show Function.update (V0 m c) (Proc.devRef .tc main_v0) (outs0 m 1 main_v0 c) (Proc.devRef .tc main_v0) = _
  rw [Function.update_self]
  refine (Pipeline.afterRegion_arr (dat0 (fun c b => V0 m c b) c) (V0 m c) launch0.win.arr_inj 2).trans ?_
  exact arr0 (fun c b => V0 m c b) c (at0 m c main_arg0) (at0 m c main_arg6) rfl rfl

/-- … and the host the hidden layer's offset as a row. -/
theorem found2_row : V2 m (outs0 m) c main_v1 = row256 (at0 m c main_arg7) := by
  show StableHlo.after hostOps1 (V1 m (outs0 m) c) (Proc.devRef .tc main_v1) = _
  unfold hostOps1
  rw [StableHlo.after_cons, StableHlo.after_nil, StableHlo.reshape_result, V1_of m (outs0 m) c main_arg7 (by decide)]
  funext i
  pointwise
  rfl

/-! ## What region 2 finds -/

theorem found6 (r : Ref sig .tc) (h2 : r ∉ hostOps2_2_W) (h21 : r ∉ hostOps2_1_W) (h20 : r ∉ hostOps2_W) :
    V6 m (outs1 m) c r = V3 m (outs1 m) c r :=
  (V6_of m (outs1 m) c r h2).trans <| (V5_of m (outs1 m) c r h21).trans (V4_of m (outs1 m) c r h20)

theorem found3 (r : Ref sig .tc) (h3 : r ∉ ([main_v2_0, main_v2_1] : List (Ref sig .tc))) (h1 : r ∉ hostOps1_W) (h0 : r ∉ ([main_v0] : List (Ref sig .tc))) :
    V3 m (outs1 m) c r = m ((c : Thread nD τ).loc r) :=
  (V3_of m (outs1 m) c r h3).trans <| (V2_of m (outs1 m) c r h1).trans (V1_of m (outs1 m) c r h0)

theorem found6_t1 : V6 m (outs1 m) c main_v2_0
    = layer (at0 m c main_arg1) (embed (at0 m c main_arg0) (at0 m c main_arg6)) (row256 (at0 m c main_arg7)) (at0 m c main_arg2) := by
  rw [found6 m c main_v2_0 (by decide) (by decide) (by decide), ← same3 m c, ← left1 m c]
  refine (Pipeline.afterRegion_arr (dat1 (fun c b => V2 m (outs0 m) c b) c) (V2 m (outs0 m) c) launch1.win.arr_inj 5).trans ?_
  exact arr1_5 (fun c b => V2 m (outs0 m) c b) c _ _ _ _ (found2 m c main_arg1 (by decide) (by decide)) (found2_xw m c)
    (found2_row m c) (found2 m c main_arg2 (by decide) (by decide))

theorem found6_t2 : V6 m (outs1 m) c main_v2_1
    = layer (at0 m c main_arg1) (embed (at0 m c main_arg0) (at0 m c main_arg6)) (row256 (at0 m c main_arg7)) (at0 m c main_arg4) := by
  rw [found6 m c main_v2_1 (by decide) (by decide) (by decide), ← same3 m c, ← left1 m c]
  refine (Pipeline.afterRegion_arr (dat1 (fun c b => V2 m (outs0 m) c b) c) (V2 m (outs0 m) c) launch1.win.arr_inj 6).trans ?_
  exact arr1_6 (fun c b => V2 m (outs0 m) c b) c _ _ _ _ (found2 m c main_arg1 (by decide) (by decide)) (found2_xw m c)
    (found2_row m c) (found2 m c main_arg4 (by decide) (by decide))

theorem found5 (r : Ref sig .tc) (h21 : r ∉ hostOps2_1_W) (h20 : r ∉ hostOps2_W) (h3 : r ∉ ([main_v2_0, main_v2_1] : List (Ref sig .tc)))
    (h1 : r ∉ hostOps1_W) (h0 : r ∉ ([main_v0] : List (Ref sig .tc))) : V5 m (outs1 m) c r = m ((c : Thread nD τ).loc r) :=
  (V5_of m (outs1 m) c r h21).trans <| (V4_of m (outs1 m) c r h20).trans (found3 m c r h3 h1 h0)

theorem found6_b1 : V6 m (outs1 m) c main_v12 = row2048 (at0 m c main_arg3) := by
  show StableHlo.after hostOps2_2 (V5 m (outs1 m) c) (Proc.devRef .tc main_v12) = _
  unfold hostOps2_2
  rw [StableHlo.after_cons, StableHlo.after_cons, StableHlo.after_cons, StableHlo.after_nil,
    StableHlo.reshape_result_ne (h := by decide), StableHlo.reshape_result, StableHlo.unary_result_ne (h := by decide),
    found5 m c main_arg3 (by decide) (by decide) (by decide) (by decide) (by decide)]
  funext i
  pointwise
  rfl

theorem found6_b2 : V6 m (outs1 m) c main_v13 = row2048 (at0 m c main_arg5) := by
  show StableHlo.after hostOps2_2 (V5 m (outs1 m) c) (Proc.devRef .tc main_v13) = _
  unfold hostOps2_2
  rw [StableHlo.after_cons, StableHlo.after_cons, StableHlo.after_cons, StableHlo.after_nil,
    StableHlo.reshape_result, StableHlo.reshape_result_ne (h := by decide), StableHlo.unary_result_ne (h := by decide),
    found5 m c main_arg5 (by decide) (by decide) (by decide) (by decide) (by decide)]
  funext i
  pointwise
  rfl

/-! ## The kernel's results -/

theorem found6_adj : V6 m (outs1 m) c main_arg1 = at0 m c main_arg1 :=
  (found6 m c main_arg1 (by decide) (by decide) (by decide)).trans (found3 m c main_arg1 (by decide) (by decide) (by decide))

theorem scratch0 : scr2_0 (fun c b => V6 m (outs1 m) c b) c
    = affine (at0 m c main_arg1) (layer (at0 m c main_arg1) (embed (at0 m c main_arg0) (at0 m c main_arg6)) (row256 (at0 m c main_arg7)) (at0 m c main_arg2))
      (row2048 (at0 m c main_arg3)) :=
  scr2_0_eq (fun c b => V6 m (outs1 m) c b) c _ _ _ (found6_adj m c) (found6_t1 m c) (found6_b1 m c)
theorem scratch1 : scr2_1 (fun c b => V6 m (outs1 m) c b) c
    = affine (at0 m c main_arg1) (layer (at0 m c main_arg1) (embed (at0 m c main_arg0) (at0 m c main_arg6)) (row256 (at0 m c main_arg7)) (at0 m c main_arg4))
      (row2048 (at0 m c main_arg5)) :=
  scr2_1_eq (fun c b => V6 m (outs1 m) c b) c _ _ _ (found6_adj m c) (found6_t2 m c) (found6_b2 m c)

/-- The kernel's `mu`. -/
theorem mu_eq : V7 m (outs2 m) c main_v14_0
    = branch (at0 m c main_arg0) (at0 m c main_arg1) (at0 m c main_arg6) (at0 m c main_arg7) (at0 m c main_arg2) (at0 m c main_arg3) := by
  rw [← left2 m c]
  refine (Pipeline.afterRegion_arr (dat2 (fun c b => V6 m (outs1 m) c b) c) (V6 m (outs1 m) c) launch2.win.arr_inj 6).trans ?_
  rw [arr2_6, scratch0]
  rfl

/-- The kernel's `logvar`. -/
theorem logvar_eq : V7 m (outs2 m) c main_v14_1
    = branch (at0 m c main_arg0) (at0 m c main_arg1) (at0 m c main_arg6) (at0 m c main_arg7) (at0 m c main_arg4) (at0 m c main_arg5) := by
  rw [← left2 m c]
  refine (Pipeline.afterRegion_arr (dat2 (fun c b => V6 m (outs1 m) c b) c) (V6 m (outs1 m) c) launch2.win.arr_inj 7).trans ?_
  rw [arr2_7, scratch1]
  rfl

end Cert.KernelIdeal.Own

end
-- ==== Proof.Dec.Base.lean ====
/-
  The decoder's region: ten points fill a scratch matrix with the products of pairs of row blocks, ten more multiply
  its rows and send each product's tiles to the result by transfers waited for two points later.
-/
module

public import proofs.«01_k».proof.Proof.Gen.DecodeIdeal.Launch
public import proofs.«01_k».proof.Proof.Gen.DecodeIdeal.Skeleton
public import proofs.«01_k».proof.Proof.Gen.DecodeIdeal
public import Idealize.ShloMosaic.Lib.Pipeline.FrameValue
public import Idealize.ShloMosaic.Lib.Pipeline.Value
public import Idealize.ShloMosaic.Lib.WritesUnit
public import Idealize.ShloMosaic.Lib.Pointwise.Index
public import Idealize.ShloMosaic.Lib.Ring
public import Idealize.ShloMosaic.Lib.Ring.WriteBehind
public import Idealize.ShloMosaic.Lib.Tactic
public import Idealize.ShloMosaic.Lib.VecWindow

@[expose] public section

set_option maxRecDepth 16384

noncomputable section

namespace Cert.DecodeIdeal.Own

open Cert.DecodeIdeal Cert.DecodeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The word a table read at offsets `off` returns. -/
abbrev wrd (m : Memref sig .tc .smem S10 .i32) (f : m.view.ty.Contents (Elt F)) (off : Fin 1 → ℕ) (h : ∀ a, off a + S1.size a ≤ S10.size a) : BitVec 32 :=
  View.readAt (Elt F) m.view (Rect.unit (s := S10) off S1.size h).toLoadRect f (Shape.Idx.first (numel1_S1.symm ▸ Nat.one_pos))

/-- The result's tile at the row of blocks `I` and the column of blocks `J`. -/
abbrev blk (m : Memref sig .tc .hbm S2048x2048 .f32) (I J : BitVec 32) (h : ∀ a, k0_off10 I J a + S512x512.size a ≤ S2048x2048.size a) :
    Memref sig .tc .hbm S512x512 .f32 :=
  m.slice (Rect.unit (s := S2048x2048) (k0_off10 I J) S512x512.size h) (fun _ => rfl)

/-- A tile held at some contents. -/
abbrev someTile (c : Dev nD) (m : Memref sig .tc .vmem S512x512 .f32) : sProp 𝕄 :=
  iprop(∃ f, m.view.loc (c : Thread nD τ) ↦[m.view.set]{fullShare} f)

/-- A transfer on the cell `sm` which will give back `E` and its tile. -/
abbrev fly (c : Dev nD) (N : ℕ) (sm : DmaSems sig S_) (m : Memref sig .tc .vmem S512x512 .f32) (E : sProp 𝕄) : sProp 𝕄 :=
  Transfers.Flight (countersEmb (U := Pipeline.UD sig nD τ)) (c : Thread nD τ) (SemLoc.dma sm.sem) () N iprop(E ∗ someTile c m)

/-- A cell at zero, with what its transfer left. -/
abbrev idle (c : Dev nD) (sm : DmaSems sig S_) (m : Memref sig .tc .vmem S512x512 .f32) (E : sProp 𝕄) : sProp 𝕄 :=
  iprop(E ∗ someTile c m ∗ semVal ((c : Thread nD τ), SemLoc.dma sm.sem) 0)

/-- Start a tile's transfer. -/
theorem send (c : Dev nD) {src : Memref sig .tc .vmem S512x512 .f32} {dst : Memref sig .tc .hbm S512x512 .f32} {sm : DmaSem sig}
    {hs : src.view.WordExact} {hd : dst.view.WordExact} {ht : DmaTarget.Typed (nD := nD) (τ := τ) (p := .tc) Space.vmem (SemLoc.dma sm) (.here dst)}
    {α : Type} {k : PUnit → Prog (TpuEff nD τ sig (Elt F) Λ₀ .tc) α} {Q : α → sProp 𝕄}
    {fs : Buf (Elt F) (src.view.loc (c : Thread nD τ))} {fd : Buf (Elt F) (dst.view.loc (c : Thread nD τ))}
    (N : ℕ) (hN : dst.view.amount (SemLoc.dma sm) = N) (hN0 : 0 < N) (D : sProp 𝕄)
    (hD : iprop((dst.view.loc (c : Thread nD τ) ↦[dst.view.set]{fullShare} dst.view.write (Elt F) fd (src.view.read (Elt F) fs) Finset.univ)
      ∗ (src.view.loc (c : Thread nD τ) ↦[src.view.set]{fullShare} fs)) ⊢ D) :
    iprop((src.view.loc (c : Thread nD τ) ↦[src.view.set]{fullShare} fs) ∗ (dst.view.loc (c : Thread nD τ) ↦[dst.view.set]{fullShare} fd)
        ∗ semVal ((c : Thread nD τ), SemLoc.dma sm) 0)
      ⊢ iprop((Transfers.Flight (countersEmb (U := Pipeline.UD sig nD τ)) (c : Thread nD τ) (SemLoc.dma sm) () N D
              -∗ wp frame (wpE (defs₀ (F := F)) Variants.none c none) Set.univ (k ⟨⟩) Q)
          -∗ wp frame (wpE (defs₀ (F := F)) Variants.none c none) Set.univ (.op (.enqueueDma src (.here dst) (SemLoc.dma sm) hs hd ht) k) Q) := by
  iintro H Hk
  iapply (Transfers.wp_dmaLocal (countersEmb (U := Pipeline.UD sig nD τ)) Variants.none (c : Thread nD τ) none () N hN hN0 (Finset.Subset.refl _)) $$ H
  iintro HF
  iapply Hk
  iapply (Transfers.Flight_mono (countersEmb (U := Pipeline.UD sig nD τ)) (c : Thread nD τ) hD) $$ HF

/-- Wait for a transfer. -/
theorem await (c : Dev nD) {srcw : Memref sig .tc .vmem S512x512 .f32} {dstw : Memref sig .tc .hbm S512x512 .f32} {sm : DmaSem sig}
    {hs : srcw.view.WordExact} {hd : dstw.view.WordExact}
    {α : Type} {k : PUnit → Prog (TpuEff nD τ sig (Elt F) Λ₀ .tc) α} {Q : α → sProp 𝕄}
    (N : ℕ) (hN : dstw.view.dmaCredit = N) (D : sProp 𝕄) :
    iprop(Transfers.Flight (countersEmb (U := Pipeline.UD sig nD τ)) (c : Thread nD τ) (SemLoc.dma sm) () N D ∗ (∃ W, owes (c : Thread nD τ) 0 W))
      ⊢ iprop((iprop(D ∗ semVal ((c : Thread nD τ), SemLoc.dma sm) 0 ∗ (∃ W, owes (c : Thread nD τ) 0 W))
              -∗ wp frame (wpE (defs₀ (F := F)) Variants.none c none) Set.univ (k ⟨⟩) Q)
          -∗ wp frame (wpE (defs₀ (F := F)) Variants.none c none) Set.univ (.op (.waitDma2 sm srcw dstw hs hd) k) Q) := by
  iintro ⟨HF, ⟨%W, HO⟩⟩ Hk
  iapply (Transfers.wp_waitLocal (countersEmb (U := Pipeline.UD sig nD τ)) Variants.none (c : Thread nD τ) none () hN) $$ [HF HO]
  · isplitl [HF] <;> iassumption
  iintro ⟨HD, HS, HO⟩
  iapply Hk
  isplitl [HD]; · iexact HD
  isplitl [HS]; · iexact HS
  iexists _; iexact HO

/-- What a tile's transfer gives back: its target with the tile's values written, and the tile. -/
theorem deliver (c : Dev nD) {src : Memref sig .tc .vmem S512x512 .f32} {dst : Memref sig .tc .hbm S512x512 .f32}
    {fs : Buf (Elt F) (src.view.loc (c : Thread nD τ))} {fd : Buf (Elt F) (dst.view.loc (c : Thread nD τ))}
    {P : Vec F S512x512 .f32} {E : sProp 𝕄} (hfs : src.view.read (Elt F) fs = P)
    (hE : iprop(dst.view.loc (c : Thread nD τ) ↦[dst.view.set]{fullShare} dst.view.write (Elt F) fd P Finset.univ) ⊢ E) :
    iprop((dst.view.loc (c : Thread nD τ) ↦[dst.view.set]{fullShare} dst.view.write (Elt F) fd (src.view.read (Elt F) fs) Finset.univ)
      ∗ (src.view.loc (c : Thread nD τ) ↦[src.view.set]{fullShare} fs)) ⊢ iprop(E ∗ someTile c src) := by
  rw [hfs]
  iintro ⟨Hd, Hs⟩
  isplitl [Hd]
  · iapply hE $$ Hd
  iexists _; iexact Hs

end Cert.DecodeIdeal.Own

end
-- ==== Proof.Dec.Even.lean ====
/-
  The decoder's region: ten points fill a scratch matrix with the products of pairs of row blocks, ten more multiply
  its rows and send each product's tiles to the result by transfers waited for two points later.
-/
module

public import proofs.«01_k».proof.Proof.Gen.DecodeIdeal.Launch
public import proofs.«01_k».proof.Proof.Gen.DecodeIdeal.Skeleton
public import proofs.«01_k».proof.Proof.Gen.DecodeIdeal
public import Idealize.ShloMosaic.Lib.Pipeline.FrameValue
public import Idealize.ShloMosaic.Lib.Pipeline.Value
public import Idealize.ShloMosaic.Lib.WritesUnit
public import Idealize.ShloMosaic.Lib.Pointwise.Index
public import Idealize.ShloMosaic.Lib.Ring
public import Idealize.ShloMosaic.Lib.Ring.WriteBehind
public import Idealize.ShloMosaic.Lib.Tactic
public import proofs.«01_k».proof.Proof.Dec.Base

@[expose] public section

set_option maxRecDepth 16384

noncomputable section

namespace Cert.DecodeIdeal.Own

open Cert.DecodeIdeal Cert.DecodeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The two reads of the scratch matrix: its rows of blocks at one of a pair's words. -/
abbrev rowsI (m : Memref sig .tc .vmem S2048x2048 .bf16) (f : m.view.ty.Contents (Elt F)) (I : BitVec 32) (h : ∀ a, k0_off4 I a + S512x2048.size a ≤ S2048x2048.size a) :
    Vec F S512x2048 .bf16 :=
  View.readAt (Elt F) m.view (Rect.unit (s := S2048x2048) (k0_off4 I) S512x2048.size h).toLoadRect f

set_option pp.maxSteps 400 in
set_option maxHeartbeats 8000000 in
/-- A point of the second half of even number: its slot's transfers are waited for, if there were any, and the next
    ones started. -/
theorem evenStep (c : Dev nD) (i : grid0.Coords) (arg1 : Memref sig .tc .smem S10 .i32) (harg1 : arg1.IsWhole) (arg2 : Memref sig .tc .smem S10 .i32) (harg2 : arg2.IsWhole) (arg3 : Memref sig .tc .vmem S512x2048 .bf16) (harg3 : arg3.IsWhole) (arg4 : Memref sig .tc .vmem S512x2048 .bf16) (harg4 : arg4.IsWhole) (arg5 : Memref sig .tc .hbm S2048x2048 .f32) (harg5 : arg5.IsWhole) (arg6 : Memref sig .tc .vmem S2048x2048 .bf16) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole) (arg11 : DmaSems sig S_) (arg12 : DmaSems sig S_) (arg13 : DmaSems sig S_) (arg14 : DmaSems sig S_)
    (arg0 : BitVec 32) (h3 : k0_cond3 i = 1#1) (h4 : k0_cond4 i = 1#1) (h8 : ¬ k0_cond8 i = 1#1)
    (I J I' J' : BitVec 32) (q : PosShare TreeShare) (f1 : arg1.view.ty.Contents (Elt F)) (f2 : arg2.view.ty.Contents (Elt F))
    (hI : wrd arg1 f1 (k0_off9 i) (k0_off9_inb i h3 h4) = I) (hJ : wrd arg2 f2 (k0_off9 i) (k0_off9_inb i h3 h4) = J)
    (hI' : ∀ h5, wrd arg1 f1 (k0_off6 i) (k0_off6_inb i h3 h4 h5) = I') (hJ' : ∀ h5, wrd arg2 f2 (k0_off6 i) (k0_off6_inb i h3 h4 h5) = J')
    (hc2 : k0_chk2 i I) (hc1 : k0_chk1 i I J) (hc3 : k0_chk3 i I' J') (hc4 : k0_chk4 i I J)
    (hb : ∀ a, k0_off10 I J a + S512x512.size a ≤ S2048x2048.size a) (hb' : ∀ a, k0_off10 J I a + S512x512.size a ≤ S2048x2048.size a)
    (hr : ∀ a, k0_off4 I a + S512x2048.size a ≤ S2048x2048.size a) (hr' : ∀ a, k0_off4 J a + S512x2048.size a ≤ S2048x2048.size a)
    (f6 : arg6.view.ty.Contents (Elt F)) (fd : Buf (Elt F) ((blk arg5 I J hb).view.loc (c : Thread nD τ))) (fd' : Buf (Elt F) ((blk arg5 J I hb').view.loc (c : Thread nD τ)))
    (N : ℕ) (hN : ∀ (I J : BitVec 32) h, (blk arg5 I J h).view.dmaCredit = N) (hN0 : 0 < N)
    (E1 E2 E1' E2' X1 X2 : sProp 𝕄)
    (hX1 : X1 ⊢ iprop((blk arg5 I J hb).view.loc (c : Thread nD τ) ↦[(blk arg5 I J hb).view.set]{fullShare} fd))
    (hE1 : iprop((blk arg5 I J hb).view.loc (c : Thread nD τ) ↦[(blk arg5 I J hb).view.set]{fullShare}
      (blk arg5 I J hb).view.write (Elt F) fd (k0_pay4 (k0_pay6 (rowsI arg6 f6 I hr) (rowsI arg6 f6 J hr'))) Finset.univ) ⊢ E1)
    (hX : k0_cond7 I J = 1#1 → X2 ⊢ iprop((blk arg5 J I hb').view.loc (c : Thread nD τ) ↦[(blk arg5 J I hb').view.set]{fullShare} fd'))
    (hE2 : k0_cond7 I J = 1#1 → iprop((blk arg5 J I hb').view.loc (c : Thread nD τ) ↦[(blk arg5 J I hb').view.set]{fullShare}
      (blk arg5 J I hb').view.write (Elt F) fd' (k0_pay8 (rowsI arg6 f6 I hr) (rowsI arg6 f6 J hr')) Finset.univ) ⊢ E2)
    (hX' : ¬ k0_cond7 I J = 1#1 → X2 ⊢ E2)
    (K : PUnit → sProp 𝕄) :
    iprop((arg1.view.loc (c : Thread nD τ) ↦{q} f1) ∗ (arg2.view.loc (c : Thread nD τ) ↦{q} f2) ∗ (arg6.view.loc (c : Thread nD τ) ↦{fullShare} f6)
      ∗ X1 ∗ X2
      ∗ (if k0_cond5 i = 1#1 then fly c N arg11 arg7 E1' else idle c arg11 arg7 E1')
      ∗ (if k0_cond5 i = 1#1 ∧ k0_cond6 I' J' = 1#1 then fly c N arg12 arg8 E2' else idle c arg12 arg8 E2')
      ∗ (∃ W, owes (c : Thread nD τ) 0 W)
      ∗ (iprop((arg1.view.loc (c : Thread nD τ) ↦{q} f1) ∗ (arg2.view.loc (c : Thread nD τ) ↦{q} f2) ∗ (arg6.view.loc (c : Thread nD τ) ↦{fullShare} f6)
          ∗ E1' ∗ E2' ∗ fly c N arg11 arg7 E1
          ∗ (if k0_cond7 I J = 1#1 then fly c N arg12 arg8 E2 else idle c arg12 arg8 E2)
          ∗ (∃ W, owes (c : Thread nD τ) 0 W)) -∗ K ⟨⟩))
      ⊢ wp frame (wpE (defs₀ (F := F)) Variants.none c none) Set.univ (k0_part5 i arg1 harg1 arg2 harg2 arg3 harg3 arg4 harg4 arg5 harg5 arg6 harg6 arg7 harg7 arg8 harg8 arg9 harg9 arg10 harg10 arg11 arg12 arg13 arg14 arg0 I hc2 J hc1 h3) K := by
  subst hI hJ
  rw [k0_part5_eq_skeleton]; unfold k0_part5_skel
  by_cases h5 : k0_cond5 i = 1#1
  · have hI' := hI' h5; have hJ' := hJ' h5
    subst hI' hJ'
    by_cases h6 : k0_cond6 (wrd arg1 f1 (k0_off6 i) (k0_off6_inb i h3 h4 h5)) (wrd arg2 f2 (k0_off6 i) (k0_off6_inb i h3 h4 h5)) = 1#1
    · rw [if_pos h5, if_pos ⟨h5, h6⟩]
      iintro ⟨HT1, HT2, H6, H5, HX, HA, HB, HO, Hk⟩
      sl_exec (disch := first | sl_exact h3 | sl_exact h4 | sl_exact h5 | sl_exact h6 | sl_exact h7 | sl_exact h8 | sl_exact hc2 | sl_exact hc1 | sl_exact hc3 | sl_exact hc4)
      iapply (await c N (hN _ _ _) _) $$ [HA HO]
      · isplitl [HA] <;> iassumption
      iintro ⟨⟨HE1, ⟨%f7, HA⟩⟩, HS, HO⟩
      sl_exec (disch := first | sl_exact h3 | sl_exact h4 | sl_exact h5 | sl_exact h6 | sl_exact h7 | sl_exact h8 | sl_exact hc2 | sl_exact hc1 | sl_exact hc3 | sl_exact hc4)
      iapply (await c N (hN _ _ _) _) $$ [HB HO]
      · isplitl [HB] <;> iassumption
      iintro ⟨⟨HE2, ⟨%f8, HB⟩⟩, HS2, HO⟩
      sl_exec (disch := first | sl_exact h3 | sl_exact h4 | sl_exact h5 | sl_exact h6 | sl_exact h7 | sl_exact h8 | sl_exact hc2 | sl_exact hc1 | sl_exact hc3 | sl_exact hc4)
      iapply (send c N (hN _ _ _) hN0 iprop(E1 ∗ someTile c arg7) (deliver c (View.read_writes_full _ _ _ _ _) hE1)) $$ [HA H5 HS]
      · isplitl [HA]; · iexact HA
        isplitl [H5]; · iapply hX1 $$ H5
        iexact HS
      iintro HA
      by_cases h7 : k0_cond7 (wrd arg1 f1 (k0_off9 i) (k0_off9_inb i h3 h4)) (wrd arg2 f2 (k0_off9 i) (k0_off9_inb i h3 h4)) = 1#1
      · sl_exec (disch := first | sl_exact h3 | sl_exact h4 | sl_exact h5 | sl_exact h6 | sl_exact h7 | sl_exact h8 | sl_exact hc2 | sl_exact hc1 | sl_exact hc3 | sl_exact hc4)
        iapply (send c N (hN _ _ _) hN0 iprop(E2 ∗ someTile c arg8) (deliver c (View.read_writes_full _ _ _ _ _) (hE2 h7))) $$ [HB HX HS2]
        · isplitl [HB]; · iexact HB
          isplitl [HX]; · iapply (hX h7) $$ HX
          iexact HS2
        iintro HB
        sl_exec (disch := first | sl_exact h3 | sl_exact h4 | sl_exact h5 | sl_exact h6 | sl_exact h7 | sl_exact h8 | sl_exact hc2 | sl_exact hc1 | sl_exact hc3 | sl_exact hc4)
        iapply (Idealize.SL.Sem.le_wp_ret _ _)
        iapply Hk
        isplitl [HT1]; · iexact HT1
        isplitl [HT2]; · iexact HT2
        isplitl [H6]; · iexact H6
        isplitl [HE1]; · iexact HE1
        isplitl [HE2]; · iexact HE2
        isplitl [HA]; · iexact HA
        isplitl [HB]; · rw [if_pos h7]; iexact HB
        iexact HO
      · sl_exec (disch := first | sl_exact h3 | sl_exact h4 | sl_exact h5 | sl_exact h6 | sl_exact h7 | sl_exact h8 | sl_exact hc2 | sl_exact hc1 | sl_exact hc3 | sl_exact hc4)
        iapply (Idealize.SL.Sem.le_wp_ret _ _)
        iapply Hk
        isplitl [HT1]; · iexact HT1
        isplitl [HT2]; · iexact HT2
        isplitl [H6]; · iexact H6
        isplitl [HE1]; · iexact HE1
        isplitl [HE2]; · iexact HE2
        isplitl [HA]; · iexact HA
        isplitl [HX HB HS2]
        · rw [if_neg h7]
          isplitl [HX]; · iapply (hX' h7) $$ HX
          isplitl [HB]; · iexists _; iexact HB
          iexact HS2
        iexact HO
    · rw [if_pos h5, if_neg (fun h => h6 h.2)]
      iintro ⟨HT1, HT2, H6, H5, HX, HA, ⟨HE2, ⟨%f8, HB⟩, HS2⟩, HO, Hk⟩
      sl_exec (disch := first | sl_exact h3 | sl_exact h4 | sl_exact h5 | sl_exact h6 | sl_exact h7 | sl_exact h8 | sl_exact hc2 | sl_exact hc1 | sl_exact hc3 | sl_exact hc4)
      iapply (await c N (hN _ _ _) _) $$ [HA HO]
      · isplitl [HA] <;> iassumption
      iintro ⟨⟨HE1, ⟨%f7, HA⟩⟩, HS, HO⟩
      sl_exec (disch := first | sl_exact h3 | sl_exact h4 | sl_exact h5 | sl_exact h6 | sl_exact h7 | sl_exact h8 | sl_exact hc2 | sl_exact hc1 | sl_exact hc3 | sl_exact hc4)
      iapply (send c N (hN _ _ _) hN0 iprop(E1 ∗ someTile c arg7) (deliver c (View.read_writes_full _ _ _ _ _) hE1)) $$ [HA H5 HS]
      · isplitl [HA]; · iexact HA
        isplitl [H5]; · iapply hX1 $$ H5
        iexact HS
      iintro HA
      by_cases h7 : k0_cond7 (wrd arg1 f1 (k0_off9 i) (k0_off9_inb i h3 h4)) (wrd arg2 f2 (k0_off9 i) (k0_off9_inb i h3 h4)) = 1#1
      · sl_exec (disch := first | sl_exact h3 | sl_exact h4 | sl_exact h5 | sl_exact h6 | sl_exact h7 | sl_exact h8 | sl_exact hc2 | sl_exact hc1 | sl_exact hc3 | sl_exact hc4)
        iapply (send c N (hN _ _ _) hN0 iprop(E2 ∗ someTile c arg8) (deliver c (View.read_writes_full _ _ _ _ _) (hE2 h7))) $$ [HB HX HS2]
        · isplitl [HB]; · iexact HB
          isplitl [HX]; · iapply (hX h7) $$ HX
          iexact HS2
        iintro HB
        sl_exec (disch := first | sl_exact h3 | sl_exact h4 | sl_exact h5 | sl_exact h6 | sl_exact h7 | sl_exact h8 | sl_exact hc2 | sl_exact hc1 | sl_exact hc3 | sl_exact hc4)
        iapply (Idealize.SL.Sem.le_wp_ret _ _)
        iapply Hk
        isplitl [HT1]; · iexact HT1
        isplitl [HT2]; · iexact HT2
        isplitl [H6]; · iexact H6
        isplitl [HE1]; · iexact HE1
        isplitl [HE2]; · iexact HE2
        isplitl [HA]; · iexact HA
        isplitl [HB]; · rw [if_pos h7]; iexact HB
        iexact HO
      · sl_exec (disch := first | sl_exact h3 | sl_exact h4 | sl_exact h5 | sl_exact h6 | sl_exact h7 | sl_exact h8 | sl_exact hc2 | sl_exact hc1 | sl_exact hc3 | sl_exact hc4)
        iapply (Idealize.SL.Sem.le_wp_ret _ _)
        iapply Hk
        isplitl [HT1]; · iexact HT1
        isplitl [HT2]; · iexact HT2
        isplitl [H6]; · iexact H6
        isplitl [HE1]; · iexact HE1
        isplitl [HE2]; · iexact HE2
        isplitl [HA]; · iexact HA
        isplitl [HX HB HS2]
        · rw [if_neg h7]
          isplitl [HX]; · iapply (hX' h7) $$ HX
          isplitl [HB]; · iexists _; iexact HB
          iexact HS2
        iexact HO
  · rw [if_neg h5, if_neg (fun h => h5 h.1)]
    · iintro ⟨HT1, HT2, H6, H5, HX, ⟨HE1, ⟨%f7, HA⟩, HS⟩, ⟨HE2, ⟨%f8, HB⟩, HS2⟩, HO, Hk⟩
      sl_exec (disch := first | sl_exact h3 | sl_exact h4 | sl_exact h5 | sl_exact h6 | sl_exact h7 | sl_exact h8 | sl_exact hc2 | sl_exact hc1 | sl_exact hc3 | sl_exact hc4)
      iapply (send c N (hN _ _ _) hN0 iprop(E1 ∗ someTile c arg7) (deliver c (View.read_writes_full _ _ _ _ _) hE1)) $$ [HA H5 HS]
      · isplitl [HA]; · iexact HA
        isplitl [H5]; · iapply hX1 $$ H5
        iexact HS
      iintro HA
      by_cases h7 : k0_cond7 (wrd arg1 f1 (k0_off9 i) (k0_off9_inb i h3 h4)) (wrd arg2 f2 (k0_off9 i) (k0_off9_inb i h3 h4)) = 1#1
      · sl_exec (disch := first | sl_exact h3 | sl_exact h4 | sl_exact h5 | sl_exact h6 | sl_exact h7 | sl_exact h8 | sl_exact hc2 | sl_exact hc1 | sl_exact hc3 | sl_exact hc4)
        iapply (send c N (hN _ _ _) hN0 iprop(E2 ∗ someTile c arg8) (deliver c (View.read_writes_full _ _ _ _ _) (hE2 h7))) $$ [HB HX HS2]
        · isplitl [HB]; · iexact HB
          isplitl [HX]; · iapply (hX h7) $$ HX
          iexact HS2
        iintro HB
        sl_exec (disch := first | sl_exact h3 | sl_exact h4 | sl_exact h5 | sl_exact h6 | sl_exact h7 | sl_exact h8 | sl_exact hc2 | sl_exact hc1 | sl_exact hc3 | sl_exact hc4)
        iapply (Idealize.SL.Sem.le_wp_ret _ _)
        iapply Hk
        isplitl [HT1]; · iexact HT1
        isplitl [HT2]; · iexact HT2
        isplitl [H6]; · iexact H6
        isplitl [HE1]; · iexact HE1
        isplitl [HE2]; · iexact HE2
        isplitl [HA]; · iexact HA
        isplitl [HB]; · rw [if_pos h7]; iexact HB
        iexact HO
      · sl_exec (disch := first | sl_exact h3 | sl_exact h4 | sl_exact h5 | sl_exact h6 | sl_exact h7 | sl_exact h8 | sl_exact hc2 | sl_exact hc1 | sl_exact hc3 | sl_exact hc4)
        iapply (Idealize.SL.Sem.le_wp_ret _ _)
        iapply Hk
        isplitl [HT1]; · iexact HT1
        isplitl [HT2]; · iexact HT2
        isplitl [H6]; · iexact H6
        isplitl [HE1]; · iexact HE1
        isplitl [HE2]; · iexact HE2
        isplitl [HA]; · iexact HA
        isplitl [HX HB HS2]
        · rw [if_neg h7]
          isplitl [HX]; · iapply (hX' h7) $$ HX
          isplitl [HB]; · iexists _; iexact HB
          iexact HS2
        iexact HO

end Cert.DecodeIdeal.Own

end
-- ==== Proof.Dec.Odd.lean ====
/-
  The decoder's region: ten points fill a scratch matrix with the products of pairs of row blocks, ten more multiply
  its rows and send each product's tiles to the result by transfers waited for two points later.
-/
module

public import proofs.«01_k».proof.Proof.Gen.DecodeIdeal.Launch
public import proofs.«01_k».proof.Proof.Gen.DecodeIdeal.Skeleton
public import proofs.«01_k».proof.Proof.Gen.DecodeIdeal
public import Idealize.ShloMosaic.Lib.Pipeline.FrameValue
public import Idealize.ShloMosaic.Lib.Pipeline.Value
public import Idealize.ShloMosaic.Lib.WritesUnit
public import Idealize.ShloMosaic.Lib.Pointwise.Index
public import Idealize.ShloMosaic.Lib.Ring
public import Idealize.ShloMosaic.Lib.Ring.WriteBehind
public import Idealize.ShloMosaic.Lib.Tactic
public import proofs.«01_k».proof.Proof.Dec.Even

@[expose] public section

set_option maxRecDepth 16384

noncomputable section

namespace Cert.DecodeIdeal.Own

open Cert.DecodeIdeal Cert.DecodeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 8000000 in
/-- A point of the second half of odd number: its slot's transfers are waited for, if there were any, and the next
    ones started. -/
theorem oddStep (c : Dev nD) (i : grid0.Coords) (arg1 : Memref sig .tc .smem S10 .i32) (harg1 : arg1.IsWhole) (arg2 : Memref sig .tc .smem S10 .i32) (harg2 : arg2.IsWhole) (arg3 : Memref sig .tc .vmem S512x2048 .bf16) (harg3 : arg3.IsWhole) (arg4 : Memref sig .tc .vmem S512x2048 .bf16) (harg4 : arg4.IsWhole) (arg5 : Memref sig .tc .hbm S2048x2048 .f32) (harg5 : arg5.IsWhole) (arg6 : Memref sig .tc .vmem S2048x2048 .bf16) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole) (arg11 : DmaSems sig S_) (arg12 : DmaSems sig S_) (arg13 : DmaSems sig S_) (arg14 : DmaSems sig S_)
    (arg0 : BitVec 32) (h3 : k0_cond3 i = 1#1) (h4 : k0_cond8 i = 1#1) (h8 : ¬ k0_cond4 i = 1#1)
    (I J I' J' : BitVec 32) (q : PosShare TreeShare) (f1 : arg1.view.ty.Contents (Elt F)) (f2 : arg2.view.ty.Contents (Elt F))
    (hI : wrd arg1 f1 (k0_off15 i) (k0_off15_inb i h3 h4) = I) (hJ : wrd arg2 f2 (k0_off15 i) (k0_off15_inb i h3 h4) = J)
    (hI' : ∀ h5, wrd arg1 f1 (k0_off12 i) (k0_off12_inb i h3 h4 h5) = I') (hJ' : ∀ h5, wrd arg2 f2 (k0_off12 i) (k0_off12_inb i h3 h4 h5) = J')
    (hc2 : k0_chk2 i I) (hc1 : k0_chk1 i I J) (hc3 : k0_chk5 i I' J') (hc4 : k0_chk6 i I J)
    (hb : ∀ a, k0_off10 I J a + S512x512.size a ≤ S2048x2048.size a) (hb' : ∀ a, k0_off10 J I a + S512x512.size a ≤ S2048x2048.size a)
    (hr : ∀ a, k0_off4 I a + S512x2048.size a ≤ S2048x2048.size a) (hr' : ∀ a, k0_off4 J a + S512x2048.size a ≤ S2048x2048.size a)
    (f6 : arg6.view.ty.Contents (Elt F)) (fd : Buf (Elt F) ((blk arg5 I J hb).view.loc (c : Thread nD τ))) (fd' : Buf (Elt F) ((blk arg5 J I hb').view.loc (c : Thread nD τ)))
    (N : ℕ) (hN : ∀ (I J : BitVec 32) h, (blk arg5 I J h).view.dmaCredit = N) (hN0 : 0 < N)
    (E1 E2 E1' E2' X1 X2 : sProp 𝕄)
    (hX1 : X1 ⊢ iprop((blk arg5 I J hb).view.loc (c : Thread nD τ) ↦[(blk arg5 I J hb).view.set]{fullShare} fd))
    (hE1 : iprop((blk arg5 I J hb).view.loc (c : Thread nD τ) ↦[(blk arg5 I J hb).view.set]{fullShare}
      (blk arg5 I J hb).view.write (Elt F) fd (k0_pay5 (k0_pay6 (rowsI arg6 f6 I hr) (rowsI arg6 f6 J hr'))) Finset.univ) ⊢ E1)
    (hX : k0_cond11 I J = 1#1 → X2 ⊢ iprop((blk arg5 J I hb').view.loc (c : Thread nD τ) ↦[(blk arg5 J I hb').view.set]{fullShare} fd'))
    (hE2 : k0_cond11 I J = 1#1 → iprop((blk arg5 J I hb').view.loc (c : Thread nD τ) ↦[(blk arg5 J I hb').view.set]{fullShare}
      (blk arg5 J I hb').view.write (Elt F) fd' (k0_pay9 (rowsI arg6 f6 I hr) (rowsI arg6 f6 J hr')) Finset.univ) ⊢ E2)
    (hX' : ¬ k0_cond11 I J = 1#1 → X2 ⊢ E2)
    (K : PUnit → sProp 𝕄) :
    iprop((arg1.view.loc (c : Thread nD τ) ↦{q} f1) ∗ (arg2.view.loc (c : Thread nD τ) ↦{q} f2) ∗ (arg6.view.loc (c : Thread nD τ) ↦{fullShare} f6)
      ∗ X1 ∗ X2
      ∗ (if k0_cond9 i = 1#1 then fly c N arg13 arg9 E1' else idle c arg13 arg9 E1')
      ∗ (if k0_cond9 i = 1#1 ∧ k0_cond10 I' J' = 1#1 then fly c N arg14 arg10 E2' else idle c arg14 arg10 E2')
      ∗ (∃ W, owes (c : Thread nD τ) 0 W)
      ∗ (iprop((arg1.view.loc (c : Thread nD τ) ↦{q} f1) ∗ (arg2.view.loc (c : Thread nD τ) ↦{q} f2) ∗ (arg6.view.loc (c : Thread nD τ) ↦{fullShare} f6)
          ∗ E1' ∗ E2' ∗ fly c N arg13 arg9 E1
          ∗ (if k0_cond11 I J = 1#1 then fly c N arg14 arg10 E2 else idle c arg14 arg10 E2)
          ∗ (∃ W, owes (c : Thread nD τ) 0 W)) -∗ K ⟨⟩))
      ⊢ wp frame (wpE (defs₀ (F := F)) Variants.none c none) Set.univ (k0_part5 i arg1 harg1 arg2 harg2 arg3 harg3 arg4 harg4 arg5 harg5 arg6 harg6 arg7 harg7 arg8 harg8 arg9 harg9 arg10 harg10 arg11 arg12 arg13 arg14 arg0 I hc2 J hc1 h3) K := by
  subst hI hJ
  rw [k0_part5_eq_skeleton]; unfold k0_part5_skel
  by_cases h5 : k0_cond9 i = 1#1
  · have hI' := hI' h5; have hJ' := hJ' h5
    subst hI' hJ'
    by_cases h6 : k0_cond10 (wrd arg1 f1 (k0_off12 i) (k0_off12_inb i h3 h4 h5)) (wrd arg2 f2 (k0_off12 i) (k0_off12_inb i h3 h4 h5)) = 1#1
    · rw [if_pos h5, if_pos ⟨h5, h6⟩]
      iintro ⟨HT1, HT2, H6, H5, HX, HA, HB, HO, Hk⟩
      sl_exec (disch := first | sl_exact h3 | sl_exact h4 | sl_exact h5 | sl_exact h6 | sl_exact h7 | sl_exact h8 | sl_exact hc2 | sl_exact hc1 | sl_exact hc3 | sl_exact hc4)
      iapply (await c N (hN _ _ _) _) $$ [HA HO]
      · isplitl [HA] <;> iassumption
      iintro ⟨⟨HE1, ⟨%f7, HA⟩⟩, HS, HO⟩
      sl_exec (disch := first | sl_exact h3 | sl_exact h4 | sl_exact h5 | sl_exact h6 | sl_exact h7 | sl_exact h8 | sl_exact hc2 | sl_exact hc1 | sl_exact hc3 | sl_exact hc4)
      iapply (await c N (hN _ _ _) _) $$ [HB HO]
      · isplitl [HB] <;> iassumption
      iintro ⟨⟨HE2, ⟨%f8, HB⟩⟩, HS2, HO⟩
      sl_exec (disch := first | sl_exact h3 | sl_exact h4 | sl_exact h5 | sl_exact h6 | sl_exact h7 | sl_exact h8 | sl_exact hc2 | sl_exact hc1 | sl_exact hc3 | sl_exact hc4)
      iapply (send c N (hN _ _ _) hN0 iprop(E1 ∗ someTile c arg9) (deliver c (View.read_writes_full _ _ _ _ _) hE1)) $$ [HA H5 HS]
      · isplitl [HA]; · iexact HA
        isplitl [H5]; · iapply hX1 $$ H5
        iexact HS
      iintro HA
      by_cases h7 : k0_cond11 (wrd arg1 f1 (k0_off15 i) (k0_off15_inb i h3 h4)) (wrd arg2 f2 (k0_off15 i) (k0_off15_inb i h3 h4)) = 1#1
      · sl_exec (disch := first | sl_exact h3 | sl_exact h4 | sl_exact h5 | sl_exact h6 | sl_exact h7 | sl_exact h8 | sl_exact hc2 | sl_exact hc1 | sl_exact hc3 | sl_exact hc4)
        iapply (send c N (hN _ _ _) hN0 iprop(E2 ∗ someTile c arg10) (deliver c (View.read_writes_full _ _ _ _ _) (hE2 h7))) $$ [HB HX HS2]
        · isplitl [HB]; · iexact HB
          isplitl [HX]; · iapply (hX h7) $$ HX
          iexact HS2
        iintro HB
        sl_exec (disch := first | sl_exact h3 | sl_exact h4 | sl_exact h5 | sl_exact h6 | sl_exact h7 | sl_exact h8 | sl_exact hc2 | sl_exact hc1 | sl_exact hc3 | sl_exact hc4)
        iapply (Idealize.SL.Sem.le_wp_ret _ _)
        iapply Hk
        isplitl [HT1]; · iexact HT1
        isplitl [HT2]; · iexact HT2
        isplitl [H6]; · iexact H6
        isplitl [HE1]; · iexact HE1
        isplitl [HE2]; · iexact HE2
        isplitl [HA]; · iexact HA
        isplitl [HB]; · rw [if_pos h7]; iexact HB
        iexact HO
      · sl_exec (disch := first | sl_exact h3 | sl_exact h4 | sl_exact h5 | sl_exact h6 | sl_exact h7 | sl_exact h8 | sl_exact hc2 | sl_exact hc1 | sl_exact hc3 | sl_exact hc4)
        iapply (Idealize.SL.Sem.le_wp_ret _ _)
        iapply Hk
        isplitl [HT1]; · iexact HT1
        isplitl [HT2]; · iexact HT2
        isplitl [H6]; · iexact H6
        isplitl [HE1]; · iexact HE1
        isplitl [HE2]; · iexact HE2
        isplitl [HA]; · iexact HA
        isplitl [HX HB HS2]
        · rw [if_neg h7]
          isplitl [HX]; · iapply (hX' h7) $$ HX
          isplitl [HB]; · iexists _; iexact HB
          iexact HS2
        iexact HO
    · rw [if_pos h5, if_neg (fun h => h6 h.2)]
      iintro ⟨HT1, HT2, H6, H5, HX, HA, ⟨HE2, ⟨%f8, HB⟩, HS2⟩, HO, Hk⟩
      sl_exec (disch := first | sl_exact h3 | sl_exact h4 | sl_exact h5 | sl_exact h6 | sl_exact h7 | sl_exact h8 | sl_exact hc2 | sl_exact hc1 | sl_exact hc3 | sl_exact hc4)
      iapply (await c N (hN _ _ _) _) $$ [HA HO]
      · isplitl [HA] <;> iassumption
      iintro ⟨⟨HE1, ⟨%f7, HA⟩⟩, HS, HO⟩
      sl_exec (disch := first | sl_exact h3 | sl_exact h4 | sl_exact h5 | sl_exact h6 | sl_exact h7 | sl_exact h8 | sl_exact hc2 | sl_exact hc1 | sl_exact hc3 | sl_exact hc4)
      iapply (send c N (hN _ _ _) hN0 iprop(E1 ∗ someTile c arg9) (deliver c (View.read_writes_full _ _ _ _ _) hE1)) $$ [HA H5 HS]
      · isplitl [HA]; · iexact HA
        isplitl [H5]; · iapply hX1 $$ H5
        iexact HS
      iintro HA
      by_cases h7 : k0_cond11 (wrd arg1 f1 (k0_off15 i) (k0_off15_inb i h3 h4)) (wrd arg2 f2 (k0_off15 i) (k0_off15_inb i h3 h4)) = 1#1
      · sl_exec (disch := first | sl_exact h3 | sl_exact h4 | sl_exact h5 | sl_exact h6 | sl_exact h7 | sl_exact h8 | sl_exact hc2 | sl_exact hc1 | sl_exact hc3 | sl_exact hc4)
        iapply (send c N (hN _ _ _) hN0 iprop(E2 ∗ someTile c arg10) (deliver c (View.read_writes_full _ _ _ _ _) (hE2 h7))) $$ [HB HX HS2]
        · isplitl [HB]; · iexact HB
          isplitl [HX]; · iapply (hX h7) $$ HX
          iexact HS2
        iintro HB
        sl_exec (disch := first | sl_exact h3 | sl_exact h4 | sl_exact h5 | sl_exact h6 | sl_exact h7 | sl_exact h8 | sl_exact hc2 | sl_exact hc1 | sl_exact hc3 | sl_exact hc4)
        iapply (Idealize.SL.Sem.le_wp_ret _ _)
        iapply Hk
        isplitl [HT1]; · iexact HT1
        isplitl [HT2]; · iexact HT2
        isplitl [H6]; · iexact H6
        isplitl [HE1]; · iexact HE1
        isplitl [HE2]; · iexact HE2
        isplitl [HA]; · iexact HA
        isplitl [HB]; · rw [if_pos h7]; iexact HB
        iexact HO
      · sl_exec (disch := first | sl_exact h3 | sl_exact h4 | sl_exact h5 | sl_exact h6 | sl_exact h7 | sl_exact h8 | sl_exact hc2 | sl_exact hc1 | sl_exact hc3 | sl_exact hc4)
        iapply (Idealize.SL.Sem.le_wp_ret _ _)
        iapply Hk
        isplitl [HT1]; · iexact HT1
        isplitl [HT2]; · iexact HT2
        isplitl [H6]; · iexact H6
        isplitl [HE1]; · iexact HE1
        isplitl [HE2]; · iexact HE2
        isplitl [HA]; · iexact HA
        isplitl [HX HB HS2]
        · rw [if_neg h7]
          isplitl [HX]; · iapply (hX' h7) $$ HX
          isplitl [HB]; · iexists _; iexact HB
          iexact HS2
        iexact HO
  · rw [if_neg h5, if_neg (fun h => h5 h.1)]
    · iintro ⟨HT1, HT2, H6, H5, HX, ⟨HE1, ⟨%f7, HA⟩, HS⟩, ⟨HE2, ⟨%f8, HB⟩, HS2⟩, HO, Hk⟩
      sl_exec (disch := first | sl_exact h3 | sl_exact h4 | sl_exact h5 | sl_exact h6 | sl_exact h7 | sl_exact h8 | sl_exact hc2 | sl_exact hc1 | sl_exact hc3 | sl_exact hc4)
      iapply (send c N (hN _ _ _) hN0 iprop(E1 ∗ someTile c arg9) (deliver c (View.read_writes_full _ _ _ _ _) hE1)) $$ [HA H5 HS]
      · isplitl [HA]; · iexact HA
        isplitl [H5]; · iapply hX1 $$ H5
        iexact HS
      iintro HA
      by_cases h7 : k0_cond11 (wrd arg1 f1 (k0_off15 i) (k0_off15_inb i h3 h4)) (wrd arg2 f2 (k0_off15 i) (k0_off15_inb i h3 h4)) = 1#1
      · sl_exec (disch := first | sl_exact h3 | sl_exact h4 | sl_exact h5 | sl_exact h6 | sl_exact h7 | sl_exact h8 | sl_exact hc2 | sl_exact hc1 | sl_exact hc3 | sl_exact hc4)
        iapply (send c N (hN _ _ _) hN0 iprop(E2 ∗ someTile c arg10) (deliver c (View.read_writes_full _ _ _ _ _) (hE2 h7))) $$ [HB HX HS2]
        · isplitl [HB]; · iexact HB
          isplitl [HX]; · iapply (hX h7) $$ HX
          iexact HS2
        iintro HB
        sl_exec (disch := first | sl_exact h3 | sl_exact h4 | sl_exact h5 | sl_exact h6 | sl_exact h7 | sl_exact h8 | sl_exact hc2 | sl_exact hc1 | sl_exact hc3 | sl_exact hc4)
        iapply (Idealize.SL.Sem.le_wp_ret _ _)
        iapply Hk
        isplitl [HT1]; · iexact HT1
        isplitl [HT2]; · iexact HT2
        isplitl [H6]; · iexact H6
        isplitl [HE1]; · iexact HE1
        isplitl [HE2]; · iexact HE2
        isplitl [HA]; · iexact HA
        isplitl [HB]; · rw [if_pos h7]; iexact HB
        iexact HO
      · sl_exec (disch := first | sl_exact h3 | sl_exact h4 | sl_exact h5 | sl_exact h6 | sl_exact h7 | sl_exact h8 | sl_exact hc2 | sl_exact hc1 | sl_exact hc3 | sl_exact hc4)
        iapply (Idealize.SL.Sem.le_wp_ret _ _)
        iapply Hk
        isplitl [HT1]; · iexact HT1
        isplitl [HT2]; · iexact HT2
        isplitl [H6]; · iexact H6
        isplitl [HE1]; · iexact HE1
        isplitl [HE2]; · iexact HE2
        isplitl [HA]; · iexact HA
        isplitl [HX HB HS2]
        · rw [if_neg h7]
          isplitl [HX]; · iapply (hX' h7) $$ HX
          isplitl [HB]; · iexists _; iexact HB
          iexact HS2
        iexact HO

end Cert.DecodeIdeal.Own

end
-- ==== Proof.Dec.Body.lean ====
/-
  The decoder's region: ten points fill a scratch matrix with the products of pairs of row blocks, ten more multiply
  its rows and send each product's tiles to the result by transfers waited for two points later.
-/
module

public import proofs.«01_k».proof.Proof.Gen.DecodeIdeal.Launch
public import proofs.«01_k».proof.Proof.Gen.DecodeIdeal.Skeleton
public import proofs.«01_k».proof.Proof.Gen.DecodeIdeal
public import Idealize.ShloMosaic.Lib.Pipeline.FrameValue
public import Idealize.ShloMosaic.Lib.Pipeline.Value
public import Idealize.ShloMosaic.Lib.WritesUnit
public import Idealize.ShloMosaic.Lib.Pointwise.Index
public import Idealize.ShloMosaic.Lib.Ring
public import Idealize.ShloMosaic.Lib.Ring.WriteBehind
public import Idealize.ShloMosaic.Lib.Tactic
public import proofs.«01_k».proof.Proof.Dec.Odd

@[expose] public section

set_option maxRecDepth 16384

noncomputable section

namespace Cert.DecodeIdeal.Own

open Cert.DecodeIdeal Cert.DecodeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- A program's first part, run to a continuation. -/
theorem bindStep (c : Dev nD) {α β : Type} (p : Prog (TpuEff nD τ sig (Elt F) Λ₀ .tc) α) (k : α → Prog (TpuEff nD τ sig (Elt F) Λ₀ .tc) β) (Q : β → sProp 𝕄) :
    wp frame (wpE (defs₀ (F := F)) Variants.none (c : Thread nD τ) none) Set.univ p (fun a => wp frame (wpE (defs₀ (F := F)) Variants.none (c : Thread nD τ) none) Set.univ (k a) Q)
      ⊢ wp frame (wpE (defs₀ (F := F)) Variants.none (c : Thread nD τ) none) Set.univ (p >>= k) Q :=
  Entails.of_eq (Idealize.SL.Sem.wp_bind _ _ _ p k Q).symm

set_option maxHeartbeats 8000000 in
set_option sl_exec.stopBefore "k0_part5" in
/-- A point of the second half is its middle part when it is not the last one. -/
theorem wp_mid (c : Dev nD) (i : grid0.Coords) (arg1 : Memref sig .tc .smem S10 .i32) (harg1 : arg1.IsWhole) (arg2 : Memref sig .tc .smem S10 .i32) (harg2 : arg2.IsWhole) (arg3 : Memref sig .tc .vmem S512x2048 .bf16) (harg3 : arg3.IsWhole) (arg4 : Memref sig .tc .vmem S512x2048 .bf16) (harg4 : arg4.IsWhole) (arg5 : Memref sig .tc .hbm S2048x2048 .f32) (harg5 : arg5.IsWhole) (arg6 : Memref sig .tc .vmem S2048x2048 .bf16) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole) (arg11 : DmaSems sig S_) (arg12 : DmaSems sig S_) (arg13 : DmaSems sig S_) (arg14 : DmaSems sig S_)
    (h1 : ¬ k0_cond1 i = 1#1) (h3 : k0_cond3 i = 1#1) (h12 : ¬ k0_cond12 i = 1#1)
    (I J : BitVec 32) (q : PosShare TreeShare) (f1 : arg1.view.ty.Contents (Elt F)) (f2 : arg2.view.ty.Contents (Elt F))
    (hI : wrd arg1 f1 (k0_off1 i) (k0_off1_inb i) = I) (hJ : wrd arg2 f2 (k0_off1 i) (k0_off1_inb i) = J)
    (hc2 : k0_chk2 i I) (hc1 : k0_chk1 i I J) (R P : sProp 𝕄)
    (hR : ∀ K : PUnit → sProp 𝕄, iprop((arg1.view.loc (c : Thread nD τ) ↦{q} f1) ∗ (arg2.view.loc (c : Thread nD τ) ↦{q} f2) ∗ R ∗ (P -∗ K ⟨⟩))
      ⊢ wp frame (wpE (defs₀ (F := F)) Variants.none c none) Set.univ (k0_part5 i arg1 harg1 arg2 harg2 arg3 harg3 arg4 harg4 arg5 harg5 arg6 harg6 arg7 harg7 arg8 harg8 arg9 harg9 arg10 harg10 arg11 arg12 arg13 arg14 (BitVec.ofNat 32 (i 0).val) I hc2 J hc1 h3) K)
    (K : PUnit → sProp 𝕄) :
    iprop((arg1.view.loc (c : Thread nD τ) ↦{q} f1) ∗ (arg2.view.loc (c : Thread nD τ) ↦{q} f2) ∗ R ∗ (P -∗ K ⟨⟩))
      ⊢ wp frame (wpE (defs₀ (F := F)) Variants.none c none) Set.univ (cc0__zzy_body i arg1 harg1 arg2 harg2 arg3 harg3 arg4 harg4 arg5 harg5 arg6 harg6 arg7 harg7 arg8 harg8 arg9 harg9 arg10 harg10 arg11 arg12 arg13 arg14) K := by
  subst hI hJ
  rw [cc0__zzy_body_eq_skeleton]; unfold cc0__zzy_body_skel
  iintro ⟨HT1, HT2, HR, Hk⟩
  sl_exec (disch := first | sl_exact h1 | sl_exact h3 | sl_exact hc2 | sl_exact hc1)
  iapply (bindStep c _ _ _)
  iapply (hR _)
  isplitl [HT1]; · iexact HT1
  isplitl [HT2]; · iexact HT2
  isplitl [HR]; · iexact HR
  iintro HP
  sl_exec (disch := first | sl_exact h12)
  iapply (Idealize.SL.Sem.le_wp_ret _ _)
  iapply Hk $$ HP

set_option maxHeartbeats 8000000 in
set_option sl_exec.stopBefore "k0_part5" in
/-- The last point: its middle part, then the waits for its own pair's transfers and for those of the point before. -/
theorem wp_last (c : Dev nD) (i : grid0.Coords) (arg1 : Memref sig .tc .smem S10 .i32) (harg1 : arg1.IsWhole) (arg2 : Memref sig .tc .smem S10 .i32) (harg2 : arg2.IsWhole) (arg3 : Memref sig .tc .vmem S512x2048 .bf16) (harg3 : arg3.IsWhole) (arg4 : Memref sig .tc .vmem S512x2048 .bf16) (harg4 : arg4.IsWhole) (arg5 : Memref sig .tc .hbm S2048x2048 .f32) (harg5 : arg5.IsWhole) (arg6 : Memref sig .tc .vmem S2048x2048 .bf16) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole) (arg11 : DmaSems sig S_) (arg12 : DmaSems sig S_) (arg13 : DmaSems sig S_) (arg14 : DmaSems sig S_)
    (h1 : ¬ k0_cond1 i = 1#1) (h3 : k0_cond3 i = 1#1) (h12 : k0_cond12 i = 1#1)
    (I J : BitVec 32) (q : PosShare TreeShare) (f1 : arg1.view.ty.Contents (Elt F)) (f2 : arg2.view.ty.Contents (Elt F))
    (hI : wrd arg1 f1 (k0_off1 i) (k0_off1_inb i) = I) (hJ : wrd arg2 f2 (k0_off1 i) (k0_off1_inb i) = J)
    (hc2 : k0_chk2 i I) (hc1 : k0_chk1 i I J) (R P : sProp 𝕄) (h13 : ¬ k0_cond13 i = 1#1) (h16 : k0_cond16 i = 1#1)
    (I' J' : BitVec 32) (hI0 : wrd arg1 f1 (k0_off24 i) (k0_off24_inb i h3 h12 h16) = I) (hJ0 : wrd arg2 f2 (k0_off24 i) (k0_off24_inb i h3 h12 h16) = J)
    (hI' : wrd arg1 f1 (k0_off27 i) (k0_off27_inb i h3 h12 h16) = I') (hJ' : wrd arg2 f2 (k0_off27 i) (k0_off27_inb i h3 h12 h16) = J')
    (hc9 : k0_chk9 i I J) (hc10 : k0_chk10 i I' J') (h17 : ¬ k0_cond17 I J = 1#1) (h18 : k0_cond18 I' J' = 1#1)
    (N : ℕ) (hN : ∀ (I J : BitVec 32) h, (blk arg5 I J h).view.dmaCredit = N) (E1 E1' E2' : sProp 𝕄)
    (hR : ∀ K : PUnit → sProp 𝕄, iprop((arg1.view.loc (c : Thread nD τ) ↦{q} f1) ∗ (arg2.view.loc (c : Thread nD τ) ↦{q} f2) ∗ R
        ∗ (iprop((arg1.view.loc (c : Thread nD τ) ↦{q} f1) ∗ (arg2.view.loc (c : Thread nD τ) ↦{q} f2) ∗ P ∗ fly c N arg13 arg9 E1 ∗ (∃ W, owes (c : Thread nD τ) 0 W)) -∗ K ⟨⟩))
      ⊢ wp frame (wpE (defs₀ (F := F)) Variants.none c none) Set.univ (k0_part5 i arg1 harg1 arg2 harg2 arg3 harg3 arg4 harg4 arg5 harg5 arg6 harg6 arg7 harg7 arg8 harg8 arg9 harg9 arg10 harg10 arg11 arg12 arg13 arg14 (BitVec.ofNat 32 (i 0).val) I hc2 J hc1 h3) K)
    (K : PUnit → sProp 𝕄) :
    iprop((arg1.view.loc (c : Thread nD τ) ↦{q} f1) ∗ (arg2.view.loc (c : Thread nD τ) ↦{q} f2) ∗ R ∗ fly c N arg11 arg7 E1' ∗ fly c N arg12 arg8 E2'
      ∗ (iprop((arg1.view.loc (c : Thread nD τ) ↦{q} f1) ∗ (arg2.view.loc (c : Thread nD τ) ↦{q} f2) ∗ P ∗ idle c arg13 arg9 E1 ∗ idle c arg11 arg7 E1' ∗ idle c arg12 arg8 E2'
          ∗ (∃ W, owes (c : Thread nD τ) 0 W)) -∗ K ⟨⟩))
      ⊢ wp frame (wpE (defs₀ (F := F)) Variants.none c none) Set.univ (cc0__zzy_body i arg1 harg1 arg2 harg2 arg3 harg3 arg4 harg4 arg5 harg5 arg6 harg6 arg7 harg7 arg8 harg8 arg9 harg9 arg10 harg10 arg11 arg12 arg13 arg14) K := by
  subst hI hI' hJ hJ'
  rw [cc0__zzy_body_eq_skeleton]; unfold cc0__zzy_body_skel
  iintro ⟨HT1, HT2, HR, HA, HB, Hk⟩
  sl_exec (disch := first | sl_exact h1 | sl_exact h3 | sl_exact hc2 | sl_exact hc1)
  iapply (bindStep c _ _ _)
  iapply (hR _)
  isplitl [HT1]; · iexact HT1
  isplitl [HT2]; · iexact HT2
  isplitl [HR]; · iexact HR
  iintro ⟨HT1, HT2, HP, HC, HO⟩
  sl_exec (disch := first | sl_exact h12 | sl_exact h13 | sl_exact h16 | sl_exact hc9 | sl_exact hc10 | sl_exact h17 | sl_exact h18)
  iapply (await c N (hN _ _ _) _) $$ [HC HO]
  · isplitl [HC] <;> iassumption
  iintro ⟨⟨HE, ⟨%f9, HC⟩⟩, HS, HO⟩
  sl_exec (disch := first | sl_exact h12 | sl_exact h13 | sl_exact h16 | sl_exact hc9 | sl_exact hc10 | sl_exact h17 | sl_exact h18)
  iapply (await c N (hN _ _ _) _) $$ [HA HO]
  · isplitl [HA] <;> iassumption
  iintro ⟨⟨HE1, ⟨%f7, HA⟩⟩, HS1, HO⟩
  sl_exec (disch := first | sl_exact h12 | sl_exact h13 | sl_exact h16 | sl_exact hc9 | sl_exact hc10 | sl_exact h17 | sl_exact h18)
  iapply (await c N (hN _ _ _) _) $$ [HB HO]
  · isplitl [HB] <;> iassumption
  iintro ⟨⟨HE2, ⟨%f8, HB⟩⟩, HS2, HO⟩
  sl_exec (disch := first | sl_exact h12 | sl_exact h13 | sl_exact h16 | sl_exact hc9 | sl_exact hc10 | sl_exact h17 | sl_exact h18)
  iapply (Idealize.SL.Sem.le_wp_ret _ _)
  iapply Hk
  isplitl [HT1]; · iexact HT1
  isplitl [HT2]; · iexact HT2
  isplitl [HP]; · iexact HP
  isplitl [HE HC HS]
  · isplitl [HE]; · iexact HE
    isplitl [HC]; · iexists _; iexact HC
    iexact HS
  isplitl [HE1 HA HS1]
  · isplitl [HE1]; · iexact HE1
    isplitl [HA]; · iexists _; iexact HA
    iexact HS1
  isplitl [HE2 HB HS2]
  · isplitl [HE2]; · iexact HE2
    isplitl [HB]; · iexists _; iexact HB
    iexact HS2
  iexact HO

set_option maxHeartbeats 8000000 in
/-- A point of the first half: the product of the two row blocks goes to the pair's place of the scratch matrix, and its
    transpose to the mirrored place. -/
theorem wp_fill (c : Dev nD) (i : grid0.Coords) (arg1 : Memref sig .tc .smem S10 .i32) (harg1 : arg1.IsWhole) (arg2 : Memref sig .tc .smem S10 .i32) (harg2 : arg2.IsWhole) (arg3 : Memref sig .tc .vmem S512x2048 .bf16) (harg3 : arg3.IsWhole) (arg4 : Memref sig .tc .vmem S512x2048 .bf16) (harg4 : arg4.IsWhole) (arg5 : Memref sig .tc .hbm S2048x2048 .f32) (harg5 : arg5.IsWhole) (arg6 : Memref sig .tc .vmem S2048x2048 .bf16) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole) (arg11 : DmaSems sig S_) (arg12 : DmaSems sig S_) (arg13 : DmaSems sig S_) (arg14 : DmaSems sig S_)
    (h1 : k0_cond1 i = 1#1) (h3 : ¬ k0_cond3 i = 1#1)
    (I J : BitVec 32) (q : PosShare TreeShare) (f1 : arg1.view.ty.Contents (Elt F)) (f2 : arg2.view.ty.Contents (Elt F))
    (hI : wrd arg1 f1 (k0_off1 i) (k0_off1_inb i) = I) (hJ : wrd arg2 f2 (k0_off1 i) (k0_off1_inb i) = J)
    (hc2 : k0_chk2 i I) (hc1 : k0_chk1 i I J) (hb : ∀ a, k0_off2 I J a + S512x512.size a ≤ S2048x2048.size a) (hb' : ∀ a, k0_off2 J I a + S512x512.size a ≤ S2048x2048.size a)
    (f3 : arg3.view.ty.Contents (Elt F)) (f4 : arg4.view.ty.Contents (Elt F)) (f6 : arg6.view.ty.Contents (Elt F))
    (d3 d4 : Vec F S512x2048 .bf16) (hd3 : View.readAt (Elt F) arg3.view (Rect.unit (s := S512x2048) ![0, 0] S512x2048.size inb_S512x2048_S512x2048_0_0).toLoadRect f3 = d3) (hd4 : View.readAt (Elt F) arg4.view (Rect.unit (s := S512x2048) ![0, 0] S512x2048.size inb_S512x2048_S512x2048_0_0).toLoadRect f4 = d4) (K : PUnit → sProp 𝕄) :
    iprop((arg1.view.loc (c : Thread nD τ) ↦{q} f1) ∗ (arg2.view.loc (c : Thread nD τ) ↦{q} f2)
      ∗ (arg3.view.loc (c : Thread nD τ) ↦[arg3.view.set]{fullShare} f3) ∗ (arg4.view.loc (c : Thread nD τ) ↦[arg4.view.set]{fullShare} f4)
      ∗ (arg6.view.loc (c : Thread nD τ) ↦{fullShare} f6)
      ∗ (iprop((arg1.view.loc (c : Thread nD τ) ↦{q} f1) ∗ (arg2.view.loc (c : Thread nD τ) ↦{q} f2)
          ∗ (arg3.view.loc (c : Thread nD τ) ↦[arg3.view.set]{fullShare} f3) ∗ (arg4.view.loc (c : Thread nD τ) ↦[arg4.view.set]{fullShare} f4)
          ∗ (arg6.view.loc (c : Thread nD τ) ↦{fullShare} (arg6.view.writes (Elt F) f6
            (if k0_cond2 I J = 1#1 then [⟨Rect.unit (s := S2048x2048) (k0_off2 J I) S512x512.size hb', k0_pay3 d3 d4⟩, ⟨Rect.unit (s := S2048x2048) (k0_off2 I J) S512x512.size hb, k0_pay2 d3 d4⟩]
              else [⟨Rect.unit (s := S2048x2048) (k0_off2 I J) S512x512.size hb, k0_pay2 d3 d4⟩])))) -∗ K ⟨⟩))
      ⊢ wp frame (wpE (defs₀ (F := F)) Variants.none c none) Set.univ (cc0__zzy_body i arg1 harg1 arg2 harg2 arg3 harg3 arg4 harg4 arg5 harg5 arg6 harg6 arg7 harg7 arg8 harg8 arg9 harg9 arg10 harg10 arg11 arg12 arg13 arg14) K := by
  subst hI hJ hd3 hd4
  rw [cc0__zzy_body_eq_skeleton]; unfold cc0__zzy_body_skel
  by_cases h2 : k0_cond2 (wrd arg1 f1 (k0_off1 i) (k0_off1_inb i)) (wrd arg2 f2 (k0_off1 i) (k0_off1_inb i)) = 1#1
  · rw [if_pos h2]
    iintro ⟨HT1, HT2, H3, H4, H6, Hk⟩
    sl_exec (disch := first | sl_exact h1 | sl_exact h3 | sl_exact h2 | sl_exact hc2 | sl_exact hc1)
    iapply (Idealize.SL.Sem.le_wp_ret _ _)
    iapply Hk
    isplitl [HT1]; · iexact HT1
    isplitl [HT2]; · iexact HT2
    isplitl [H3]; · iexact H3
    isplitl [H4]; · iexact H4
    iexact H6
  · rw [if_neg h2]
    iintro ⟨HT1, HT2, H3, H4, H6, Hk⟩
    sl_exec (disch := first | sl_exact h1 | sl_exact h3 | sl_exact h2 | sl_exact hc2 | sl_exact hc1)
    iapply (Idealize.SL.Sem.le_wp_ret _ _)
    iapply Hk
    isplitl [HT1]; · iexact HT1
    isplitl [HT2]; · iexact HT2
    isplitl [H3]; · iexact H3
    isplitl [H4]; · iexact H4
    iexact H6

end Cert.DecodeIdeal.Own

end
-- ==== Proof.Dec.Tab.lean ====
/-
  The decoder's region: ten points fill a scratch matrix with the products of pairs of row blocks, ten more multiply
  its rows and send each product's tiles to the result by transfers waited for two points later.
-/
module

public import proofs.«01_k».proof.Proof.Gen.DecodeIdeal.Launch
public import proofs.«01_k».proof.Proof.Gen.DecodeIdeal.Skeleton
public import proofs.«01_k».proof.Proof.Gen.DecodeIdeal
public import Idealize.ShloMosaic.Lib.Pipeline.FrameValue
public import Idealize.ShloMosaic.Lib.Pipeline.Value
public import Idealize.ShloMosaic.Lib.WritesUnit
public import Idealize.ShloMosaic.Lib.Pointwise.Index
public import Idealize.ShloMosaic.Lib.Ring
public import Idealize.ShloMosaic.Lib.Ring.WriteBehind
public import Idealize.ShloMosaic.Lib.Tactic
public import proofs.«01_k».proof.Proof.Dec.Body

@[expose] public section

set_option maxRecDepth 16384

noncomputable section

namespace Cert.DecodeIdeal.Own

open Cert.DecodeIdeal Cert.DecodeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The two tables as the host writes them: the pairs of block rows, row by row of the upper triangle. -/
def pf0 : pre0.Contents (Elt F) := fun
  | 0 => fun i => lit0 (S10.rowMajor i)
  | 1 => fun i => lit1 (S10.rowMajor i)
  | ⟨_ + 2, h⟩ => absurd h (Nat.not_lt.2 (Nat.le_add_left _ _))

/-- The two block rows of pair `u`. -/
def wI (u : ℕ) : BitVec 32 := [0#32, 0#32, 0#32, 0#32, 1#32, 1#32, 1#32, 2#32, 2#32, 3#32].getD u 0#32
def wJ (u : ℕ) : BitVec 32 := [0#32, 1#32, 2#32, 3#32, 1#32, 2#32, 3#32, 2#32, 3#32, 3#32].getD u 0#32

/-- The block of the sample each window fetches at a point: the pair's in the first half, block 0 in the second. -/
def ixI (t : Fin 20) : ℕ := if t.val < 10 then (wI t.val).toNat else 0
def ixJ (t : Fin 20) : ℕ := if t.val < 10 then (wJ t.val).toNat else 0

theorem ixI_lt (t : Fin 20) : ixI t < 4 := by revert t; decide +kernel
theorem ixJ_lt (t : Fin 20) : ixJ t < 4 := by revert t; decide +kernel

/-- A grid point is its number. -/
abbrev pt (t : Fin 20) : grid0.Coords := fun | 0 => t
theorem pt_of (i : grid0.Coords) : ∃ t, i = pt t := ⟨i 0, funext fun | 0 => rfl⟩
theorem coords_pt (t : Fin grid0.N) : grid0.coords t = pt (t.cast N_0) := by revert t; decide +kernel

theorem lit_pair : ∀ n : Fin 10, lit0 n = wI n.val ∧ lit1 n = wJ n.val := by decide +kernel

theorem entry0 (i : S10.Idx) (n : ℕ) (h : (i 0).val = n) : pf0 (F := F) 0 i = wI n := by
  subst h
  have e : (S10.rowMajor i).val = (i 0).val := Shape.rowMajor_val_one i
  rw [← e]; exact (lit_pair (S10.rowMajor i)).1
theorem entry1 (i : S10.Idx) (n : ℕ) (h : (i 0).val = n) : pf0 (F := F) 1 i = wJ n := by
  subst h
  have e : (S10.rowMajor i).val = (i 0).val := Shape.rowMajor_val_one i
  rw [← e]; exact (lit_pair (S10.rowMajor i)).2

theorem at0 (off : Fin 1 → ℕ) (n : ℕ) (h) (hn : off 0 = n) :
    Pipeline.Prefetch.Contents.at (pf0 (F := F)) 0 (Rect.unit (s := S10) off S1.size h) numel1_S1 = wI n :=
  entry0 _ n (by subst hn; show off 0 + 1 * 0 = off 0; omega)
theorem at1 (off : Fin 1 → ℕ) (n : ℕ) (h) (hn : off 0 = n) :
    Pipeline.Prefetch.Contents.at (pf0 (F := F)) 1 (Rect.unit (s := S10) off S1.size h) numel1_S1 = wJ n :=
  entry1 _ n (by subst hn; show off 0 + 1 * 0 = off 0; omega)

theorem off1_pt (t : Fin 20) : k0_off1 (pt t) 0 = t.val % 10 := by revert t; decide +kernel
theorem off6_pt (t : Fin 20) (h : 12 ≤ t.val) : k0_off6 (pt t) 0 = t.val - 12 := by revert t; decide +kernel
theorem off27_pt : k0_off27 (pt 19) 0 = 8 := by decide +kernel

/-- The block an index map names, of the word it reads. -/
theorem ixSel (t : Fin 20) (w : BitVec 32) : ![(Scalar.select (Scalar.cmpi .slt (BitVec.ofNat 32 ((pt t) 0).val) 10#32) w 0#32).toNat, (0#32).toNat]
    = ![if t.val < 10 then w.toNat else 0, 0] := by
  have h : ∀ t : Fin 20, Scalar.cmpi .slt (BitVec.ofNat 32 ((pt t) 0).val) 10#32 = if t.val < 10 then 1#1 else 0#1 := by decide +kernel
  rw [h t]; split <;> rfl

theorem tr0 (t : Fin 20) : cc0_transform_0 k0_off1_inb numel1_S1 (pf0 (F := F)) (pt t) = ![ixI t, 0] := by
  show ![(Scalar.select (Scalar.cmpi .slt (BitVec.ofNat 32 ((pt t) 0).val) 10#32) (Pipeline.Prefetch.Contents.at (pf0 (F := F)) 0 (Rect.unit (s := S10) (k0_off1 (pt t)) S1.size (k0_off1_inb (pt t))) numel1_S1) 0#32).toNat, (0#32).toNat] = _
  rw [at0 (F := F) (k0_off1 (pt t)) _ _ (off1_pt t)]
  refine (ixSel t (wI (t.val % 10))).trans ?_; unfold ixI; split
  · rw [Nat.mod_eq_of_lt (by assumption)]
  · rfl
theorem tr1 (t : Fin 20) : cc0_transform_1 k0_off1_inb numel1_S1 (pf0 (F := F)) (pt t) = ![ixJ t, 0] := by
  show ![(Scalar.select (Scalar.cmpi .slt (BitVec.ofNat 32 ((pt t) 0).val) 10#32) (Pipeline.Prefetch.Contents.at (pf0 (F := F)) 1 (Rect.unit (s := S10) (k0_off1 (pt t)) S1.size (k0_off1_inb (pt t))) numel1_S1) 0#32).toNat, (0#32).toNat] = _
  rw [at1 (F := F) (k0_off1 (pt t)) _ _ (off1_pt t)]
  refine (ixSel t (wJ (t.val % 10))).trans ?_; unfold ixJ; split
  · rw [Nat.mod_eq_of_lt (by assumption)]
  · rfl

theorem blkOk (n : ℕ) (hn : n < 4) : ∃ h : (∀ a, ((![n, 0] : Fin 2 → ℕ) a + 1) * S512x2048.size a ≤ S2048x2048.size a),
    EltTy.bits .bf16 = 32 ∨ (Rect.block (s := S2048x2048) S512x2048.size (![n, 0] : Fin 2 → ℕ) h).WholeWords (EltTy.packing .bf16) := by
  revert n; decide +kernel

theorem hok : ok0 (pf0 (F := F)) := by
  constructor
  · intro i; obtain ⟨t, rfl⟩ := pt_of i; rw [tr0]; exact blkOk _ (ixI_lt t)
  · intro i; obtain ⟨t, rfl⟩ := pt_of i; rw [tr1]; exact blkOk _ (ixJ_lt t)

/-- The tables as the pipeline takes them. -/
abbrev adm0 : (pcfg0 (F := F)).Adm := ⟨pf0, hok⟩
abbrev adm : (p : Fin 1) → (pcfgs (F := F) p).Adm := fun _ => adm0

theorem wrd0 (off : Fin 1 → ℕ) (n : ℕ) (h) (hn : off 0 = n) : wrd (Memref.whole main_c) (pf0 (F := F) 0) off h = wI n :=
  at0 (F := F) off n h hn
theorem wrd1 (off : Fin 1 → ℕ) (n : ℕ) (h) (hn : off 0 = n) : wrd (Memref.whole main_c_0) (pf0 (F := F) 1) off h = wJ n :=
  at1 (F := F) off n h hn
theorem word1 (t : Fin 20) (h) : wrd (Memref.whole main_c) (pf0 (F := F) 0) (k0_off1 (pt t)) h = wI (t.val % 10) :=
  wrd0 (F := F) _ _ _ (off1_pt t)
theorem word2 (t : Fin 20) (h) : wrd (Memref.whole main_c_0) (pf0 (F := F) 1) (k0_off1 (pt t)) h = wJ (t.val % 10) :=
  wrd1 (F := F) _ _ _ (off1_pt t)
theorem word1' (t : Fin 20) (ht : 12 ≤ t.val) (h) : wrd (Memref.whole main_c) (pf0 (F := F) 0) (k0_off6 (pt t)) h = wI (t.val - 12) :=
  wrd0 (F := F) _ _ _ (off6_pt t ht)
theorem word2' (t : Fin 20) (ht : 12 ≤ t.val) (h) : wrd (Memref.whole main_c_0) (pf0 (F := F) 1) (k0_off6 (pt t)) h = wJ (t.val - 12) :=
  wrd1 (F := F) _ _ _ (off6_pt t ht)
theorem word1'' (h) : wrd (Memref.whole main_c) (pf0 (F := F) 0) (k0_off27 (pt 19)) h = wI 8 := wrd0 (F := F) _ _ _ off27_pt
theorem word2'' (h) : wrd (Memref.whole main_c_0) (pf0 (F := F) 1) (k0_off27 (pt 19)) h = wJ 8 := wrd1 (F := F) _ _ _ off27_pt

/-- Which half, which slot, and whether the slot's transfers were started before. -/
theorem first_iff (t : Fin 20) : k0_cond1 (pt t) = 1#1 ↔ t.val < 10 := by revert t; decide +kernel
theorem second_iff (t : Fin 20) : k0_cond3 (pt t) = 1#1 ↔ 10 ≤ t.val := by revert t; decide +kernel
theorem even_iff (t : Fin 20) : k0_cond4 (pt t) = 1#1 ↔ t.val % 2 = 0 := by revert t; decide +kernel
theorem odd_iff (t : Fin 20) : k0_cond8 (pt t) = 1#1 ↔ t.val % 2 = 1 := by revert t; decide +kernel
theorem waits_iff (t : Fin 20) : k0_cond5 (pt t) = 1#1 ↔ 12 ≤ t.val := by revert t; decide +kernel
theorem waits_iff' (t : Fin 20) : k0_cond9 (pt t) = 1#1 ↔ 12 ≤ t.val := by revert t; decide +kernel
theorem last_iff (t : Fin 20) : k0_cond12 (pt t) = 1#1 ↔ t.val = 19 := by revert t; decide +kernel

/-- The offsets of every pair lie inside their matrices. -/
theorem chk1 (t : Fin 20) : k0_chk1 (pt t) (wI (t.val % 10)) (wJ (t.val % 10)) := by revert t; decide +kernel
theorem chk2 (t : Fin 20) : k0_chk2 (pt t) (wI (t.val % 10)) := by revert t; decide +kernel
theorem chk3 (t : Fin 20) : k0_chk3 (pt t) (wI (t.val - 12)) (wJ (t.val - 12)) := by revert t; decide +kernel
theorem chk4 (t : Fin 20) : k0_chk4 (pt t) (wI (t.val % 10)) (wJ (t.val % 10)) := by revert t; decide +kernel
theorem chk5 (t : Fin 20) : k0_chk5 (pt t) (wI (t.val - 12)) (wJ (t.val - 12)) := by revert t; decide +kernel
theorem chk6 (t : Fin 20) : k0_chk6 (pt t) (wI (t.val % 10)) (wJ (t.val % 10)) := by revert t; decide +kernel

theorem inBlk (u v : Fin 4) : ∀ a, k0_off10 (BitVec.ofNat 32 u.val) (BitVec.ofNat 32 v.val) a + S512x512.size a ≤ S2048x2048.size a := by
  revert u v; decide +kernel
theorem inRows (u : Fin 4) : ∀ a, k0_off4 (BitVec.ofNat 32 u.val) a + S512x2048.size a ≤ S2048x2048.size a := by
  revert u; decide +kernel
theorem inPlace (u v : Fin 4) : ∀ a, k0_off2 (BitVec.ofNat 32 u.val) (BitVec.ofNat 32 v.val) a + S512x512.size a ≤ S2048x2048.size a := by
  revert u v; decide +kernel

end Cert.DecodeIdeal.Own

end
-- ==== Proof.Dec.Cont.lean ====
/-
  The decoder's region: ten points fill a scratch matrix with the products of pairs of row blocks, ten more multiply
  its rows and send each product's tiles to the result by transfers waited for two points later.
-/
module

public import proofs.«01_k».proof.Proof.Gen.DecodeIdeal.Launch
public import proofs.«01_k».proof.Proof.Gen.DecodeIdeal.Skeleton
public import proofs.«01_k».proof.Proof.Gen.DecodeIdeal
public import Idealize.ShloMosaic.Lib.Pipeline.FrameValue
public import Idealize.ShloMosaic.Lib.Pipeline.Value
public import Idealize.ShloMosaic.Lib.WritesUnit
public import Idealize.ShloMosaic.Lib.Pointwise.Index
public import Idealize.ShloMosaic.Lib.Ring
public import Idealize.ShloMosaic.Lib.Ring.WriteBehind
public import Idealize.ShloMosaic.Lib.Tactic
public import proofs.«01_k».proof.Proof.Dec.Tab

@[expose] public section

set_option maxRecDepth 16384

noncomputable section

namespace Cert.DecodeIdeal.Own

open Cert.DecodeIdeal Cert.DecodeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The two block rows of pair `u`, as numbers. -/
def bI : Fin 10 → Fin 4 := ![0, 0, 0, 0, 1, 1, 1, 2, 2, 3]
def bJ : Fin 10 → Fin 4 := ![0, 1, 2, 3, 1, 2, 3, 2, 3, 3]
/-- The pair of two block rows, in either order. -/
def prn (a b : Fin 4) : ℕ := [0, 3, 5, 6].getD (min a b).val 0 + (max a b).val

theorem bI_le (u : Fin 10) : bI u ≤ bJ u := by revert u; decide +kernel
theorem prn_lt (a b : Fin 4) : prn a b < 10 := by revert a b; decide +kernel
theorem prn_iff (a b : Fin 4) (u : Fin 10) : prn a b = u.val ↔ (a = bI u ∧ b = bJ u) ∨ (a = bJ u ∧ b = bI u) := by revert a b u; decide +kernel
theorem offIJ (u : Fin 10) : k0_off10 (wI u.val) (wJ u.val) = ![512 * (bI u).val, 512 * (bJ u).val] := by revert u; decide +kernel
theorem offJI (u : Fin 10) : k0_off10 (wJ u.val) (wI u.val) = ![512 * (bJ u).val, 512 * (bI u).val] := by revert u; decide +kernel
theorem offI (u : Fin 10) : k0_off4 (wI u.val) = ![512 * (bI u).val, 0] := by revert u; decide +kernel
theorem offJ (u : Fin 10) : k0_off4 (wJ u.val) = ![512 * (bJ u).val, 0] := by revert u; decide +kernel
theorem off_iff (u : Fin 10) : k0_cond7 (wI u.val) (wJ u.val) = 1#1 ↔ bI u ≠ bJ u := by revert u; decide +kernel
theorem in_IJ (u : Fin 10) : ∀ a, k0_off10 (wI u.val) (wJ u.val) a + S512x512.size a ≤ S2048x2048.size a := by revert u; decide +kernel
theorem in_JI (u : Fin 10) : ∀ a, k0_off10 (wJ u.val) (wI u.val) a + S512x512.size a ≤ S2048x2048.size a := by revert u; decide +kernel
theorem in_I (u : Fin 10) : ∀ a, k0_off4 (wI u.val) a + S512x2048.size a ≤ S2048x2048.size a := by revert u; decide +kernel
theorem in_J (u : Fin 10) : ∀ a, k0_off4 (wJ u.val) a + S512x2048.size a ≤ S2048x2048.size a := by revert u; decide +kernel
theorem bI_ix (t : Fin 20) (h : t.val < 10) : ixI t = (bI ⟨t.val, h⟩).val := by revert t; decide +kernel
theorem bJ_ix (t : Fin 20) (h : t.val < 10) : ixJ t = (bJ ⟨t.val, h⟩).val := by revert t; decide +kernel

/-- An element's block row, its block column, its place in its block, and its pair. -/
def br (i : S2048x2048.Idx) : Fin 4 := ⟨(i 0).val / 512, by have : (i 0).val < 2048 := (i 0).isLt; omega⟩
def bc (i : S2048x2048.Idx) : Fin 4 := ⟨(i 1).val / 512, by have : (i 1).val < 2048 := (i 1).isLt; omega⟩
def tl (i : S2048x2048.Idx) : S512x512.Idx := fun
  | 0 => ⟨(i 0).val % 512, Nat.mod_lt _ (by decide)⟩
  | 1 => ⟨(i 1).val % 512, Nat.mod_lt _ (by decide)⟩
def own (i : S2048x2048.Idx) : ℕ := prn (br i) (bc i)
theorem own_lt (i : S2048x2048.Idx) : own i < 10 := prn_lt _ _

/-- The row of blocks `u` of a matrix. -/
def rowAt (u : Fin 4) (y : S512x2048.Idx) : S2048x2048.Idx := fun
  | 0 => ⟨512 * u.val + (y 0).val, by have : (y 0).val < 512 := (y 0).isLt; have := u.isLt; show _ < 2048; omega⟩
  | 1 => y 1
def rb {e : EltTy} (x : Vec F S2048x2048 e) (u : Fin 4) : Vec F S512x2048 e := fun y => x (rowAt u y)

/-- What the first half leaves in the scratch matrix, of the sample. -/
def zz (x : Vec F S2048x2048 .bf16) : Vec F S2048x2048 .bf16 := fun i =>
  if br i ≤ bc i then k0_pay2 (rb x (br i)) (rb x (bc i)) (tl i) else k0_pay3 (rb x (bc i)) (rb x (br i)) (tl i)
/-- What the second half leaves in the result, of the scratch matrix. -/
def yy (z : Vec F S2048x2048 .bf16) : Vec F S2048x2048 .f32 := fun i =>
  if br i ≤ bc i then k0_pay4 (k0_pay6 (rb z (br i)) (rb z (bc i))) (tl i) else k0_pay8 (rb z (bc i)) (rb z (br i)) (tl i)

theorem mem_tile {off : Fin 2 → ℕ} (inb) {u v : Fin 4} (h : off = ![512 * u.val, 512 * v.val]) (i : S2048x2048.Idx) :
    i ∈ (Rect.unit (s := S2048x2048) off S512x512.size inb).set ↔ br i = u ∧ bc i = v := by
  subst h
  rw [Rect.mem_set_unit]
  refine Fin.forall_fin_two.trans ?_
  have e0 : ((![512 * u.val, 512 * v.val] : Fin 2 → ℕ) 0 ≤ i 0 ∧ (i 0 : ℕ) < (![512 * u.val, 512 * v.val] : Fin 2 → ℕ) 0 + S512x512.size 0) ↔ br i = u := by
    show (512 * u.val ≤ (i 0).val ∧ (i 0).val < 512 * u.val + 512) ↔ _
    unfold br; rw [Fin.ext_iff]; show _ ↔ (i 0).val / 512 = u.val; omega
  have e1 : ((![512 * u.val, 512 * v.val] : Fin 2 → ℕ) 1 ≤ i 1 ∧ (i 1 : ℕ) < (![512 * u.val, 512 * v.val] : Fin 2 → ℕ) 1 + S512x512.size 1) ↔ bc i = v := by
    show (512 * v.val ≤ (i 1).val ∧ (i 1).val < 512 * v.val + 512) ↔ _
    unfold bc; rw [Fin.ext_iff]; show _ ↔ (i 1).val / 512 = v.val; omega
  exact and_congr e0 e1

/-- A matrix written on one tile: the tile's elements have their place's value, the others what they had. -/
theorem read_tile (m : Memref sig .tc .vmem S2048x2048 .bf16) (f : m.view.ty.Contents (Elt F)) (L) {off : Fin 2 → ℕ} (inb) {u v : Fin 4}
    (h : off = ![512 * u.val, 512 * v.val]) (w : Vec F S512x512 .bf16) (i : S2048x2048.Idx) :
    m.view.read (Elt F) (m.view.writes (Elt F) f (⟨Rect.unit (s := S2048x2048) off S512x512.size inb, w⟩ :: L)) i
      = if br i = u ∧ bc i = v then w (tl i) else m.view.read (Elt F) (m.view.writes (Elt F) f L) i := by
  have d0 := Nat.mod_add_div (i 0).val 512
  have d1 := Nat.mod_add_div (i 1).val 512
  by_cases hm : br i = u ∧ bc i = v
  · rw [if_pos hm]
    obtain ⟨rfl, rfl⟩ := hm
    exact View.read_writes_cons_unit_of_mem m.view f inb w L i (tl i) h (Fin.forall_fin_two.mpr
      ⟨by show (i 0).val = 512 * ((i 0).val / 512) + (i 0).val % 512; omega, by show (i 1).val = 512 * ((i 1).val / 512) + (i 1).val % 512; omega⟩)
  · rw [if_neg hm]
    by_cases h0 : br i = u
    · have h1 : bc i ≠ v := fun h1 => hm ⟨h0, h1⟩
      refine View.read_writes_cons_unit_of_not_mem m.view f inb w L i h 1 ?_
      show (i 1).val < 512 * v.val ∨ 512 * v.val + 512 ≤ (i 1).val
      have : (i 1).val / 512 ≠ v.val := fun e => h1 (Fin.ext e)
      omega
    · refine View.read_writes_cons_unit_of_not_mem m.view f inb w L i h 0 ?_
      show (i 0).val < 512 * u.val ∨ 512 * u.val + 512 ≤ (i 0).val
      have : (i 0).val / 512 ≠ u.val := fun e => h0 (Fin.ext e)
      omega

/-- The scratch matrix after its first `n` pairs. -/
def Filled (x : Vec F S2048x2048 .bf16) (n : ℕ) (f : Vec F S2048x2048 .bf16) : Prop := ∀ i, own i < n → f i = zz x i

theorem filled_step (x : Vec F S2048x2048 .bf16) (m : Memref sig .tc .vmem S2048x2048 .bf16) (f : m.view.ty.Contents (Elt F)) (u : Fin 10)
    (h : Filled x u.val (m.view.read (Elt F) f)) (hb hb') :
    Filled x (u.val + 1) (m.view.read (Elt F) (m.view.writes (Elt F) f
      (if k0_cond2 (wI u.val) (wJ u.val) = 1#1 then
          [⟨Rect.unit (s := S2048x2048) (k0_off2 (wJ u.val) (wI u.val)) S512x512.size hb', k0_pay3 (rb x (bI u)) (rb x (bJ u))⟩,
           ⟨Rect.unit (s := S2048x2048) (k0_off2 (wI u.val) (wJ u.val)) S512x512.size hb, k0_pay2 (rb x (bI u)) (rb x (bJ u))⟩]
        else [⟨Rect.unit (s := S2048x2048) (k0_off2 (wI u.val) (wJ u.val)) S512x512.size hb, k0_pay2 (rb x (bI u)) (rb x (bJ u))⟩]))) := by
  intro i hi
  have hc : k0_cond2 (wI u.val) (wJ u.val) = 1#1 ↔ bI u ≠ bJ u := off_iff u
  have hle := bI_le u
  by_cases hu : own i = u.val
  · rcases (prn_iff _ _ _).mp hu with ⟨h0, h1⟩ | ⟨h0, h1⟩
    · have hz : zz x i = k0_pay2 (rb x (bI u)) (rb x (bJ u)) (tl i) := by
        unfold zz; rw [h0, h1, if_pos hle]
      split
      · next hd =>
        rw [read_tile m f _ hb' (offJI u), if_neg (fun e => (hc.mp hd) (h0.symm.trans e.1)), read_tile m f _ hb (offIJ u), if_pos ⟨h0, h1⟩, hz]
      · rw [read_tile m f _ hb (offIJ u), if_pos ⟨h0, h1⟩, hz]
    · by_cases hd : bI u = bJ u
      · rw [if_neg (fun e => hc.mp e hd)]
        rw [read_tile m f _ hb (offIJ u), if_pos ⟨h0.trans hd.symm, h1.trans hd⟩]
        unfold zz; rw [h0, h1, ← hd, if_pos (le_refl _)]
      · rw [if_pos (hc.mpr hd), read_tile m f _ hb' (offJI u), if_pos ⟨h0, h1⟩]
        unfold zz; rw [h0, h1, if_neg (fun e => hd (le_antisymm hle e))]
  · have n0 : ¬ (br i = bI u ∧ bc i = bJ u) := fun e => hu ((prn_iff _ _ _).mpr (Or.inl e))
    have n1 : ¬ (br i = bJ u ∧ bc i = bI u) := fun e => hu ((prn_iff _ _ _).mpr (Or.inr e))
    have hlt : own i < u.val := by omega
    split
    · rw [read_tile m f _ hb' (offJI u), if_neg n1, read_tile m f _ hb (offIJ u), if_neg n0]; exact h i hlt
    · rw [read_tile m f _ hb (offIJ u), if_neg n0]; exact h i hlt

theorem filled_all (x : Vec F S2048x2048 .bf16) (n : ℕ) (hn : 10 ≤ n) (f : Vec F S2048x2048 .bf16) (h : Filled x n f) : f = zz x :=
  funext fun i => h i (lt_of_lt_of_le (own_lt i) hn)

/-- A load of a row of blocks. -/
theorem rowsI_eq (z : Vec F S2048x2048 .bf16) (w : BitVec 32) (u : Fin 4) (h : k0_off4 w = ![512 * u.val, 0]) (inb) :
    rowsI (Memref.whole cc0_scratch0) z w inb = rb z u := by
  funext y
  show z ((Rect.unit (s := S2048x2048) (k0_off4 w) S512x2048.size inb).emb y) = z (rowAt u y)
  congr 1
  funext a
  apply Fin.ext
  show k0_off4 w a + 1 * (y a).val = _
  rw [h]
  match a with
  | 0 => show 512 * u.val + 1 * (y 0).val = 512 * u.val + (y 0).val; omega
  | 1 => show 0 + 1 * (y 1).val = (y 1).val; omega

/-- A tile of the result written at its value is that of the whole result. -/
theorem tile_value (z : Vec F S2048x2048 .bf16) (I J : BitVec 32) (u v : Fin 4) (h : k0_off10 I J = ![512 * u.val, 512 * v.val]) (inb)
    (fd : (blk (Memref.whole main_v0) I J inb).view.ty.Contents (Elt F)) (P : Vec F S512x512 .f32)
    (hP : ∀ i, br i = u → bc i = v → P (tl i) = yy z i) :
    ∀ i ∈ (blk (Memref.whole main_v0) I J inb).view.set, (blk (Memref.whole main_v0) I J inb).view.write (Elt F) fd P Finset.univ i = yy z i := by
  intro i hi
  obtain ⟨y, -, rfl⟩ := Finset.mem_map.mp hi
  rw [View.write_emb_of_mem _ _ (Finset.mem_univ y)]
  have hy : (blk (Memref.whole main_v0) I J inb).view.emb y = ((Rect.unit (s := S2048x2048) (k0_off10 I J) S512x512.size inb).emb y : S2048x2048.Idx) := rfl
  have hmem : ((Rect.unit (s := S2048x2048) (k0_off10 I J) S512x512.size inb).emb y : S2048x2048.Idx) ∈ (Rect.unit (s := S2048x2048) (k0_off10 I J) S512x512.size inb).set := by
    rw [← Rect.map_emb_univ]; exact Finset.mem_map_of_mem _ (Finset.mem_univ y)
  obtain ⟨h0, h1⟩ := (mem_tile inb h _).mp hmem
  have := hP _ h0 h1
  refine Eq.trans ?_ this
  show P y = _
  congr 1
  funext a
  apply Fin.ext
  match a with
  | 0 =>
    show (y 0).val = (k0_off10 I J 0 + 1 * (y 0).val) % 512
    rw [h]; show (y 0).val = (512 * u.val + 1 * (y 0).val) % 512
    have : (y 0).val < 512 := (y 0).isLt
    omega
  | 1 =>
    show (y 1).val = (k0_off10 I J 1 + 1 * (y 1).val) % 512
    rw [h]; show (y 1).val = (512 * v.val + 1 * (y 1).val) % 512
    have : (y 1).val < 512 := (y 1).isLt
    omega

theorem yy_IJ (z : Vec F S2048x2048 .bf16) (u : Fin 10) (i : S2048x2048.Idx) (h0 : br i = bI u) (h1 : bc i = bJ u) :
    k0_pay4 (k0_pay6 (rb z (bI u)) (rb z (bJ u))) (tl i) = yy z i := by
  unfold yy; rw [h0, h1, if_pos (bI_le u)]
theorem yy_JI (z : Vec F S2048x2048 .bf16) (u : Fin 10) (hd : bI u ≠ bJ u) (i : S2048x2048.Idx) (h0 : br i = bJ u) (h1 : bc i = bI u) :
    k0_pay8 (rb z (bI u)) (rb z (bJ u)) (tl i) = yy z i := by
  unfold yy; rw [h0, h1, if_neg (fun e => hd (le_antisymm (bI_le u) e))]

end Cert.DecodeIdeal.Own

end
-- ==== Proof.Dec.Part.lean ====
/-
  The decoder's region: ten points fill a scratch matrix with the products of pairs of row blocks, ten more multiply
  its rows and send each product's tiles to the result by transfers waited for two points later.
-/
module

public import proofs.«01_k».proof.Proof.Gen.DecodeIdeal.Launch
public import proofs.«01_k».proof.Proof.Gen.DecodeIdeal.Skeleton
public import proofs.«01_k».proof.Proof.Gen.DecodeIdeal
public import Idealize.ShloMosaic.Lib.Pipeline.FrameValue
public import Idealize.ShloMosaic.Lib.Pipeline.Value
public import Idealize.ShloMosaic.Lib.WritesUnit
public import Idealize.ShloMosaic.Lib.Pointwise.Index
public import Idealize.ShloMosaic.Lib.Ring
public import Idealize.ShloMosaic.Lib.Ring.WriteBehind
public import Idealize.ShloMosaic.Lib.Tactic
public import proofs.«01_k».proof.Proof.Dec.Cont

@[expose] public section

set_option maxRecDepth 16384

noncomputable section

namespace Cert.DecodeIdeal.Own

open Cert.DecodeIdeal Cert.DecodeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The result's buffer. -/
abbrev vloc (c : Dev nD) : Loc nD τ sig := (Memref.whole main_v0 : Memref sig .tc .hbm S2048x2048 .f32).view.loc (c : Thread nD τ)
/-- The tile of pair `u`, and its mirror tile where it is another. -/
abbrev bkA (u : Fin 10) : Memref sig .tc .hbm S512x512 .f32 := blk (Memref.whole main_v0) (wI u.val) (wJ u.val) (in_IJ u)
abbrev bkB (u : Fin 10) : Memref sig .tc .hbm S512x512 .f32 := blk (Memref.whole main_v0) (wJ u.val) (wI u.val) (in_JI u)
def tA (c : Dev nD) (u : Fin 10) (f : Buf (Elt F) (vloc c)) : sProp 𝕄 := iprop((bkA u).view.loc (c : Thread nD τ) ↦[(bkA u).view.set]{fullShare} f)
def tB (c : Dev nD) (u : Fin 10) (f : Buf (Elt F) (vloc c)) : sProp 𝕄 :=
  if k0_cond7 (wI u.val) (wJ u.val) = 1#1 then iprop((bkB u).view.loc (c : Thread nD τ) ↦[(bkB u).view.set]{fullShare} f) else iprop(emp)

/-- The elements of the pairs from `p` on, and of those before `p`. -/
def notBefore (p : ℕ) : Finset S2048x2048.Idx := Finset.univ.filter fun i => p ≤ own i
def before (p : ℕ) : Finset S2048x2048.Idx := Finset.univ.filter fun i => own i < p
def setA (u : Fin 10) : Finset S2048x2048.Idx := (Rect.unit (s := S2048x2048) (k0_off10 (wI u.val) (wJ u.val)) S512x512.size (in_IJ u)).set
def setB (u : Fin 10) : Finset S2048x2048.Idx := (Rect.unit (s := S2048x2048) (k0_off10 (wJ u.val) (wI u.val)) S512x512.size (in_JI u)).set
def unsent (c : Dev nD) (p : ℕ) (f : Buf (Elt F) (vloc c)) : sProp 𝕄 := iprop(vloc c ↦[notBefore p]{fullShare} f)
def landed (c : Dev nD) (p : ℕ) (f : Buf (Elt F) (vloc c)) : sProp 𝕄 := iprop(vloc c ↦[before p]{fullShare} f)

theorem viewA (u : Fin 10) : (bkA u).view.set = setA u := View.set_slice_whole _ _
theorem viewB (u : Fin 10) : (bkB u).view.set = setB u := View.set_slice_whole _ _
theorem mem_setA (u : Fin 10) (i : S2048x2048.Idx) : i ∈ setA u ↔ br i = bI u ∧ bc i = bJ u := mem_tile _ (offIJ u) i
theorem mem_setB (u : Fin 10) (i : S2048x2048.Idx) : i ∈ setB u ↔ br i = bJ u ∧ bc i = bI u := mem_tile _ (offJI u) i
theorem mem_pair (u : Fin 10) (i : S2048x2048.Idx) : own i = u.val ↔ i ∈ setA u ∨ i ∈ setB u := by
  rw [mem_setA, mem_setB]; exact prn_iff _ _ u

theorem tA_eq (c : Dev nD) (u : Fin 10) (f : Buf (Elt F) (vloc c)) : (tA c u f : sProp 𝕄) = iprop(vloc c ↦[setA u]{fullShare} f) := by
  unfold tA; rw [viewA]
theorem tB_off (c : Dev nD) (u : Fin 10) (f : Buf (Elt F) (vloc c)) (h : bI u ≠ bJ u) : (tB c u f : sProp 𝕄) = iprop(vloc c ↦[setB u]{fullShare} f) := by
  unfold tB; rw [if_pos ((off_iff u).mpr h), viewB]
theorem tB_diag (c : Dev nD) (u : Fin 10) (f : Buf (Elt F) (vloc c)) (h : bI u = bJ u) : (tB c u f : sProp 𝕄) = iprop(emp) := by
  unfold tB; rw [if_neg (fun e => (off_iff u).mp e h)]

theorem setB_diag (u : Fin 10) (h : bI u = bJ u) : setB u = setA u := by
  ext i; rw [mem_setA, mem_setB, h]
theorem disj_AB (u : Fin 10) (h : bI u ≠ bJ u) : Disjoint (setA u) (setB u) :=
  Finset.disjoint_left.mpr fun i ha hb => h (((mem_setA u i).mp ha).1.symm.trans ((mem_setB u i).mp hb).1)

/-- A pair's two tiles are the elements of the pair. -/
theorem pair_eq (c : Dev nD) (u : Fin 10) (f : Buf (Elt F) (vloc c)) :
    (iprop(vloc c ↦[setA u ∪ setB u]{fullShare} f) : sProp 𝕄) ⊣⊢ iprop(tA c u f ∗ tB c u f) := by
  by_cases h : bI u = bJ u
  · rw [tB_diag c u f h, tA_eq, setB_diag u h, Finset.union_self]
    exact ⟨by iintro H; isplitl [H]; · iexact H
              iempintro, by iintro ⟨H, -⟩; iexact H⟩
  · rw [tB_off c u f h, tA_eq]
    exact pointsTo_union (disj_AB u h)

theorem notBefore_step (u : Fin 10) : notBefore u.val = (setA u ∪ setB u) ∪ notBefore (u.val + 1) := by
  ext i
  simp only [notBefore, Finset.mem_union, Finset.mem_filter, Finset.mem_univ, true_and]
  rw [← mem_pair]; omega
theorem before_step (u : Fin 10) : before (u.val + 1) = before u.val ∪ (setA u ∪ setB u) := by
  ext i
  simp only [before, Finset.mem_union, Finset.mem_filter, Finset.mem_univ, true_and]
  rw [← mem_pair]; omega
theorem notBefore_disj (u : Fin 10) : Disjoint (setA u ∪ setB u) (notBefore (u.val + 1)) :=
  Finset.disjoint_left.mpr fun i ha hb => by
    have h := (mem_pair u i).mpr (Finset.mem_union.mp ha)
    have h' : u.val + 1 ≤ own i := (Finset.mem_filter.mp hb).2
    omega
theorem before_disj (u : Fin 10) : Disjoint (before u.val) (setA u ∪ setB u) :=
  Finset.disjoint_left.mpr fun i ha hb => by
    have h := (mem_pair u i).mpr (Finset.mem_union.mp hb)
    have h' : own i < u.val := (Finset.mem_filter.mp ha).2
    omega

theorem unsent_split (c : Dev nD) (u : Fin 10) (f : Buf (Elt F) (vloc c)) : (unsent c u.val f : sProp 𝕄) ⊢ iprop(tA c u f ∗ tB c u f ∗ unsent c (u.val + 1) f) := by
  unfold unsent
  rw [notBefore_step]
  refine (pointsTo_union (notBefore_disj u)).1.trans ?_
  iintro ⟨H, HR⟩
  ihave H' := (pair_eq c u f).1 $$ H
  icases H' with ⟨HA, HB⟩
  isplitl [HA]; · iexact HA
  isplitl [HB]; · iexact HB
  iexact HR
theorem landed_join (c : Dev nD) (u : Fin 10) (f : Buf (Elt F) (vloc c)) : iprop(landed c u.val f ∗ tA c u f ∗ tB c u f) ⊢ (landed c (u.val + 1) f : sProp 𝕄) := by
  unfold landed
  rw [before_step]
  refine BIBase.Entails.trans ?_ (pointsTo_union (before_disj u)).2
  iintro ⟨HL, HA, HB⟩
  isplitl [HL]; · iexact HL
  iapply (pair_eq c u f).2
  isplitl [HA]; · iexact HA
  iexact HB

theorem unsent_all (c : Dev nD) (f : Buf (Elt F) (vloc c)) : (iprop(vloc c ↦{fullShare} f) : sProp 𝕄) ⊢ unsent c 0 f := by
  unfold unsent
  rw [show notBefore 0 = Finset.univ from Finset.filter_true_of_mem fun i _ => Nat.zero_le _]
theorem landed_all (c : Dev nD) (f : Buf (Elt F) (vloc c)) : (landed c 10 f : sProp 𝕄) ⊢ iprop(vloc c ↦{fullShare} f) := by
  unfold landed
  rw [show before 10 = Finset.univ from Finset.filter_true_of_mem fun i _ => own_lt i]
theorem landed_none (c : Dev nD) (f : Buf (Elt F) (vloc c)) : (iprop(emp) : sProp 𝕄) ⊢ landed c 0 f := by
  unfold landed
  rw [show before 0 = ∅ from Finset.filter_false_of_mem fun i _ => Nat.not_lt_zero _]
  exact Entails.of_eq pointsTo_empty.symm

end Cert.DecodeIdeal.Own

end
-- ==== Proof.Dec.Inv.lean ====
/-
  The decoder's region: ten points fill a scratch matrix with the products of pairs of row blocks, ten more multiply
  its rows and send each product's tiles to the result by transfers waited for two points later.
-/
module

public import proofs.«01_k».proof.Proof.Gen.DecodeIdeal.Launch
public import proofs.«01_k».proof.Proof.Gen.DecodeIdeal.Skeleton
public import proofs.«01_k».proof.Proof.Gen.DecodeIdeal
public import Idealize.ShloMosaic.Lib.Pipeline.FrameValue
public import Idealize.ShloMosaic.Lib.Pipeline.Value
public import Idealize.ShloMosaic.Lib.WritesUnit
public import Idealize.ShloMosaic.Lib.Pointwise.Index
public import Idealize.ShloMosaic.Lib.Ring
public import Idealize.ShloMosaic.Lib.Ring.WriteBehind
public import Idealize.ShloMosaic.Lib.Tactic
public import proofs.«01_k».proof.Proof.Dec.Part

@[expose] public section

set_option maxRecDepth 16384

noncomputable section

namespace Cert.DecodeIdeal.Own

open Cert.DecodeIdeal Cert.DecodeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The two tables, held at a share. -/
abbrev tab0 (c : Dev nD) (q : PosShare TreeShare) : sProp 𝕄 := iprop((Memref.whole main_c : Memref sig .tc .smem S10 .i32).view.loc (c : Thread nD τ) ↦{q} pf0 (F := F) 0)
abbrev tab1 (c : Dev nD) (q : PosShare TreeShare) : sProp 𝕄 := iprop((Memref.whole main_c_0 : Memref sig .tc .smem S10 .i32).view.loc (c : Thread nD τ) ↦{q} pf0 (F := F) 1)
/-- The scratch matrix and the four tiles the transfers read. -/
abbrev scZ : Memref sig .tc .vmem S2048x2048 .bf16 := Memref.whole cc0_scratch0
abbrev tlA : Memref sig .tc .vmem S512x512 .f32 := Memref.whole cc0_scratch1
abbrev tlB : Memref sig .tc .vmem S512x512 .f32 := Memref.whole cc0_scratch2
abbrev tlC : Memref sig .tc .vmem S512x512 .f32 := Memref.whole cc0_scratch3
abbrev tlD : Memref sig .tc .vmem S512x512 .f32 := Memref.whole cc0_scratch4
abbrev zAt (c : Dev nD) (z : Vec F S2048x2048 .bf16) : sProp 𝕄 := iprop(scZ.view.loc (c : Thread nD τ) ↦{fullShare} z)
abbrev noWaits (c : Dev nD) : sProp 𝕄 := iprop(∃ W, owes (c : Thread nD τ) 0 W)

/-- What one tile's transfer credits its cell. -/
def cr : ℕ := (bkA 0).view.dmaCredit
theorem cr_eq (I J : BitVec 32) (h) : (blk (Memref.whole main_v0) I J h).view.dmaCredit = cr := rfl
theorem cr_pos : 0 < cr := by decide +kernel

/-- The pair whose transfers an even (an odd) point's slot has in flight before point `n`, and how many pairs have landed. -/
def evs (n : ℕ) : Option (Fin 10) := [none, some 0, some 0, some 2, some 2, some 4, some 4, some 6, some 6, some 8].getD (n - 10) none
def ods (n : ℕ) : Option (Fin 10) := [none, none, some 1, some 1, some 3, some 3, some 5, some 5, some 7, some 7].getD (n - 10) none
def lnd (n : ℕ) : ℕ := if n = 20 then 10 else n - 12
/-- A point's pair. -/
abbrev pr (t : Fin 20) : Fin 10 := ⟨t.val % 10, Nat.mod_lt _ (by decide)⟩
abbrev pr2 (t : Fin 20) : Fin 10 := ⟨t.val - 12, by have := t.isLt; omega⟩

theorem evs_none (t : Fin 20) (h : ¬ 12 ≤ t.val) (he : t.val % 2 = 0) : evs t.val = none := by revert t; decide +kernel
theorem evs_some (t : Fin 20) (h : 12 ≤ t.val) (he : t.val % 2 = 0) : evs t.val = some (pr2 t) := by revert t; decide +kernel
theorem ods_none (t : Fin 20) (h : ¬ 12 ≤ t.val) (he : t.val % 2 = 1) : ods t.val = none := by revert t; decide +kernel
theorem ods_some (t : Fin 20) (h : 12 ≤ t.val) (he : t.val % 2 = 1) : ods t.val = some (pr2 t) := by revert t; decide +kernel
theorem evs_succ (t : Fin 20) (h : 10 ≤ t.val) (he : t.val % 2 = 0) : evs (t.val + 1) = some (pr t) ∧ ods (t.val + 1) = ods t.val := by revert t; decide +kernel
theorem ods_succ (t : Fin 20) (h : 10 ≤ t.val) (he : t.val % 2 = 1) (hl : t.val ≠ 19) : ods (t.val + 1) = some (pr t) ∧ evs (t.val + 1) = evs t.val := by revert t; decide +kernel
theorem slots_first (t : Fin 20) (h : t.val < 10) : evs (t.val + 1) = none ∧ ods (t.val + 1) = none ∧ evs t.val = none ∧ ods t.val = none := by revert t; decide +kernel

def oA (c : Dev nD) (f : Vec F S2048x2048 .f32) : Option (Fin 10) → sProp 𝕄
  | none => iprop(emp)
  | some u => tA c u f
def oB (c : Dev nD) (f : Vec F S2048x2048 .f32) : Option (Fin 10) → sProp 𝕄
  | none => iprop(emp)
  | some u => tB c u f

/-- A slot: its two tiles and cells, in flight with a pair's tiles of the result or at rest. -/
def slot (c : Dev nD) (f : Vec F S2048x2048 .f32) (sm : DmaSems sig S_) (m : Memref sig .tc .vmem S512x512 .f32) (sm' : DmaSems sig S_) (m' : Memref sig .tc .vmem S512x512 .f32) :
    Option (Fin 10) → sProp 𝕄
  | none => iprop(idle c sm m iprop(emp) ∗ idle c sm' m' iprop(emp))
  | some u => iprop(fly c cr sm m (tA c u f) ∗ (if k0_cond7 (wI u.val) (wJ u.val) = 1#1 then fly c cr sm' m' (tB c u f) else idle c sm' m' (tB c u f)))

/-- A slot as a point that waits for it, or does not, finds it. -/
theorem slot_find (c : Dev nD) (f : Vec F S2048x2048 .f32) (sm m sm' m') (o : Option (Fin 10)) (t : Fin 20) (b : BitVec 1)
    (hn : ¬ 12 ≤ t.val → o = none) (hs : 12 ≤ t.val → o = some (pr2 t)) (hb : b = 1#1 ↔ 12 ≤ t.val) :
    (slot c f sm m sm' m' o : sProp 𝕄) ⊢ iprop((if b = 1#1 then fly c cr sm m (oA c f o) else idle c sm m (oA c f o))
      ∗ (if b = 1#1 ∧ k0_cond7 (wI (t.val - 12)) (wJ (t.val - 12)) = 1#1 then fly c cr sm' m' (oB c f o) else idle c sm' m' (oB c f o))) := by
  by_cases h : 12 ≤ t.val
  · rw [hs h, if_pos (hb.mpr h)]
    by_cases h7 : k0_cond7 (wI (t.val - 12)) (wJ (t.val - 12)) = 1#1
    · rw [if_pos ⟨hb.mpr h, h7⟩]
      show iprop(fly c cr sm m (tA c (pr2 t) f) ∗ (if k0_cond7 (wI ((pr2 t) : Fin 10).val) (wJ ((pr2 t) : Fin 10).val) = 1#1 then fly c cr sm' m' (tB c (pr2 t) f) else idle c sm' m' (tB c (pr2 t) f))) ⊢ _; rw [if_pos h7]; exact .rfl
    · rw [if_neg (fun e => h7 e.2)]
      show iprop(fly c cr sm m (tA c (pr2 t) f) ∗ (if k0_cond7 (wI ((pr2 t) : Fin 10).val) (wJ ((pr2 t) : Fin 10).val) = 1#1 then fly c cr sm' m' (tB c (pr2 t) f) else idle c sm' m' (tB c (pr2 t) f))) ⊢ _; rw [if_neg h7]; exact .rfl
  · rw [hn h, if_neg (fun e => h (hb.mp e)), if_neg (fun e => h (hb.mp e.1))]
    unfold slot oA oB; exact .rfl

/-- What a point's wait brings back joins what had landed. -/
theorem landed_next (c : Dev nD) (f : Vec F S2048x2048 .f32) (o : Option (Fin 10)) (t : Fin 20) (n : ℕ) (hn : ¬ 12 ≤ t.val → o = none) (hs : 12 ≤ t.val → o = some (pr2 t))
    (e : n = t.val - 12 + (if 12 ≤ t.val then 1 else 0)) :
    iprop(landed c (t.val - 12) f ∗ oA c f o ∗ oB c f o) ⊢ (landed c n f : sProp 𝕄) := by
  by_cases h : 12 ≤ t.val
  · rw [e, if_pos h, hs h]; exact landed_join c (pr2 t) f
  · rw [e, if_neg h, hn h, Nat.add_zero]; unfold oA oB
    iintro ⟨H, -, -⟩; iexact H

theorem tB_of (c : Dev nD) (f : Vec F S2048x2048 .f32) (u : Fin 10) (h : k0_cond7 (wI u.val) (wJ u.val) = 1#1) :
    (tB c u f : sProp 𝕄) ⊢ iprop((bkB u).view.loc (c : Thread nD τ) ↦[(bkB u).view.set]{fullShare} f) := by unfold tB; rw [if_pos h]
theorem tB_any (c : Dev nD) (f g : Vec F S2048x2048 .f32) (u : Fin 10) (h : ¬ k0_cond7 (wI u.val) (wJ u.val) = 1#1) :
    (tB c u f : sProp 𝕄) ⊢ tB c u g := by unfold tB; rw [if_neg h, if_neg h]

section Body

variable (arg3 : Memref sig .tc .vmem S512x2048 .bf16) (harg3 : arg3.IsWhole) (arg4 : Memref sig .tc .vmem S512x2048 .bf16) (harg4 : arg4.IsWhole)
variable (c : Dev nD) (q : PosShare TreeShare) (x : Vec F S2048x2048 .bf16) (v0 : Vec F S2048x2048 .f32)

/-- The body at a point, on the buffers the pipeline hands it. -/
abbrev bodyOn (t : Fin 20) : Prog (TpuEff nD τ sig (Elt F) Λ₀ .tc) PUnit :=
  cc0__zzy_body (pt t) (Memref.whole main_c) (Memref.isWhole_whole _) (Memref.whole main_c_0) (Memref.isWhole_whole _) arg3 harg3 arg4 harg4 (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8

theorem sentA (u : Fin 10) :
    (iprop((bkA u).view.loc (c : Thread nD τ) ↦[(bkA u).view.set]{fullShare}
      (bkA u).view.write (Elt F) (v0 : (bkA u).view.ty.Contents (Elt F)) (k0_pay4 (k0_pay6 (rowsI scZ (zz x) (wI u.val) (in_I u)) (rowsI scZ (zz x) (wJ u.val) (in_J u)))) Finset.univ) : sProp 𝕄)
      ⊢ tA c u (yy (zz x)) := by
  rw [rowsI_eq (zz x) (wI u.val) (bI u) (offI u), rowsI_eq (zz x) (wJ u.val) (bJ u) (offJ u)]
  unfold tA
  exact Entails.of_eq (pointsTo_congr (tile_value (zz x) (wI u.val) (wJ u.val) (bI u) (bJ u) (offIJ u) (in_IJ u) v0 _ (yy_IJ (zz x) u)))
theorem sentB (u : Fin 10) (h7 : k0_cond7 (wI u.val) (wJ u.val) = 1#1) :
    (iprop((bkB u).view.loc (c : Thread nD τ) ↦[(bkB u).view.set]{fullShare}
      (bkB u).view.write (Elt F) (v0 : (bkB u).view.ty.Contents (Elt F)) (k0_pay8 (rowsI scZ (zz x) (wI u.val) (in_I u)) (rowsI scZ (zz x) (wJ u.val) (in_J u))) Finset.univ) : sProp 𝕄)
      ⊢ tB c u (yy (zz x)) := by
  rw [rowsI_eq (zz x) (wI u.val) (bI u) (offI u), rowsI_eq (zz x) (wJ u.val) (bJ u) (offJ u)]
  unfold tB; rw [if_pos h7]
  exact Entails.of_eq (pointsTo_congr (tile_value (zz x) (wJ u.val) (wI u.val) (bJ u) (bI u) (offJI u) (in_JI u) v0 _ (yy_JI (zz x) u ((off_iff u).mp h7))))

set_option maxHeartbeats 1600000 in
theorem even_part (t : Fin 20) (h10 : 10 ≤ t.val) (he : t.val % 2 = 0) (h3 : k0_cond3 (pt t) = 1#1) (K : PUnit → sProp 𝕄) :
    iprop(tab0 c q ∗ tab1 c q ∗ iprop(zAt c (zz x) ∗ tA c (pr t) v0 ∗ tB c (pr t) v0 ∗ slot c (yy (zz x)) cc0_scratch5 tlA cc0_scratch6 tlB (evs t.val) ∗ noWaits c)
      ∗ (iprop(tab0 c q ∗ tab1 c q ∗ zAt c (zz x) ∗ oA c (yy (zz x)) (evs t.val) ∗ oB c (yy (zz x)) (evs t.val)
          ∗ slot c (yy (zz x)) cc0_scratch5 tlA cc0_scratch6 tlB (some (pr t)) ∗ noWaits c) -∗ K ⟨⟩))
      ⊢ wp frame (wpE (defs₀ (F := F)) Variants.none c none) Set.univ
          (k0_part5 (pt t) (Memref.whole main_c) (Memref.isWhole_whole _) (Memref.whole main_c_0) (Memref.isWhole_whole _) arg3 harg3 arg4 harg4 (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 (BitVec.ofNat 32 ((pt t) 0).val) (wI (t.val % 10)) (chk2 t) (wJ (t.val % 10)) (chk1 t) h3) K := by
  iintro ⟨HT0, HT1, ⟨HZ, HA, HB, HS, HO⟩, Hk⟩
  ihave HS' := (slot_find c (yy (zz x)) cc0_scratch5 tlA cc0_scratch6 tlB (evs t.val) t (k0_cond5 (pt t)) (fun h => evs_none t h he) (fun h => evs_some t h he) (waits_iff t)) $$ HS
  icases HS' with ⟨HSA, HSB⟩
  iapply (evenStep c (pt t) (Memref.whole main_c) (Memref.isWhole_whole _) (Memref.whole main_c_0) (Memref.isWhole_whole _) arg3 harg3 arg4 harg4 (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 (BitVec.ofNat 32 ((pt t) 0).val) h3 ((even_iff t).mpr he) (fun h => by have := (odd_iff t).mp h; omega)
    (wI (t.val % 10)) (wJ (t.val % 10)) (wI (t.val - 12)) (wJ (t.val - 12)) q (pf0 0) (pf0 1) (word1 t _) (word2 t _)
    (fun h5 => word1' t ((waits_iff t).mp h5) _) (fun h5 => word2' t ((waits_iff t).mp h5) _)
    (chk2 t) (chk1 t) (chk3 t) (chk4 t) (in_IJ (pr t)) (in_JI (pr t)) (in_I (pr t)) (in_J (pr t)) (zz x) v0 v0 cr cr_eq cr_pos
    (tA c (pr t) (yy (zz x))) (tB c (pr t) (yy (zz x))) (oA c (yy (zz x)) (evs t.val)) (oB c (yy (zz x)) (evs t.val)) (tA c (pr t) v0) (tB c (pr t) v0)
    .rfl (sentA c x v0 (pr t)) (fun h7 => tB_of c v0 (pr t) h7) (fun h7 => sentB c x v0 (pr t) h7) (fun h7 => tB_any c _ _ (pr t) h7) K)
  isplitl [HT0]; · iexact HT0
  isplitl [HT1]; · iexact HT1
  isplitl [HZ]; · iexact HZ
  isplitl [HA]; · iexact HA
  isplitl [HB]; · iexact HB
  isplitl [HSA]; · iexact HSA
  isplitl [HSB]; · iexact HSB
  isplitl [HO]; · iexact HO
  iintro ⟨HT0, HT1, HZ, HE1, HE2, HSA, HSB, HO⟩
  iapply Hk
  isplitl [HT0]; · iexact HT0
  isplitl [HT1]; · iexact HT1
  isplitl [HZ]; · iexact HZ
  isplitl [HE1]; · iexact HE1
  isplitl [HE2]; · iexact HE2
  isplitl [HSA HSB]
  · unfold slot
    isplitl [HSA]; · iexact HSA
    iexact HSB
  iexact HO

set_option maxHeartbeats 1600000 in
theorem odd_part (t : Fin 20) (h10 : 10 ≤ t.val) (he : t.val % 2 = 1) (h3 : k0_cond3 (pt t) = 1#1) (K : PUnit → sProp 𝕄) :
    iprop(tab0 c q ∗ tab1 c q ∗ iprop(zAt c (zz x) ∗ tA c (pr t) v0 ∗ tB c (pr t) v0 ∗ slot c (yy (zz x)) cc0_scratch7 tlC cc0_scratch8 tlD (ods t.val) ∗ noWaits c)
      ∗ (iprop(tab0 c q ∗ tab1 c q ∗ zAt c (zz x) ∗ oA c (yy (zz x)) (ods t.val) ∗ oB c (yy (zz x)) (ods t.val)
          ∗ slot c (yy (zz x)) cc0_scratch7 tlC cc0_scratch8 tlD (some (pr t)) ∗ noWaits c) -∗ K ⟨⟩))
      ⊢ wp frame (wpE (defs₀ (F := F)) Variants.none c none) Set.univ
          (k0_part5 (pt t) (Memref.whole main_c) (Memref.isWhole_whole _) (Memref.whole main_c_0) (Memref.isWhole_whole _) arg3 harg3 arg4 harg4 (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 (BitVec.ofNat 32 ((pt t) 0).val) (wI (t.val % 10)) (chk2 t) (wJ (t.val % 10)) (chk1 t) h3) K := by
  iintro ⟨HT0, HT1, ⟨HZ, HA, HB, HS, HO⟩, Hk⟩
  ihave HS' := (slot_find c (yy (zz x)) cc0_scratch7 tlC cc0_scratch8 tlD (ods t.val) t (k0_cond9 (pt t)) (fun h => ods_none t h he) (fun h => ods_some t h he) (waits_iff' t)) $$ HS
  icases HS' with ⟨HSA, HSB⟩
  iapply (oddStep c (pt t) (Memref.whole main_c) (Memref.isWhole_whole _) (Memref.whole main_c_0) (Memref.isWhole_whole _) arg3 harg3 arg4 harg4 (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 (BitVec.ofNat 32 ((pt t) 0).val) h3 ((odd_iff t).mpr he) (fun h => by have := (even_iff t).mp h; omega)
    (wI (t.val % 10)) (wJ (t.val % 10)) (wI (t.val - 12)) (wJ (t.val - 12)) q (pf0 0) (pf0 1) (word1 t _) (word2 t _)
    (fun h5 => word1' t ((waits_iff' t).mp h5) _) (fun h5 => word2' t ((waits_iff' t).mp h5) _)
    (chk2 t) (chk1 t) (chk5 t) (chk6 t) (in_IJ (pr t)) (in_JI (pr t)) (in_I (pr t)) (in_J (pr t)) (zz x) v0 v0 cr cr_eq cr_pos
    (tA c (pr t) (yy (zz x))) (tB c (pr t) (yy (zz x))) (oA c (yy (zz x)) (ods t.val)) (oB c (yy (zz x)) (ods t.val)) (tA c (pr t) v0) (tB c (pr t) v0)
    .rfl (sentA c x v0 (pr t)) (fun h7 => tB_of c v0 (pr t) h7) (fun h7 => sentB c x v0 (pr t) h7) (fun h7 => tB_any c _ _ (pr t) h7) K)
  isplitl [HT0]; · iexact HT0
  isplitl [HT1]; · iexact HT1
  isplitl [HZ]; · iexact HZ
  isplitl [HA]; · iexact HA
  isplitl [HB]; · iexact HB
  isplitl [HSA]; · iexact HSA
  isplitl [HSB]; · iexact HSB
  isplitl [HO]; · iexact HO
  iintro ⟨HT0, HT1, HZ, HE1, HE2, HSA, HSB, HO⟩
  iapply Hk
  isplitl [HT0]; · iexact HT0
  isplitl [HT1]; · iexact HT1
  isplitl [HZ]; · iexact HZ
  isplitl [HE1]; · iexact HE1
  isplitl [HE2]; · iexact HE2
  isplitl [HSA HSB]
  · unfold slot
    isplitl [HSA]; · iexact HSA
    iexact HSB
  iexact HO

/-- Between the points: the tables, the generator's register, the scratch matrix filled so far, the result's tiles not yet sent
    and those landed, and the two slots. -/
def Phi (n : ℕ) : sProp 𝕄 :=
  iprop(tab0 c q ∗ tab1 c q ∗ (∃ r, prngReg c r) ∗ (∃ f6 : Vec F S2048x2048 .bf16, ⌜Filled x n f6⌝ ∗ zAt c f6) ∗ unsent c (n - 10) v0 ∗ landed c (lnd n) (yy (zz x))
    ∗ slot c (yy (zz x)) cc0_scratch5 tlA cc0_scratch6 tlB (evs n) ∗ slot c (yy (zz x)) cc0_scratch7 tlC cc0_scratch8 tlD (ods n))

theorem filled_zz (n : ℕ) : Filled x n (zz x) := fun _ _ => rfl

set_option maxHeartbeats 1600000 in
theorem step_even (t : Fin 20) (h10 : 10 ≤ t.val) (he : t.val % 2 = 0) (K : PUnit → sProp 𝕄) :
    iprop(Phi c q x v0 t.val ∗ noWaits c ∗ (iprop(Phi c q x v0 (t.val + 1) ∗ noWaits c) -∗ K ⟨⟩))
      ⊢ wp frame (wpE (defs₀ (F := F)) Variants.none c none) Set.univ (bodyOn arg3 harg3 arg4 harg4 t) K := by
  have ht := t.isLt
  have hl : lnd t.val = t.val - 12 := by unfold lnd; rw [if_neg (by omega)]
  have hl' : lnd (t.val + 1) = t.val - 12 + (if 12 ≤ t.val then 1 else 0) := by unfold lnd; split <;> split <;> omega
  have hu : t.val - 10 = (pr t).val := by show _ = t.val % 10; omega
  have hu' : t.val + 1 - 10 = (pr t).val + 1 := by show _ = t.val % 10 + 1; omega
  unfold Phi
  rw [(evs_succ t h10 he).1, (evs_succ t h10 he).2, hl, hu, hu']
  iintro ⟨⟨HT0, HT1, HP, ⟨%f6, %hf, HZ⟩, HU, HL, HE, HD⟩, HO, Hk⟩
  obtain rfl := filled_all x t.val h10 f6 hf
  ihave HU' := (unsent_split c (pr t) v0) $$ HU
  icases HU' with ⟨HA, HB, HU⟩
  iapply (wp_mid c (pt t) (Memref.whole main_c) (Memref.isWhole_whole _) (Memref.whole main_c_0) (Memref.isWhole_whole _) arg3 harg3 arg4 harg4 (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 (fun h => by have := (first_iff t).mp h; omega) ((second_iff t).mpr h10) (fun h => by have := (last_iff t).mp h; omega)
    (wI (t.val % 10)) (wJ (t.val % 10)) q (pf0 0) (pf0 1) (word1 t _) (word2 t _) (chk2 t) (chk1 t) _ _
    (even_part arg3 harg3 arg4 harg4 c q x v0 t h10 he ((second_iff t).mpr h10)) K)
  isplitl [HT0]; · iexact HT0
  isplitl [HT1]; · iexact HT1
  isplitl [HZ HA HB HE HO]
  · isplitl [HZ]; · iexact HZ
    isplitl [HA]; · iexact HA
    isplitl [HB]; · iexact HB
    isplitl [HE]; · iexact HE
    iexact HO
  iintro ⟨HT0, HT1, HZ, HE1, HE2, HE, HO⟩
  iapply Hk
  isplitr [HO]
  · isplitl [HT0]; · iexact HT0
    isplitl [HT1]; · iexact HT1
    isplitl [HP]; · iexact HP
    isplitl [HZ]
    · iexists _; isplitr; swap; · iexact HZ
      ipureintro; exact filled_zz x _
    isplitl [HU]; · iexact HU
    isplitl [HL HE1 HE2]
    · iapply (landed_next c (yy (zz x)) (evs t.val) t _ (fun h => evs_none t h he) (fun h => evs_some t h he) hl')
      isplitl [HL]; · iexact HL
      isplitl [HE1]; · iexact HE1
      iexact HE2
    isplitl [HE]; · iexact HE
    iexact HD
  iexact HO

set_option maxHeartbeats 1600000 in
theorem step_odd (t : Fin 20) (h10 : 10 ≤ t.val) (he : t.val % 2 = 1) (hne : t.val ≠ 19) (K : PUnit → sProp 𝕄) :
    iprop(Phi c q x v0 t.val ∗ noWaits c ∗ (iprop(Phi c q x v0 (t.val + 1) ∗ noWaits c) -∗ K ⟨⟩))
      ⊢ wp frame (wpE (defs₀ (F := F)) Variants.none c none) Set.univ (bodyOn arg3 harg3 arg4 harg4 t) K := by
  have ht := t.isLt
  have hl : lnd t.val = t.val - 12 := by unfold lnd; rw [if_neg (by omega)]
  have hl' : lnd (t.val + 1) = t.val - 12 + (if 12 ≤ t.val then 1 else 0) := by unfold lnd; split <;> split <;> omega
  have hu : t.val - 10 = (pr t).val := by show _ = t.val % 10; omega
  have hu' : t.val + 1 - 10 = (pr t).val + 1 := by show _ = t.val % 10 + 1; omega
  unfold Phi
  rw [(ods_succ t h10 he hne).1, (ods_succ t h10 he hne).2, hl, hu, hu']
  iintro ⟨⟨HT0, HT1, HP, ⟨%f6, %hf, HZ⟩, HU, HL, HE, HD⟩, HO, Hk⟩
  obtain rfl := filled_all x t.val h10 f6 hf
  ihave HU' := (unsent_split c (pr t) v0) $$ HU
  icases HU' with ⟨HA, HB, HU⟩
  iapply (wp_mid c (pt t) (Memref.whole main_c) (Memref.isWhole_whole _) (Memref.whole main_c_0) (Memref.isWhole_whole _) arg3 harg3 arg4 harg4 (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 (fun h => by have := (first_iff t).mp h; omega) ((second_iff t).mpr h10) (fun h => by have := (last_iff t).mp h; omega)
    (wI (t.val % 10)) (wJ (t.val % 10)) q (pf0 0) (pf0 1) (word1 t _) (word2 t _) (chk2 t) (chk1 t) _ _
    (odd_part arg3 harg3 arg4 harg4 c q x v0 t h10 he ((second_iff t).mpr h10)) K)
  isplitl [HT0]; · iexact HT0
  isplitl [HT1]; · iexact HT1
  isplitl [HZ HA HB HD HO]
  · isplitl [HZ]; · iexact HZ
    isplitl [HA]; · iexact HA
    isplitl [HB]; · iexact HB
    isplitl [HD]; · iexact HD
    iexact HO
  iintro ⟨HT0, HT1, HZ, HE1, HE2, HD, HO⟩
  iapply Hk
  isplitr [HO]
  · isplitl [HT0]; · iexact HT0
    isplitl [HT1]; · iexact HT1
    isplitl [HP]; · iexact HP
    isplitl [HZ]
    · iexists _; isplitr; swap; · iexact HZ
      ipureintro; exact filled_zz x _
    isplitl [HU]; · iexact HU
    isplitl [HL HE1 HE2]
    · iapply (landed_next c (yy (zz x)) (ods t.val) t _ (fun h => ods_none t h he) (fun h => ods_some t h he) hl')
      isplitl [HL]; · iexact HL
      isplitl [HE1]; · iexact HE1
      iexact HE2
    isplitl [HE]; · iexact HE
    iexact HD
  iexact HO

theorem chk9 : k0_chk9 (pt 19) (wI 9) (wJ 9) := by decide +kernel
theorem chk10 : k0_chk10 (pt 19) (wI 8) (wJ 8) := by decide +kernel
theorem cond13_last : ¬ k0_cond13 (pt 19) = 1#1 := by decide +kernel
theorem cond16_last : k0_cond16 (pt 19) = 1#1 := by decide +kernel
theorem diag_last : ¬ k0_cond17 (wI 9) (wJ 9) = 1#1 := by decide +kernel
theorem diag_nine : ¬ k0_cond7 (wI (9 : Fin 10).val) (wJ (9 : Fin 10).val) = 1#1 := by decide +kernel
theorem off_eight : k0_cond7 (wI (8 : Fin 10).val) (wJ (8 : Fin 10).val) = 1#1 := by decide +kernel
theorem off_last : k0_cond18 (wI 8) (wJ 8) = 1#1 := by decide +kernel

/-- The last pair's tile lies on the diagonal: its slot's second cell is at rest. -/
theorem slot_nine (f : Vec F S2048x2048 .f32) (sm m sm' m') : (slot c f sm m sm' m' (some 9) : sProp 𝕄) ⊢ iprop(fly c cr sm m (tA c 9 f) ∗ idle c sm' m' (tB c 9 f)) := by
  show iprop(fly c cr sm m (tA c 9 f) ∗ (if k0_cond7 (wI (9 : Fin 10).val) (wJ (9 : Fin 10).val) = 1#1 then fly c cr sm' m' (tB c 9 f) else idle c sm' m' (tB c 9 f))) ⊢ _; rw [if_neg diag_nine]
theorem slot_eight (f : Vec F S2048x2048 .f32) (sm m sm' m') : (slot c f sm m sm' m' (some 8) : sProp 𝕄) ⊢ iprop(fly c cr sm m (tA c 8 f) ∗ fly c cr sm' m' (tB c 8 f)) := by
  show iprop(fly c cr sm m (tA c 8 f) ∗ (if k0_cond7 (wI (8 : Fin 10).val) (wJ (8 : Fin 10).val) = 1#1 then fly c cr sm' m' (tB c 8 f) else idle c sm' m' (tB c 8 f))) ⊢ _; rw [if_pos off_eight]

set_option maxHeartbeats 1600000 in
theorem last_part (h3 : k0_cond3 (pt 19) = 1#1) (K : PUnit → sProp 𝕄) :
    iprop(tab0 c q ∗ tab1 c q ∗ iprop(zAt c (zz x) ∗ tA c 9 v0 ∗ tB c 9 v0 ∗ slot c (yy (zz x)) cc0_scratch7 tlC cc0_scratch8 tlD (some 7) ∗ noWaits c)
      ∗ (iprop(tab0 c q ∗ tab1 c q ∗ iprop(zAt c (zz x) ∗ tA c 7 (yy (zz x)) ∗ tB c 7 (yy (zz x)) ∗ idle c cc0_scratch8 tlD (tB c 9 (yy (zz x))))
          ∗ fly c cr cc0_scratch7 tlC (tA c 9 (yy (zz x))) ∗ noWaits c) -∗ K ⟨⟩))
      ⊢ wp frame (wpE (defs₀ (F := F)) Variants.none c none) Set.univ
          (k0_part5 (pt 19) (Memref.whole main_c) (Memref.isWhole_whole _) (Memref.whole main_c_0) (Memref.isWhole_whole _) arg3 harg3 arg4 harg4 (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 (BitVec.ofNat 32 ((pt 19) 0).val) (wI 9) (chk2 19) (wJ 9) (chk1 19) h3) K := by
  have h := odd_part arg3 harg3 arg4 harg4 c q x v0 19 (by decide) (by decide) h3 K
  rw [show ods (19 : Fin 20).val = some 7 from by decide +kernel, show oA c (yy (zz x)) (some 7) = tA c 7 (yy (zz x)) from rfl,
    show oB c (yy (zz x)) (some 7) = tB c 7 (yy (zz x)) from rfl] at h
  refine BIBase.Entails.trans ?_ h
  iintro ⟨HT0, HT1, HR, Hk⟩
  isplitl [HT0]; · iexact HT0
  isplitl [HT1]; · iexact HT1
  isplitl [HR]; · iexact HR
  iintro ⟨HT0, HT1, HZ, HE1, HE2, HD, HO⟩
  iapply Hk
  ihave HD' := (show (slot c (yy (zz x)) cc0_scratch7 tlC cc0_scratch8 tlD (some (pr 19)) : sProp 𝕄) ⊢ _ from slot_nine c (yy (zz x)) cc0_scratch7 tlC cc0_scratch8 tlD) $$ HD
  icases HD' with ⟨HD1, HD2⟩
  isplitl [HT0]; · iexact HT0
  isplitl [HT1]; · iexact HT1
  isplitl [HZ HE1 HE2 HD2]
  · isplitl [HZ]; · iexact HZ
    isplitl [HE1]; · iexact HE1
    isplitl [HE2]; · iexact HE2
    iexact HD2
  isplitl [HD1]; · iexact HD1
  iexact HO

/-- An idle cell and what it gave back. -/
theorem idle_take (sm m) (E : sProp 𝕄) : idle c sm m E ⊢ iprop(E ∗ idle c sm m iprop(emp)) := by
  iintro ⟨HE, HM, HS⟩
  isplitl [HE]; · iexact HE
  isplitr; · iempintro
  isplitl [HM]; · iexact HM
  iexact HS

set_option maxHeartbeats 1600000 in
theorem step_last (K : PUnit → sProp 𝕄) :
    iprop(Phi c q x v0 19 ∗ noWaits c ∗ (iprop(Phi c q x v0 20 ∗ noWaits c) -∗ K ⟨⟩))
      ⊢ wp frame (wpE (defs₀ (F := F)) Variants.none c none) Set.univ (bodyOn arg3 harg3 arg4 harg4 19) K := by
  have e1 : evs 19 = some 8 := by decide +kernel
  have e2 : ods 19 = some 7 := by decide +kernel
  have e3 : evs 20 = none := by decide +kernel
  have e4 : ods 20 = none := by decide +kernel
  have e5 : lnd 19 = (7 : Fin 10).val := by decide +kernel
  have e6 : lnd 20 = (9 : Fin 10).val + 1 := by decide +kernel
  have e7 : 19 - 10 = (9 : Fin 10).val := rfl
  have e8 : 20 - 10 = (9 : Fin 10).val + 1 := rfl
  unfold Phi
  rw [e1, e2, e3, e4, e5, e6, e7, e8]
  iintro ⟨⟨HT0, HT1, HP, ⟨%f6, %hf, HZ⟩, HU, HL, HE, HD⟩, HO, Hk⟩
  obtain rfl := filled_all x 19 (by decide) f6 hf
  ihave HU' := (unsent_split c 9 v0) $$ HU
  icases HU' with ⟨HA, HB, HU⟩
  ihave HE' := (slot_eight c (yy (zz x)) cc0_scratch5 tlA cc0_scratch6 tlB) $$ HE
  icases HE' with ⟨HE1, HE2⟩
  iapply (wp_last c (pt 19) (Memref.whole main_c) (Memref.isWhole_whole _) (Memref.whole main_c_0) (Memref.isWhole_whole _) arg3 harg3 arg4 harg4 (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 (fun h => by have := (first_iff 19).mp h; revert this; decide) ((second_iff 19).mpr (by decide)) ((last_iff 19).mpr (by decide))
    (wI 9) (wJ 9) q (pf0 0) (pf0 1) (word1 19 _) (word2 19 _) (chk2 19) (chk1 19) _ _ cond13_last cond16_last (wI 8) (wJ 8) (word1 19 _) (word2 19 _) (word1'' _) (word2'' _)
    chk9 chk10 diag_last off_last cr cr_eq (tA c 9 (yy (zz x))) (tA c 8 (yy (zz x))) (tB c 8 (yy (zz x)))
    (last_part arg3 harg3 arg4 harg4 c q x v0 ((second_iff 19).mpr (by decide))) K)
  isplitl [HT0]; · iexact HT0
  isplitl [HT1]; · iexact HT1
  isplitl [HZ HA HB HD HO]
  · isplitl [HZ]; · iexact HZ
    isplitl [HA]; · iexact HA
    isplitl [HB]; · iexact HB
    isplitl [HD]; · iexact HD
    iexact HO
  isplitl [HE1]; · iexact HE1
  isplitl [HE2]; · iexact HE2
  iintro ⟨HT0, HT1, ⟨HZ, H7A, H7B, HD8⟩, HD7, HE5, HE6, HO⟩
  ihave HD8' := (idle_take c _ _ _) $$ HD8
  icases HD8' with ⟨H9B, HD8⟩
  ihave HD7' := (idle_take c _ _ _) $$ HD7
  icases HD7' with ⟨H9A, HD7⟩
  ihave HE5' := (idle_take c _ _ _) $$ HE5
  icases HE5' with ⟨H8A, HE5⟩
  ihave HE6' := (idle_take c _ _ _) $$ HE6
  icases HE6' with ⟨H8B, HE6⟩
  iapply Hk
  isplitr [HO]
  · isplitl [HT0]; · iexact HT0
    isplitl [HT1]; · iexact HT1
    isplitl [HP]; · iexact HP
    isplitl [HZ]
    · iexists _; isplitr; swap; · iexact HZ
      ipureintro; exact filled_zz x _
    isplitl [HU]; · iexact HU
    isplitl [HL H7A H7B H8A H8B H9A H9B]
    · iapply (landed_join c 9 (yy (zz x)))
      isplitr [H9A H9B]
      · iapply (landed_join c 8 (yy (zz x)))
        isplitr [H8A H8B]
        · iapply (landed_join c 7 (yy (zz x)))
          isplitl [HL]; · iexact HL
          isplitl [H7A]; · iexact H7A
          iexact H7B
        isplitl [H8A]; · iexact H8A
        iexact H8B
      isplitl [H9A]; · iexact H9A
      iexact H9B
    unfold slot
    isplitl [HE5 HE6]
    · isplitl [HE5]; · iexact HE5
      iexact HE6
    isplitl [HD7]; · iexact HD7
    iexact HD8
  iexact HO

set_option maxHeartbeats 1600000 in
theorem step_fill (t : Fin 20) (h : t.val < 10) (f3 : arg3.view.ty.Contents (Elt F)) (f4 : arg4.view.ty.Contents (Elt F))
    (h3 : View.readAt (Elt F) arg3.view (Rect.unit (s := S512x2048) ![0, 0] S512x2048.size inb_S512x2048_S512x2048_0_0).toLoadRect f3 = rb x (bI (pr t)))
    (h4 : View.readAt (Elt F) arg4.view (Rect.unit (s := S512x2048) ![0, 0] S512x2048.size inb_S512x2048_S512x2048_0_0).toLoadRect f4 = rb x (bJ (pr t))) (K : PUnit → sProp 𝕄) :
    iprop(Phi c q x v0 t.val ∗ (arg3.view.loc (c : Thread nD τ) ↦[arg3.view.set]{fullShare} f3) ∗ (arg4.view.loc (c : Thread nD τ) ↦[arg4.view.set]{fullShare} f4)
      ∗ (iprop(Phi c q x v0 (t.val + 1) ∗ (arg3.view.loc (c : Thread nD τ) ↦[arg3.view.set]{fullShare} f3) ∗ (arg4.view.loc (c : Thread nD τ) ↦[arg4.view.set]{fullShare} f4)) -∗ K ⟨⟩))
      ⊢ wp frame (wpE (defs₀ (F := F)) Variants.none c none) Set.univ (bodyOn arg3 harg3 arg4 harg4 t) K := by
  have hl : lnd t.val = 0 := by unfold lnd; rw [if_neg (by omega)]; omega
  have hl' : lnd (t.val + 1) = 0 := by unfold lnd; rw [if_neg (by omega)]; omega
  have hu : t.val - 10 = 0 := by omega
  have hu' : t.val + 1 - 10 = 0 := by omega
  have ht : t.val = (pr t).val := (Nat.mod_eq_of_lt h).symm
  obtain ⟨s1, s2, s3, s4⟩ := slots_first t h
  unfold Phi
  rw [s1, s2, s3, s4, hl, hl', hu, hu']
  iintro ⟨⟨HT0, HT1, HP, ⟨%f6, %hf, HZ⟩, HR⟩, H3, H4, Hk⟩
  iapply (wp_fill c (pt t) (Memref.whole main_c) (Memref.isWhole_whole _) (Memref.whole main_c_0) (Memref.isWhole_whole _) arg3 harg3 arg4 harg4 (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 ((first_iff t).mpr h) (fun h' => by have := (second_iff t).mp h'; omega) (wI (t.val % 10)) (wJ (t.val % 10)) q (pf0 0) (pf0 1) (word1 t _) (word2 t _)
    (chk2 t) (chk1 t) (in_IJ (pr t)) (in_JI (pr t)) f3 f4 f6 _ _ h3 h4 K)
  isplitl [HT0]; · iexact HT0
  isplitl [HT1]; · iexact HT1
  isplitl [H3]; · iexact H3
  isplitl [H4]; · iexact H4
  isplitl [HZ]; · iexact HZ
  iintro ⟨HT0, HT1, H3, H4, HZ⟩
  iapply Hk
  isplitr [H3 H4]
  · isplitl [HT0]; · iexact HT0
    isplitl [HT1]; · iexact HT1
    isplitl [HP]; · iexact HP
    isplitl [HZ]
    · iexists _; isplitr; swap; · iexact HZ
      ipureintro
      exact fun i hi => filled_step x scZ f6 (pr t) (fun j hj => hf j (by omega)) (in_IJ (pr t)) (in_JI (pr t)) i (by omega)
    iexact HR
  isplitl [H3]; · iexact H3
  iexact H4

end Body

end Cert.DecodeIdeal.Own

end
-- ==== Proof.Dec.Launch.lean ====
/-
  The decoder's region: ten points fill a scratch matrix with the products of pairs of row blocks, ten more multiply
  its rows and send each product's tiles to the result by transfers waited for two points later.
-/
module

public import proofs.«01_k».proof.Proof.Gen.DecodeIdeal.Launch
public import proofs.«01_k».proof.Proof.Gen.DecodeIdeal.Skeleton
public import proofs.«01_k».proof.Proof.Gen.DecodeIdeal
public import Idealize.ShloMosaic.Lib.Pipeline.FrameValue
public import Idealize.ShloMosaic.Lib.Pipeline.Value
public import Idealize.ShloMosaic.Lib.WritesUnit
public import Idealize.ShloMosaic.Lib.Pointwise.Index
public import Idealize.ShloMosaic.Lib.Ring
public import Idealize.ShloMosaic.Lib.Ring.WriteBehind
public import Idealize.ShloMosaic.Lib.Tactic
public import proofs.«01_k».proof.Proof.Dec.Inv

@[expose] public section

set_option maxRecDepth 16384

noncomputable section

namespace Cert.DecodeIdeal.Own

open Cert.DecodeIdeal Cert.DecodeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The four cells the body's own transfers complete on. -/
abbrev osem0 : Fin 4 → SemLoc sig := fun j => (![SemLoc.dma 4, SemLoc.dma 5, SemLoc.dma 6, SemLoc.dma 7] : Fin 4 → SemLoc sig) j
theorem ownSemFacts0 : Pipeline.OwnSemFacts spec0 osem0 := by decide
/-- Buffers the body only reads outside the pipeline: none; and those its transfers write: the result. -/
abbrev H0 : Finset (Ref sig .tc) := ∅
abbrev R0 : Finset (Ref sig .tc) := {main_v0}
theorem H0_sub : H0 ⊆ Pipeline.restRefsP sig pre0 spec0 := by decide
theorem R0_sub : R0 ⊆ Pipeline.restRefsP sig pre0 spec0 \ H0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0) := by
  rw [Pipeline.ownSems0_eq_of_list c osem0 [0, 1, 2, 3] (by decide) (by decide)]; rfl
theorem tabs_split (c : Dev nD) (q : Fin 2 → PosShare TreeShare) (v : pre0.Contents (Elt F)) :
    (Pipeline.prefHeld pre0 c q v : sProp 𝕄)
      = iprop((((c : Thread nD τ).loc main_c) ↦{q 0} (show Buf (Elt F) ((c : Thread nD τ).loc main_c) from v 0))
          ∗ (((c : Thread nD τ).loc main_c_0) ↦{q 1} (show Buf (Elt F) ((c : Thread nD τ).loc main_c_0) from v 1))) := by
  unfold Pipeline.prefHeld
  rw [bigSep_univ_eq_bigSepL [(0 : Fin 2), (1 : Fin 2)] (by decide) (by decide)]
  rfl

/-! ## The pipeline's data -/

section Region
variable (V : (c : Dev nD) → (b : Ref sig .tc) → Buf (Elt F) ((c : Thread nD τ).loc b))

/-- The pipeline at the tables @main writes. -/
abbrev cfgD : Cfg sig Λ₀ := cfg0 (adm0 (F := F))

def iblk (c : Dev nD) (w : Fin (cfgD (F := F)).W) (t : Fin (cfgD (F := F)).N) : (((cfgD (F := F)).win w).xblock ((cfgD (F := F)).grid.coords t)).Idx → Elt F ((cfgD (F := F)).win w).elt :=
  (((cfgD (F := F)).win w).blk t).view.read (Elt F) (V c (Pipeline.arrRef spec0 w))

def dat (c : Dev nD) : Dat τ (Elt F) Unit ℕ (Pipeline.UD sig nD τ) ℕ (cfgD (F := F)) c where
  A w := V c (Pipeline.arrRef spec0 w)
  after w t := match w with
    | ⟨0, _⟩ => iblk V c 0 t
    | ⟨1, _⟩ => iblk V c 1 t
  Φ t := Phi c fullShare.right (V c main_arg0) (V c main_v0) t.val
  q w := Pipeline.shareOf spec0 w
  owed _ := 0

theorem A_eq (c : Dev nD) (w : Fin (cfgD (F := F)).W) : (dat V c).A w = V c (Pipeline.arrRef spec0 w) := by dsimp only [dat]
theorem phi_eq (c : Dev nD) (t : Fin ((cfgD (F := F)).N + 1)) : (dat V c).Φ t = Phi c fullShare.right (V c main_arg0) (V c main_v0) t.val := by dsimp only [dat]
theorem after_0 (c : Dev nD) (t : Fin (cfgD (F := F)).N) : (dat V c).after 0 t = iblk V c 0 t := rfl
theorem after_1 (c : Dev nD) (t : Fin (cfgD (F := F)).N) : (dat V c).after 1 t = iblk V c 1 t := rfl
theorem before_0 (c : Dev nD) (t : Fin (cfgD (F := F)).N) (d) : (dat V c).before 0 t d = iblk V c 0 t :=
  (dat V c).before_in_eq_fetched 0 rfl (fun _ => rfl) (fun _ _ _ => rfl) (fun t => by rw [after_0]; rfl) t d
theorem before_1 (c : Dev nD) (t : Fin (cfgD (F := F)).N) (d) : (dat V c).before 1 t d = iblk V c 1 t :=
  (dat V c).before_in_eq_fetched 1 rfl (fun _ => rfl) (fun _ _ _ => rfl) (fun t => by rw [after_1]; rfl) t d

/-- A point of the pipeline's grid among the twenty. -/
abbrev p20 (t : Fin (cfgD (F := F)).N) : Fin 20 := Fin.cast (show (cfgD (F := F)).N = 20 from N_0) t

theorem rows_at (x : Vec F S2048x2048 .bf16) (ix : Fin 2 → ℕ) (u : Fin 4) (h : ix = ![u.val, 0]) (inb : ∀ a, (ix a + 1) * S512x2048.size a ≤ S2048x2048.size a) :
    View.ld x (Rect.block (s := S2048x2048) S512x2048.size ix inb) = rb x u := by
  subst h
  funext y
  refine congrArg x (funext (Fin.forall_fin_two.mpr ⟨Fin.ext ?_, Fin.ext ?_⟩))
  · show u.val * 512 + 1 * (y 0).val = 512 * u.val + (y 0).val
    omega
  · show 0 * 2048 + 1 * (y 1).val = (y 1).val
    omega
theorem pr_lt (t : Fin 20) (h : t.val < 10) : (⟨t.val, h⟩ : Fin 10) = pr t := Fin.ext (Nat.mod_eq_of_lt h).symm
theorem iblk_0 (c : Dev nD) (t : Fin (cfgD (F := F)).N) (h : (p20 t).val < 10) : iblk V c 0 t = rb (V c main_arg0) (bI (pr (p20 t))) :=
  rows_at (V c main_arg0) (cc0_transform_0 k0_off1_inb numel1_S1 (pf0 (F := F)) (grid0.coords t)) _
    ((congrArg (cc0_transform_0 k0_off1_inb numel1_S1 (pf0 (F := F))) (coords_pt t)).trans ((tr0 (p20 t)).trans (by rw [bI_ix (p20 t) h, pr_lt]))) (hinb0 pf0 hok 0 (grid0.coords t))
theorem iblk_1 (c : Dev nD) (t : Fin (cfgD (F := F)).N) (h : (p20 t).val < 10) : iblk V c 1 t = rb (V c main_arg0) (bJ (pr (p20 t))) :=
  rows_at (V c main_arg0) (cc0_transform_1 k0_off1_inb numel1_S1 (pf0 (F := F)) (grid0.coords t)) _
    ((congrArg (cc0_transform_1 k0_off1_inb numel1_S1 (pf0 (F := F))) (coords_pt t)).trans ((tr1 (p20 t)).trans (by rw [bJ_ix (p20 t) h, pr_lt]))) (hinb0 pf0 hok 1 (grid0.coords t))

/-! ## The body obligation -/

abbrev stg0 (t : Fin (cfgD (F := F)).N) : Memref sig .tc .vmem S512x2048 .bf16 := spec0_0.stage ((cfgD (F := F)).slots t 0)
abbrev stg1 (t : Fin (cfgD (F := F)).N) : Memref sig .tc .vmem S512x2048 .bf16 := spec0_1.stage ((cfgD (F := F)).slots t 1)
theorem whole0 (t : Fin (cfgD (F := F)).N) : (stg0 t).IsWhole := stage_whole0 0 _
theorem whole1 (t : Fin (cfgD (F := F)).N) : (stg1 t).IsWhole := stage_whole0 1 _

def bodyPre (c : Dev nD) (t : Fin (cfgD (F := F)).N) : sProp 𝕄 :=
  iprop((dat V c).Φ t.castSucc ∗ (dat V c).owesAt () t.castSucc
    ∗ (∃ d, owns (c : Thread nD τ) (stg0 t) fullShare ((dat V c).before 0 t d))
    ∗ (∃ d, owns (c : Thread nD τ) (stg1 t) fullShare ((dat V c).before 1 t d)))
def bodyPost (c : Dev nD) (t : Fin (cfgD (F := F)).N) : sProp 𝕄 :=
  iprop((dat V c).Φ t.succ ∗ (dat V c).owesAt () t.succ
    ∗ owns (c : Thread nD τ) (stg0 t) fullShare ((dat V c).after 0 t)
    ∗ owns (c : Thread nD τ) (stg1 t) fullShare ((dat V c).after 1 t))

theorem read_block (m : Memref sig .tc .vmem S512x2048 .bf16) (f : m.view.ty.Contents (Elt F)) (X : Vec F S512x2048 .bf16) (h : m.view.read (Elt F) f = X) :
    View.readAt (Elt F) m.view (Rect.unit (s := S512x2048) ![0, 0] S512x2048.size inb_S512x2048_S512x2048_0_0).toLoadRect f = X := by
  subst h
  exact View.ld_unit_zero (by decide) _ _

/-- What is owed at a point's ends is nothing. -/
theorem owes_in (c : Dev nD) (t) : (dat V c).owesAt () t ⊢ (noWaits c : sProp 𝕄) := by
  unfold Dat.owesAt Pipeline.owesWithin
  rw [show (dat V c).owed t = 0 from rfl]
  iintro ⟨%W, -, HW⟩
  iexists W; iexact HW
theorem owes_out (c : Dev nD) (t) : (noWaits c : sProp 𝕄) ⊢ (dat V c).owesAt () t := by
  unfold Dat.owesAt Pipeline.owesWithin
  rw [show (dat V c).owed t = 0 from rfl]
  iintro ⟨%W, HW⟩
  iexists W; isplitr; · ipureintro; exact fun _ _ => Or.inl trivial
  iexact HW

/-- A point past the tenth leaves the windows' buffers alone. -/
theorem step_late (arg3 : Memref sig .tc .vmem S512x2048 .bf16) (harg3 : arg3.IsWhole) (arg4 : Memref sig .tc .vmem S512x2048 .bf16) (harg4 : arg4.IsWhole)
    (c : Dev nD) (q : PosShare TreeShare) (x : Vec F S2048x2048 .bf16) (v0 : Vec F S2048x2048 .f32) (t : Fin 20) (h : 10 ≤ t.val) (K : PUnit → sProp 𝕄) :
    iprop(Phi c q x v0 t.val ∗ noWaits c ∗ (iprop(Phi c q x v0 (t.val + 1) ∗ noWaits c) -∗ K ⟨⟩))
      ⊢ wp frame (wpE (defs₀ (F := F)) Variants.none c none) Set.univ (bodyOn arg3 harg3 arg4 harg4 t) K := by
  rcases Nat.mod_two_eq_zero_or_one t.val with he | he
  · exact step_even arg3 harg3 arg4 harg4 c q x v0 t h he K
  · by_cases h19 : t.val = 19
    · obtain rfl : t = 19 := Fin.ext h19
      exact step_last arg3 harg3 arg4 harg4 c q x v0 K
    · exact step_odd arg3 harg3 arg4 harg4 c q x v0 t h he h19 K

theorem sound_body (c : Dev nD) (t : Fin (cfgD (F := F)).N) :
    bodyPre V c t ⊢ wp frame (wpE (defs₀ (F := F)) Variants.none c none) Set.univ (bodyOn (stg0 t) (whole0 t) (stg1 t) (whole1 t) (p20 t)) (fun _ => bodyPost V c t) := by
  unfold bodyPre bodyPost
  simp only [before_0, before_1]
  rw [phi_eq, phi_eq, after_0, after_1]
  rw [show (t.castSucc).val = (p20 t).val from rfl, show (t.succ).val = (p20 t).val + 1 from rfl]
  by_cases h : (p20 t).val < 10
  · rw [iblk_0 V c t h, iblk_1 V c t h]
    unfold owns
    iintro ⟨HP, HO, ⟨%d0, %f3, %h3, H3⟩, ⟨%d1, %f4, %h4, H4⟩⟩
    iapply (step_fill (stg0 t) (whole0 t) (stg1 t) (whole1 t) c fullShare.right (V c main_arg0) (V c main_v0) (p20 t) h f3 f4 (read_block _ f3 _ h3) (read_block _ f4 _ h4) _)
    isplitl [HP]; · iexact HP
    isplitl [H3]; · iexact H3
    isplitl [H4]; · iexact H4
    iintro ⟨HP, H3, H4⟩
    isplitl [HP]; · iexact HP
    isplitl [HO]; · iexact HO
    isplitl [H3]
    · iexists f3; isplitr; · ipureintro; exact h3
      iexact H3
    iexists f4; isplitr; · ipureintro; exact h4
    iexact H4
  · iintro ⟨HP, HO, ⟨%d0, H3⟩, ⟨%d1, H4⟩⟩
    iapply (step_late (stg0 t) (whole0 t) (stg1 t) (whole1 t) c fullShare.right (V c main_arg0) (V c main_v0) (p20 t) (Nat.le_of_not_lt h) _)
    isplitl [HP]; · iexact HP
    isplitl [HO]; · iapply (owes_in V c _); iexact HO
    iintro ⟨HP, HO⟩
    isplitl [HP]; · iexact HP
    isplitl [HO]; · iapply (owes_out V c _); iexact HO
    isplitl [H3]; · iexact H3
    iexact H4

theorem defs₀_row (t : Fin (cfgD (F := F)).N) :
    defs₀ (F := F) .tc (cfgD (F := F)).body ((cfgD (F := F)).bodyArgs t ((cfgD (F := F)).slots t)) = bodyOn (stg0 t) (whole0 t) (stg1 t) (whole1 t) (p20 t) := by
  unfold defs₀; rw [Defs.onTc_tc]
  show cc0__zzy_body (grid0.coords t) _ _ _ _ _ _ _ _ _ _ _ _ _ _ _ _ _ _ _ _ _ _ _ _ = _
  rw [coords_pt t]

theorem body_obligation (c : Dev nD) : BodyObligation (dat (F := F) V c) (defs₀ (F := F)) Variants.none () Set.univ := fun t => by
  rw [bigSep_W0, bigSep_W0, defs₀_row]
  exact triple_restated (sound_body V c t) rfl .rfl fun _ => .rfl

/-! ## Entry and exit -/

theorem idle_in (c : Dev nD) (sm) (m : Memref sig .tc .vmem S512x512 .f32) (h : m.view.set = Finset.univ) (n : DmaSem sig) (hn : sm.sem = n) :
    iprop((∃ f, m.view.loc (c : Thread nD τ) ↦{fullShare} f) ∗ semVal ((c : Thread nD τ), SemLoc.dma n) 0) ⊢ (idle c sm m iprop(emp) : sProp 𝕄) := by
  subst hn
  unfold idle someTile; rw [h]
  iintro ⟨H, HS⟩
  isplitr; · iempintro
  isplitl [H]; · iexact H
  iexact HS
theorem idle_out (c : Dev nD) (sm) (m : Memref sig .tc .vmem S512x512 .f32) (h : m.view.set = Finset.univ) (n : DmaSem sig) (hn : sm.sem = n) :
    (idle c sm m iprop(emp) : sProp 𝕄) ⊢ iprop((∃ f, m.view.loc (c : Thread nD τ) ↦{fullShare} f) ∗ semVal ((c : Thread nD τ), SemLoc.dma n) 0) := by
  subst hn
  unfold idle someTile; rw [h]
  iintro ⟨-, H, HS⟩
  isplitl [H]; · iexact H
  iexact HS
theorem setA_whole : tlA.view.set = Finset.univ := Memref.IsWhole.set_eq_univ (Memref.isWhole_whole cc0_scratch1)
theorem setB_whole : tlB.view.set = Finset.univ := Memref.IsWhole.set_eq_univ (Memref.isWhole_whole cc0_scratch2)
theorem setC_whole : tlC.view.set = Finset.univ := Memref.IsWhole.set_eq_univ (Memref.isWhole_whole cc0_scratch3)
theorem setD_whole : tlD.view.set = Finset.univ := Memref.IsWhole.set_eq_univ (Memref.isWhole_whole cc0_scratch4)

theorem phi_in (c : Dev nD) (hp : ∀ k, V c (pre0.ref k) = pf0 (F := F) k) :
    iprop(Pipeline.ΦDRG osem0 spec0 H0 R0 V V c ∗ Pipeline.ΦT pre0 (pf0 (F := F)) c) ⊢ Phi c fullShare.right (V c main_arg0) (V c main_v0) 0 := by
  unfold Pipeline.ΦT
  rw [Pipeline.ΦDRG_eq, ownSems00_eq, scopedRest0_eq, Pipeline.routed_singleton, tabs_split]
  unfold Phi
  rw [show evs 0 = none from by decide, show ods 0 = none from by decide, show lnd 0 = 0 from by decide]
  unfold slot
  iintro ⟨⟨⟨⟨%f0, H0⟩, H1, H2, H3, H4⟩, HP, ⟨S5, S6, S7, S8⟩, -, HV⟩, HT0, HT1⟩
  isplitl [HT0]; · iexact HT0
  isplitl [HT1]; · iexact HT1
  isplitl [HP]; · iexact HP
  isplitl [H0]
  · iexists f0; isplitr; · ipureintro; exact fun i hi => absurd hi (Nat.not_lt_zero _)
    iexact H0
  isplitl [HV]; · iapply (unsent_all c (V c main_v0)); iexact HV
  isplitr [H1 H2 H3 H4 S5 S6 S7 S8]; · iapply (landed_none c _); iempintro
  isplitl [H1 H2 S5 S6]
  · isplitl [H1 S5]
    · iapply (idle_in c cc0_scratch5 tlA setA_whole 4 rfl)
      isplitl [H1]; · iexact H1
      iexact S5
    iapply (idle_in c cc0_scratch6 tlB setB_whole 5 rfl)
    isplitl [H2]; · iexact H2
    iexact S6
  isplitl [H3 S7]
  · iapply (idle_in c cc0_scratch7 tlC setC_whole 6 rfl)
    isplitl [H3]; · iexact H3
    iexact S7
  iapply (idle_in c cc0_scratch8 tlD setD_whole 7 rfl)
  isplitl [H4]; · iexact H4
  iexact S8

/-- The buffers as the region leaves them: the result at what its tiles were sent. -/
def G (c : Dev nD) (b : Ref sig .tc) : Buf (Elt F) ((c : Thread nD τ).loc b) :=
  if h : b = main_v0 then h ▸ (yy (zz (V c main_arg0)) : Vec F S2048x2048 .f32) else V c b
theorem G_v0 (c : Dev nD) : G V c main_v0 = (yy (zz (V c main_arg0)) : Vec F S2048x2048 .f32) := by unfold G; rw [dif_pos rfl]

theorem phi_out (c : Dev nD) :
    Phi c fullShare.right (V c main_arg0) (V c main_v0) 20 ⊢ Pipeline.ΦDRG osem0 spec0 H0 R0 V (G V) c := by
  rw [Pipeline.ΦDRG_eq, ownSems00_eq, scopedRest0_eq, Pipeline.routed_singleton, G_v0, bigSep_empty]
  unfold Phi
  rw [show evs 20 = none from by decide, show ods 20 = none from by decide, show lnd 20 = 10 from by decide]
  unfold slot
  iintro ⟨-, -, HP, ⟨%f0, -, H0⟩, -, HL, ⟨I1, I2⟩, ⟨I3, I4⟩⟩
  ihave J1 := (idle_out c cc0_scratch5 tlA setA_whole 4 rfl) $$ I1
  icases J1 with ⟨H1, S5⟩
  ihave J2 := (idle_out c cc0_scratch6 tlB setB_whole 5 rfl) $$ I2
  icases J2 with ⟨H2, S6⟩
  ihave J3 := (idle_out c cc0_scratch7 tlC setC_whole 6 rfl) $$ I3
  icases J3 with ⟨H3, S7⟩
  ihave J4 := (idle_out c cc0_scratch8 tlD setD_whole 7 rfl) $$ I4
  icases J4 with ⟨H4, S8⟩
  isplitl [H0 H1 H2 H3 H4]
  · isplitl [H0]; · iexists f0; iexact H0
    isplitl [H1]; · iexact H1
    isplitl [H2]; · iexact H2
    isplitl [H3]; · iexact H3
    iexact H4
  isplitl [HP]; · iexact HP
  isplitl [S5 S6 S7 S8]
  · isplitl [S5]; · iexact S5
    isplitl [S6]; · iexact S6
    isplitl [S7]; · iexact S7
    iexact S8
  isplitr; · iempintro
  iapply (landed_all c _); iexact HL

end Region

/-! ## The run -/

variable (m : (ℓ : Loc nD τ sig) → Buf (Elt F) ℓ) (ρ : Dev nD → PrngReg)

/-- A core's buffers as the region finds them. -/
def Vm (c : Dev nD) (b : Ref sig .tc) : Buf (Elt F) ((c : Thread nD τ).loc b) := StableHlo.after (hostOps0 (F := F)) (fun b => m (c, b)) b
theorem Vm_arg0 (c : Dev nD) : Vm m c main_arg0 = m ((c : Thread nD τ).loc main_arg0) := rfl
theorem Vm_tab (c : Dev nD) : ∀ k, Vm m c (pre0.ref k) = pf0 (F := F) k := fun
  | 0 => rfl
  | 1 => rfl

set_option backward.isDefEq.respectTransparency.types false in
theorem run_main : θ_run defs (onTc (τ := τ) (main (F := F))) ⟨m, fun _ => 0, ρ⟩ (fun r =>
    Pipeline.FramePostRG (Pipeline.pin (pcfgs (F := F)) adm) (fun _ => dat (Vm m)) 0 R0 (Vm m) (G (Vm m)) r ∧ r.2.sem = fun _ => 0) :=
  Pipeline.θ_run_frameP_dmaRG_shared (Q' := _) (pcfgs (F := F)) adm (fun _ => dat (Vm m)) (0 : Fin 1) launch₀0 osem0 defs₀ Variants.none ownSemFacts0 H0 R0 H0_sub R0_sub m ρ main
    (hbody := fun c => (body_obligation (Vm m) c).loose) (hq := fun c w _ => rfl) (howed := fun _ _ => rfl) (V := Vm m)
    (hmain := Pipeline.hmainP_prefix _ _ _ _ m main hostOps0 hostOps0_sub ⟨rfl, rfl⟩ main_chain) (hA := A_eq (Vm m)) (hpf := Vm_tab m) (G := G (Vm m))
    (hin := fun c => phi_in (Vm m) c (Vm_tab m c)) (hout := phi_out (Vm m))
    (hQ' := fun _ h => h)

/-- The run's end: the argument as launched, the result at the product of the scratch matrix, every counter at zero. -/
theorem run_end : θ_run defs (onTc (τ := τ) (main (F := F))) ⟨m, fun _ => 0, ρ⟩ (fun r =>
    (∀ c : Dev nD, r.2.mem ((c.tc : Thread nD τ).loc main_v0) = (yy (zz (m ((c.tc : Thread nD τ).loc main_arg0))) : Vec F S2048x2048 .f32)
      ∧ r.2.mem ((c.tc : Thread nD τ).loc main_arg0) = m ((c.tc : Thread nD τ).loc main_arg0)) ∧ r.2.sem = fun _ => 0) :=
  (θ_run _ _ _).mono (fun r h => ⟨fun c => ⟨(h.1.2 c main_v0 (Finset.mem_singleton_self _)).trans (G_v0 (Vm m) c),
    ((h.1.1 c).1 0).trans ((dat (Vm m) c).arrAt_in 0 rfl _)⟩, h.2⟩) (run_main m ρ)

end Cert.DecodeIdeal.Own

end
-- ==== Proof.Decoder.lean ====
/-
The decoder over the extended reals: what its kernel leaves is `relu((z·zᵀ)·(z·zᵀ))`, and the reference's result is that.
-/
module

public import proofs.«01_k».proof.Proof.Dec.Launch
public import proofs.«01_k».proof.Proof.Gen.DecodeReferenceIdeal.Run
public import Idealize.ShloMosaic.Lib.Pointwise
public import Idealize.ShloMosaic.Lib.Pipeline.ValueKit

@[expose] public section

set_option maxRecDepth 16384

noncomputable section

namespace Cert.DecodeIdeal.Own

open Cert.DecodeIdeal Cert.DecodeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The sum of the products of two rows of 2048 numbers. -/
def rdot (f g : Fin 2048 → EReal) : EReal := ∑ k, f k * g k

theorem rdot_comm (f g : Fin 2048 → EReal) : rdot f g = rdot g f := Finset.sum_congr rfl fun k _ => mul_comm _ _

/-! ## The tiles -/

theorem tile2_apply (a b : Vec Ideal S512x2048 .bf16) (i : S512x512.Idx) :
    k0_pay2 (F := Ideal) a b i = rdot (fun k => a (ix2 (i 0) k)) (fun k => b (ix2 (i 1) k)) := by
  unfold rdot k0_pay2 k0_pay1
  pointwise

theorem tile3_apply (a b : Vec Ideal S512x2048 .bf16) (i : S512x512.Idx) :
    k0_pay3 (F := Ideal) a b i = rdot (fun k => a (ix2 (i 1) k)) (fun k => b (ix2 (i 0) k)) := by
  unfold rdot k0_pay3 k0_pay1
  pointwise

theorem tile4_apply (a b : Vec Ideal S512x2048 .bf16) (i : S512x512.Idx) :
    k0_pay4 (k0_pay6 (F := Ideal) a b) i = max (rdot (fun k => a (ix2 (i 0) k)) (fun k => b (ix2 (i 1) k))) 0 := by
  unfold rdot k0_pay4 k0_pay6
  pointwise

theorem tile8_apply (a b : Vec Ideal S512x2048 .bf16) (i : S512x512.Idx) :
    k0_pay8 (F := Ideal) a b i = max (rdot (fun k => a (ix2 (i 1) k)) (fun k => b (ix2 (i 0) k))) 0 := by
  unfold rdot k0_pay8 k0_pay7 k0_pay6
  pointwise

/-! ## The matrices -/

/-- The rows of blocks an element lies in, at its place in its tile: its own row, and the row of its column's number. -/
theorem rb_br (x : Vec Ideal S2048x2048 .bf16) (i : S2048x2048.Idx) (k : Fin 2048) : rb x (br i) (ix2 (tl i 0) k) = x (ix2 (i 0) k) := by
  show x _ = x _
  congr 1; funext a
  refine Fin.cases ?_ (fun a => Fin.cases ?_ (fun a => a.elim0) a) a
  · exact Fin.ext (by show 512 * ((i 0).val / 512) + (i 0).val % 512 = (i 0).val; omega)
  · rfl
theorem rb_bc (x : Vec Ideal S2048x2048 .bf16) (i : S2048x2048.Idx) (k : Fin 2048) : rb x (bc i) (ix2 (tl i 1) k) = x (ix2 (i 1) k) := by
  show x _ = x _
  congr 1; funext a
  refine Fin.cases ?_ (fun a => Fin.cases ?_ (fun a => a.elim0) a) a
  · exact Fin.ext (by show 512 * ((i 1).val / 512) + (i 1).val % 512 = (i 1).val; omega)
  · rfl

/-- The scratch matrix is the sample by its transpose … -/
theorem zz_apply (x : Vec Ideal S2048x2048 .bf16) (i : S2048x2048.Idx) :
    zz x i = rdot (fun k => x (ix2 (i 0) k)) (fun k => x (ix2 (i 1) k)) := by
  have e0 : (fun k => rb x (br i) (ix2 (tl i 0) k)) = fun k => x (ix2 (i 0) k) := funext (rb_br x i)
  have e1 : (fun k => rb x (bc i) (ix2 (tl i 1) k)) = fun k => x (ix2 (i 1) k) := funext (rb_bc x i)
  unfold zz
  split_ifs
  · rw [tile2_apply, e0, e1]
  · rw [tile3_apply, e0, e1, rdot_comm]

/-- … and the result the positive part of a matrix by its transpose, … -/
theorem yy_apply (z : Vec Ideal S2048x2048 .bf16) (i : S2048x2048.Idx) :
    yy z i = max (rdot (fun k => z (ix2 (i 0) k)) (fun k => z (ix2 (i 1) k))) 0 := by
  have e0 : (fun k => rb z (br i) (ix2 (tl i 0) k)) = fun k => z (ix2 (i 0) k) := funext (rb_br z i)
  have e1 : (fun k => rb z (bc i) (ix2 (tl i 1) k)) = fun k => z (ix2 (i 1) k) := funext (rb_bc z i)
  unfold yy
  split_ifs
  · rw [tile4_apply, e0, e1]
  · rw [tile8_apply, e0, e1, rdot_comm]

/-- … where the scratch matrix is its own transpose. -/
theorem zz_symm (x : Vec Ideal S2048x2048 .bf16) (a b : Fin 2048) : zz x (ix2 a b) = zz x (ix2 b a) := by
  rw [zz_apply, zz_apply]; exact rdot_comm _ _

/-! ## The reference -/

section Reference
variable [Cert.DecodeReferenceIdeal.Facts]

theorem ref_outer (x : Vec Ideal S2048x2048 .bf16) :
    Host.dotGeneral (F := Ideal) (φ₁ := .f32) (φ₂ := .f32) Cert.DecodeReferenceIdeal.dot_S2048x2048_S2048x2048_S2048x2048_1_0_0_1_n_n none
      (extf .f32 x Cert.DecodeReferenceIdeal.Facts₀.bitsLt_bf16_f32)
      (transpose S2048x2048 [1, 0] (extf .f32 x Cert.DecodeReferenceIdeal.Facts₀.bitsLt_bf16_f32) Cert.DecodeReferenceIdeal.Facts₀.transposes_S2048x2048_S2048x2048_1_0)
      = fun i => rdot (fun k => x (ix2 (i 0) k)) (fun k => x (ix2 (i 1) k)) := by
  funext i; unfold rdot; pointwise

theorem ref_relu (D : Vec Ideal S2048x2048 .f32) :
    maximumf (Host.dotGeneral (F := Ideal) (φ₁ := .f32) (φ₂ := .f32) Cert.DecodeReferenceIdeal.dot_S2048x2048_S2048x2048_S2048x2048_1_0_0_1_n_n none D D)
      (broadcastInDim S2048x2048 ![] Cert.DecodeReferenceIdeal.Facts₀.bcast_S_S2048x2048 (constant Cert.DecodeReferenceIdeal.S_ .f32 0x00000000#32))
      = fun i => max (rdot (fun k => D (ix2 (i 0) k)) (fun k => D (ix2 k (i 1)))) 0 := by
  funext i; unfold rdot; pointwise

/-- The reference's result is what the kernel leaves. -/
theorem ref_decode (x : Vec Ideal S2048x2048 .bf16) :
    maximumf (Host.dotGeneral (F := Ideal) (φ₁ := .f32) (φ₂ := .f32) Cert.DecodeReferenceIdeal.dot_S2048x2048_S2048x2048_S2048x2048_1_0_0_1_n_n none
        (Host.dotGeneral (F := Ideal) (φ₁ := .f32) (φ₂ := .f32) Cert.DecodeReferenceIdeal.dot_S2048x2048_S2048x2048_S2048x2048_1_0_0_1_n_n none
          (extf .f32 x Cert.DecodeReferenceIdeal.Facts₀.bitsLt_bf16_f32)
          (transpose S2048x2048 [1, 0] (extf .f32 x Cert.DecodeReferenceIdeal.Facts₀.bitsLt_bf16_f32) Cert.DecodeReferenceIdeal.Facts₀.transposes_S2048x2048_S2048x2048_1_0))
        (Host.dotGeneral (F := Ideal) (φ₁ := .f32) (φ₂ := .f32) Cert.DecodeReferenceIdeal.dot_S2048x2048_S2048x2048_S2048x2048_1_0_0_1_n_n none
          (extf .f32 x Cert.DecodeReferenceIdeal.Facts₀.bitsLt_bf16_f32)
          (transpose S2048x2048 [1, 0] (extf .f32 x Cert.DecodeReferenceIdeal.Facts₀.bitsLt_bf16_f32) Cert.DecodeReferenceIdeal.Facts₀.transposes_S2048x2048_S2048x2048_1_0)))
      (broadcastInDim S2048x2048 ![] Cert.DecodeReferenceIdeal.Facts₀.bcast_S_S2048x2048 (constant Cert.DecodeReferenceIdeal.S_ .f32 0x00000000#32))
      = yy (zz x) := by
  rw [ref_outer, ref_relu]
  funext i
  rw [yy_apply]
  refine congrArg (max · 0) (Finset.sum_congr rfl fun k _ => ?_)
  exact congrArg₂ (· * ·) (zz_apply x (ix2 (i 0) k)).symm ((zz_apply x (ix2 k (i 1))).symm.trans (zz_symm x k (i 1)))

end Reference

end Cert.DecodeIdeal.Own

end
-- ==== Proof.lean ====
/-
  The certificate: the programs run and leave their arguments and every counter as they found them, and at the
  extended reals the kernel's `mu` and `logvar` are the reference's, and the decoder's result is its reference's.
-/
module

public import proofs.«01_k».proof.Defs
public import proofs.«01_k».proof.Proof.Gen.ReferenceIdeal.Run
public import proofs.«01_k».proof.Proof.Bits.Run
public import proofs.«01_k».proof.Proof.Values
public import proofs.«01_k».proof.Proof.Decoder
public import proofs.«01_k».proof.Proof.Bits.Dec.Launch
public import Idealize.ShloMosaic.Lib.Quiescent
public import Idealize.ShloMosaic.Lib.Claim

@[expose] public section

noncomputable section

namespace Cert.Proof

open Idealize.ShloMosaic Idealize.SL.Sem

/-- The kernel at the machine's words runs and leaves its arguments. -/
theorem frame_kernel : Cert.quiescent_Kernel := fun m g _ =>
  (θ_run _ _ _).mono (fun _ h => ⟨fun c => Cert.Kernel.Own.args_end m (h.1 c), h.2⟩) (Cert.Kernel.Own.run_main m g)

/-- … and so it does at the extended reals. -/
theorem frame_ideal : Cert.quiescent_KernelIdeal := fun m g _ =>
  (θ_run _ _ _).mono (fun _ h => ⟨fun c => Cert.KernelIdeal.Own.args_end m (h.1 c), h.2⟩) (Cert.KernelIdeal.Own.run_main m g)

/-- The reference has no semaphore, and leaves its arguments. -/
theorem frame_reference : Cert.quiescent_ReferenceIdeal := fun m g _ =>
  (θ_run _ _ _).mono (fun r h => ⟨fun c => (h c).2.2, Idealize.ShloMosaic.sem_eq_zero_of_no_sems (by decide) r.2⟩)
    (Cert.ReferenceIdeal.Value.run m g)

/-- The kernel's results are the reference's. -/
theorem values : Cert.algebraic_KernelIdeal_ReferenceIdeal := fun m g m' g' _ hargs => by
  refine ⟨fun c => Cert.KernelIdeal.Own.branch (Cert.KernelIdeal.Own.at0 m c Cert.KernelIdeal.main_arg0) (Cert.KernelIdeal.Own.at0 m c Cert.KernelIdeal.main_arg1)
      (Cert.KernelIdeal.Own.at0 m c Cert.KernelIdeal.main_arg6) (Cert.KernelIdeal.Own.at0 m c Cert.KernelIdeal.main_arg7)
      (Cert.KernelIdeal.Own.at0 m c Cert.KernelIdeal.main_arg2) (Cert.KernelIdeal.Own.at0 m c Cert.KernelIdeal.main_arg3),
    fun c => Cert.KernelIdeal.Own.branch (Cert.KernelIdeal.Own.at0 m c Cert.KernelIdeal.main_arg0) (Cert.KernelIdeal.Own.at0 m c Cert.KernelIdeal.main_arg1)
      (Cert.KernelIdeal.Own.at0 m c Cert.KernelIdeal.main_arg6) (Cert.KernelIdeal.Own.at0 m c Cert.KernelIdeal.main_arg7)
      (Cert.KernelIdeal.Own.at0 m c Cert.KernelIdeal.main_arg4) (Cert.KernelIdeal.Own.at0 m c Cert.KernelIdeal.main_arg5), ?_, ?_⟩
  · refine (θ_run _ _ _).mono (fun r h c => ?_) (Cert.KernelIdeal.Own.run_main m g)
    exact ⟨(Cert.KernelIdeal.Own.read_end m (h.1 c) Cert.KernelIdeal.main_v14_0 rfl).trans (Cert.KernelIdeal.Own.mu_eq m c),
      (Cert.KernelIdeal.Own.read_end m (h.1 c) Cert.KernelIdeal.main_v14_1 rfl).trans (Cert.KernelIdeal.Own.logvar_eq m c),
      Cert.KernelIdeal.Own.args_end m (h.1 c)⟩
  · refine (θ_run _ _ _).mono (fun r h c => ?_) (Cert.ReferenceIdeal.Value.run m' g')
    obtain ⟨h0, h1, h2, h3, h4, h5, h6, h7⟩ := hargs c
    obtain ⟨hmu, hlv, hrest⟩ := h c
    refine ⟨hmu.trans ?_, hlv.trans ?_, hrest⟩
    · rw [h0, h1, h6, h7, h2, h3]
      exact Cert.KernelIdeal.Own.ref_branch _ _ _ _ _ _
    · rw [h0, h1, h6, h7, h4, h5]
      exact Cert.KernelIdeal.Own.ref_branch _ _ _ _ _ _

/-- The decoder at the machine's words runs and leaves the sample. -/
theorem frame_decode : Cert.quiescent_Decode := fun m g _ =>
  (θ_run _ _ _).mono (fun _ h => ⟨fun c => (h.1 c).2, h.2⟩) (Cert.Decode.Own.run_end m g)

/-- … and so it does at the extended reals. -/
theorem frame_decode_ideal : Cert.quiescent_DecodeIdeal := fun m g _ =>
  (θ_run _ _ _).mono (fun _ h => ⟨fun c => (h.1 c).2, h.2⟩) (Cert.DecodeIdeal.Own.run_end m g)

/-- The decoder's reference has no semaphore, and leaves the sample. -/
theorem frame_decode_reference : Cert.quiescent_DecodeReferenceIdeal := fun m g _ =>
  (θ_run _ _ _).mono (fun r h => ⟨fun c => (h c).2, Idealize.ShloMosaic.sem_eq_zero_of_no_sems (by decide) r.2⟩)
    (Cert.DecodeReferenceIdeal.Value.run m g)

/-- The decoder's result is its reference's. -/
theorem decode_values : Cert.algebraic_DecodeIdeal_DecodeReferenceIdeal := fun m g m' g' _ hargs => by
  refine ⟨fun c => Cert.DecodeIdeal.Own.yy (Cert.DecodeIdeal.Own.zz (m ((c.tc : Thread Cert.DecodeIdeal.nD Cert.DecodeIdeal.τ).loc Cert.DecodeIdeal.main_arg0))), ?_, ?_⟩
  · exact (θ_run _ _ _).mono (fun r h => h.1) (Cert.DecodeIdeal.Own.run_end m g)
  · refine (θ_run _ _ _).mono (fun r h c => ?_) (Cert.DecodeReferenceIdeal.Value.run m' g')
    refine ⟨(h c).1.trans ?_, (h c).2⟩
    rw [hargs c]
    exact Cert.DecodeIdeal.Own.ref_decode _

theorem claim : Cert.Claim :=
  ⟨Cert.Kernel.Gen.facts, Cert.KernelIdeal.Gen.facts, Cert.ReferenceIdeal.Gen.facts,
    Cert.Decode.Gen.facts, Cert.DecodeIdeal.Gen.facts, Cert.DecodeReferenceIdeal.Gen.facts,
    frame_kernel, frame_ideal, frame_reference, frame_decode, frame_decode_ideal, frame_decode_reference,
    trivial, values, trivial, decode_values⟩

end Cert.Proof

end
